-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_Comp (m : (ℓ : Loc Cert.Comp.nD Cert.Comp.τ Cert.Comp.sig) → Buf (Elt Bits) ℓ) : Prop :=
  True

def Pre_CompIdeal (m : (ℓ : Loc Cert.CompIdeal.nD Cert.CompIdeal.τ Cert.CompIdeal.sig) → Buf (Elt Ideal) ℓ) : Prop :=
  True

def Pre_CompRefIdeal (m : (ℓ : Loc Cert.CompRefIdeal.nD Cert.CompRefIdeal.τ Cert.CompRefIdeal.sig) → Buf (Elt Ideal) ℓ) : Prop :=
  True

def Pre_GateHid (m : (ℓ : Loc Cert.GateHid.nD Cert.GateHid.τ Cert.GateHid.sig) → Buf (Elt Bits) ℓ) : Prop :=
  True

def Pre_GateHidIdeal (m : (ℓ : Loc Cert.GateHidIdeal.nD Cert.GateHidIdeal.τ Cert.GateHidIdeal.sig) → Buf (Elt Ideal) ℓ) : Prop :=
  True

def Pre_GateHidRefIdeal (m : (ℓ : Loc Cert.GateHidRefIdeal.nD Cert.GateHidRefIdeal.τ Cert.GateHidRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_LayerAtIdeal (m : (ℓ : Loc Cert.LayerAtIdeal.nD Cert.LayerAtIdeal.τ Cert.LayerAtIdeal.sig) → Buf (Elt Ideal) ℓ) : Prop :=
  True

def Pre_LayerRefAtIdeal (m : (ℓ : Loc Cert.LayerRefAtIdeal.nD Cert.LayerRefAtIdeal.τ Cert.LayerRefAtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2)
      ∧ r.2.mem ((c.tc : Thread Cert.HiddenRefIdeal.nD Cert.HiddenRefIdeal.τ).loc Cert.HiddenRefIdeal.main_arg3) = m ((c.tc : Thread Cert.HiddenRefIdeal.nD Cert.HiddenRefIdeal.τ).loc Cert.HiddenRefIdeal.main_arg3))
      ∧ r.2.sem = fun _ => 0)

def quiescent_Comp [hComp : Cert.Comp.Facts] : Prop :=
  ∀ (m : (ℓ : Loc Cert.Comp.nD Cert.Comp.τ Cert.Comp.sig) → Buf (Elt Bits) ℓ) (g : Dev Cert.Comp.nD → PrngReg), Pre_Comp m →
    θ_run (Cert.Comp.defs (F := Bits)) (onTc (τ := Cert.Comp.τ) (Cert.Comp.main (F := Bits))) ⟨m, fun _ => 0, g⟩ (fun r => (∀ c : Dev Cert.Comp.nD,
      r.2.mem ((c.tc : Thread Cert.Comp.nD Cert.Comp.τ).loc Cert.Comp.main_arg0) = m ((c.tc : Thread Cert.Comp.nD Cert.Comp.τ).loc Cert.Comp.main_arg0)
      ∧ r.2.mem ((c.tc : Thread Cert.Comp.nD Cert.Comp.τ).loc Cert.Comp.main_arg1) = m ((c.tc : Thread Cert.Comp.nD Cert.Comp.τ).loc Cert.Comp.main_arg1)
      ∧ r.2.mem ((c.tc : Thread Cert.Comp.nD Cert.Comp.τ).loc Cert.Comp.main_arg2) = m ((c.tc : Thread Cert.Comp.nD Cert.Comp.τ).loc Cert.Comp.main_arg2))
      ∧ r.2.sem = fun _ => 0)

def quiescent_CompIdeal [hCompIdeal : Cert.CompIdeal.Facts] : Prop :=
  ∀ (m : (ℓ : Loc Cert.CompIdeal.nD Cert.CompIdeal.τ Cert.CompIdeal.sig) → Buf (Elt Ideal) ℓ) (g : Dev Cert.CompIdeal.nD → PrngReg), Pre_CompIdeal m →
    θ_run (Cert.CompIdeal.defs (F := Ideal)) (onTc (τ := Cert.CompIdeal.τ) (Cert.CompIdeal.main (F := Ideal))) ⟨m, fun _ => 0, g⟩ (fun r => (∀ c : Dev Cert.CompIdeal.nD,
      r.2.mem ((c.tc : Thread Cert.CompIdeal.nD Cert.CompIdeal.τ).loc Cert.CompIdeal.main_arg0) = m ((c.tc : Thread Cert.CompIdeal.nD Cert.CompIdeal.τ).loc Cert.CompIdeal.main_arg0)
      ∧ r.2.mem ((c.tc : Thread Cert.CompIdeal.nD Cert.CompIdeal.τ).loc Cert.CompIdeal.main_arg1) = m ((c.tc : Thread Cert.CompIdeal.nD Cert.CompIdeal.τ).loc Cert.CompIdeal.main_arg1)
      ∧ r.2.mem ((c.tc : Thread Cert.CompIdeal.nD Cert.CompIdeal.τ).loc Cert.CompIdeal.main_arg2) = m ((c.tc : Thread Cert.CompIdeal.nD Cert.CompIdeal.τ).loc Cert.CompIdeal.main_arg2))
      ∧ r.2.sem = fun _ => 0)

def quiescent_CompRefIdeal [hCompRefIdeal : Cert.CompRefIdeal.Facts] : Prop :=
  ∀ (m : (ℓ : Loc Cert.CompRefIdeal.nD Cert.CompRefIdeal.τ Cert.CompRefIdeal.sig) → Buf (Elt Ideal) ℓ) (g : Dev Cert.CompRefIdeal.nD → PrngReg), Pre_CompRefIdeal m →
    θ_run (Cert.CompRefIdeal.defs (F := Ideal)) (onTc (τ := Cert.CompRefIdeal.τ) (Cert.CompRefIdeal.main (F := Ideal))) ⟨m, fun _ => 0, g⟩ (fun r => (∀ c : Dev Cert.CompRefIdeal.nD,
      r.2.mem ((c.tc : Thread Cert.CompRefIdeal.nD Cert.CompRefIdeal.τ).loc Cert.CompRefIdeal.main_arg0) = m ((c.tc : Thread Cert.CompRefIdeal.nD Cert.CompRefIdeal.τ).loc Cert.CompRefIdeal.main_arg0)
      ∧ r.2.mem ((c.tc : Thread Cert.CompRefIdeal.nD Cert.CompRefIdeal.τ).loc Cert.CompRefIdeal.main_arg1) = m ((c.tc : Thread Cert.CompRefIdeal.nD Cert.CompRefIdeal.τ).loc Cert.CompRefIdeal.main_arg1)
      ∧ r.2.mem ((c.tc : Thread Cert.CompRefIdeal.nD Cert.CompRefIdeal.τ).loc Cert.CompRefIdeal.main_arg2) = m ((c.tc : Thread Cert.CompRefIdeal.nD Cert.CompRefIdeal.τ).loc Cert.CompRefIdeal.main_arg2))
      ∧ r.2.sem = fun _ => 0)

def quiescent_GateHid [hGateHid : Cert.GateHid.Facts] : Prop :=
  ∀ (m : (ℓ : Loc Cert.GateHid.nD Cert.GateHid.τ Cert.GateHid.sig) → Buf (Elt Bits) ℓ) (g : Dev Cert.GateHid.nD → PrngReg), Pre_GateHid m →
    θ_run (Cert.GateHid.defs (F := Bits)) (onTc (τ := Cert.GateHid.τ) (Cert.GateHid.main (F := Bits))) ⟨m, fun _ => 0, g⟩ (fun r => (∀ c : Dev Cert.GateHid.nD,
      r.2.mem ((c.tc : Thread Cert.GateHid.nD Cert.GateHid.τ).loc Cert.GateHid.main_arg0) = m ((c.tc : Thread Cert.GateHid.nD Cert.GateHid.τ).loc Cert.GateHid.main_arg0)
      ∧ r.2.mem ((c.tc : Thread Cert.GateHid.nD Cert.GateHid.τ).loc Cert.GateHid.main_arg1) = m ((c.tc : Thread Cert.GateHid.nD Cert.GateHid.τ).loc Cert.GateHid.main_arg1)
      ∧ r.2.mem ((c.tc : Thread Cert.GateHid.nD Cert.GateHid.τ).loc Cert.GateHid.main_arg2) = m ((c.tc : Thread Cert.GateHid.nD Cert.GateHid.τ).loc Cert.GateHid.main_arg2))
      ∧ r.2.sem = fun _ => 0)

def quiescent_GateHidIdeal [hGateHidIdeal : Cert.GateHidIdeal.Facts] : Prop :=
  ∀ (m : (ℓ : Loc Cert.GateHidIdeal.nD Cert.GateHidIdeal.τ Cert.GateHidIdeal.sig) → Buf (Elt Ideal) ℓ) (g : Dev Cert.GateHidIdeal.nD → PrngReg), Pre_GateHidIdeal m →
    θ_run (Cert.GateHidIdeal.defs (F := Ideal)) (onTc (τ := Cert.GateHidIdeal.τ) (Cert.GateHidIdeal.main (F := Ideal))) ⟨m, fun _ => 0, g⟩ (fun r => (∀ c : Dev Cert.GateHidIdeal.nD,
      r.2.mem ((c.tc : Thread Cert.GateHidIdeal.nD Cert.GateHidIdeal.τ).loc Cert.GateHidIdeal.main_arg0) = m ((c.tc : Thread Cert.GateHidIdeal.nD Cert.GateHidIdeal.τ).loc Cert.GateHidIdeal.main_arg0)
      ∧ r.2.mem ((c.tc : Thread Cert.GateHidIdeal.nD Cert.GateHidIdeal.τ).loc Cert.GateHidIdeal.main_arg1) = m ((c.tc : Thread Cert.GateHidIdeal.nD Cert.GateHidIdeal.τ).loc Cert.GateHidIdeal.main_arg1)
      ∧ r.2.mem ((c.tc : Thread Cert.GateHidIdeal.nD Cert.GateHidIdeal.τ).loc Cert.GateHidIdeal.main_arg2) = m ((c.tc : Thread Cert.GateHidIdeal.nD Cert.GateHidIdeal.τ).loc Cert.GateHidIdeal.main_arg2))
      ∧ r.2.sem = fun _ => 0)

def quiescent_GateHidRefIdeal [hGateHidRefIdeal : Cert.GateHidRefIdeal.Facts] : Prop :=
  ∀ (m : (ℓ : Loc Cert.GateHidRefIdeal.nD Cert.GateHidRefIdeal.τ Cert.GateHidRefIdeal.sig) → Buf (Elt Ideal) ℓ) (g : Dev Cert.GateHidRefIdeal.nD → PrngReg), Pre_GateHidRefIdeal m →
    θ_run (Cert.GateHidRefIdeal.defs (F := Ideal)) (onTc (τ := Cert.GateHidRefIdeal.τ) (Cert.GateHidRefIdeal.main (F := Ideal))) ⟨m, fun _ => 0, g⟩ (fun r => (∀ c : Dev Cert.GateHidRefIdeal.nD,
      r.2.mem ((c.tc : Thread Cert.GateHidRefIdeal.nD Cert.GateHidRefIdeal.τ).loc Cert.GateHidRefIdeal.main_arg0) = m ((c.tc : Thread Cert.GateHidRefIdeal.nD Cert.GateHidRefIdeal.τ).loc Cert.GateHidRefIdeal.main_arg0)
      ∧ r.2.mem ((c.tc : Thread Cert.GateHidRefIdeal.nD Cert.GateHidRefIdeal.τ).loc Cert.GateHidRefIdeal.main_arg1) = m ((c.tc : Thread Cert.GateHidRefIdeal.nD Cert.GateHidRefIdeal.τ).loc Cert.GateHidRefIdeal.main_arg1)
      ∧ r.2.mem ((c.tc : Thread Cert.GateHidRefIdeal.nD Cert.GateHidRefIdeal.τ).loc Cert.GateHidRefIdeal.main_arg2) = m ((c.tc : Thread Cert.GateHidRefIdeal.nD Cert.GateHidRefIdeal.τ).loc Cert.GateHidRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)
      ∧ m' ((c.tc : Thread Cert.HiddenRefIdeal.nD Cert.HiddenRefIdeal.τ).loc Cert.HiddenRefIdeal.main_arg3) = m ((c.tc : Thread Cert.HiddenIdeal.nD Cert.HiddenIdeal.τ).loc Cert.HiddenIdeal.main_arg3)) →
    ∃ (v0 : (c : Dev Cert.HiddenIdeal.nD) → Buf (Elt Ideal) ((c.tc : Thread Cert.HiddenIdeal.nD Cert.HiddenIdeal.τ).loc Cert.HiddenIdeal.main_v2)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v2) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v14) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2)
          ∧ r.2.mem ((c.tc : Thread Cert.HiddenRefIdeal.nD Cert.HiddenRefIdeal.τ).loc Cert.HiddenRefIdeal.main_arg3) = m' ((c.tc : Thread Cert.HiddenRefIdeal.nD Cert.HiddenRefIdeal.τ).loc Cert.HiddenRefIdeal.main_arg3))

def preserves_Comp_CompIdeal : Prop :=
  True

def algebraic_CompIdeal_CompRefIdeal [hCompIdeal : Cert.CompIdeal.Facts] [hCompRefIdeal : Cert.CompRefIdeal.Facts] : Prop :=
  ∀ (m : (ℓ : Loc Cert.CompIdeal.nD Cert.CompIdeal.τ Cert.CompIdeal.sig) → Buf (Elt Ideal) ℓ) (g : Dev Cert.CompIdeal.nD → PrngReg)
    (m' : (ℓ : Loc Cert.CompRefIdeal.nD Cert.CompRefIdeal.τ Cert.CompRefIdeal.sig) → Buf (Elt Ideal) ℓ) (g' : Dev Cert.CompRefIdeal.nD → PrngReg), Pre_CompIdeal m →
    (∀ c : Dev Cert.CompIdeal.nD,
      m' ((c.tc : Thread Cert.CompRefIdeal.nD Cert.CompRefIdeal.τ).loc Cert.CompRefIdeal.main_arg0) = m ((c.tc : Thread Cert.CompIdeal.nD Cert.CompIdeal.τ).loc Cert.CompIdeal.main_arg0)
      ∧ m' ((c.tc : Thread Cert.CompRefIdeal.nD Cert.CompRefIdeal.τ).loc Cert.CompRefIdeal.main_arg1) = m ((c.tc : Thread Cert.CompIdeal.nD Cert.CompIdeal.τ).loc Cert.CompIdeal.main_arg1)
      ∧ m' ((c.tc : Thread Cert.CompRefIdeal.nD Cert.CompRefIdeal.τ).loc Cert.CompRefIdeal.main_arg2) = m ((c.tc : Thread Cert.CompIdeal.nD Cert.CompIdeal.τ).loc Cert.CompIdeal.main_arg2)) →
    ∃ (v0 : (c : Dev Cert.CompIdeal.nD) → Buf (Elt Ideal) ((c.tc : Thread Cert.CompIdeal.nD Cert.CompIdeal.τ).loc Cert.CompIdeal.main_v1)),
      θ_run (Cert.CompIdeal.defs (F := Ideal)) (onTc (τ := Cert.CompIdeal.τ) (Cert.CompIdeal.main (F := Ideal))) ⟨m, fun _ => 0, g⟩ (fun r => ∀ c : Dev Cert.CompIdeal.nD,
          r.2.mem ((c.tc : Thread Cert.CompIdeal.nD Cert.CompIdeal.τ).loc Cert.CompIdeal.main_v1) = v0 c
          ∧ r.2.mem ((c.tc : Thread Cert.CompIdeal.nD Cert.CompIdeal.τ).loc Cert.CompIdeal.main_arg0) = m ((c.tc : Thread Cert.CompIdeal.nD Cert.CompIdeal.τ).loc Cert.CompIdeal.main_arg0)
          ∧ r.2.mem ((c.tc : Thread Cert.CompIdeal.nD Cert.CompIdeal.τ).loc Cert.CompIdeal.main_arg1) = m ((c.tc : Thread Cert.CompIdeal.nD Cert.CompIdeal.τ).loc Cert.CompIdeal.main_arg1)
          ∧ r.2.mem ((c.tc : Thread Cert.CompIdeal.nD Cert.CompIdeal.τ).loc Cert.CompIdeal.main_arg2) = m ((c.tc : Thread Cert.CompIdeal.nD Cert.CompIdeal.τ).loc Cert.CompIdeal.main_arg2))
      ∧ θ_run (Cert.CompRefIdeal.defs (F := Ideal)) (onTc (τ := Cert.CompRefIdeal.τ) (Cert.CompRefIdeal.main (F := Ideal))) ⟨m', fun _ => 0, g'⟩ (fun r => ∀ c : Dev Cert.CompRefIdeal.nD,
          r.2.mem ((c.tc : Thread Cert.CompRefIdeal.nD Cert.CompRefIdeal.τ).loc Cert.CompRefIdeal.main_v3) = v0 c
          ∧ r.2.mem ((c.tc : Thread Cert.CompRefIdeal.nD Cert.CompRefIdeal.τ).loc Cert.CompRefIdeal.main_arg0) = m' ((c.tc : Thread Cert.CompRefIdeal.nD Cert.CompRefIdeal.τ).loc Cert.CompRefIdeal.main_arg0)
          ∧ r.2.mem ((c.tc : Thread Cert.CompRefIdeal.nD Cert.CompRefIdeal.τ).loc Cert.CompRefIdeal.main_arg1) = m' ((c.tc : Thread Cert.CompRefIdeal.nD Cert.CompRefIdeal.τ).loc Cert.CompRefIdeal.main_arg1)
          ∧ r.2.mem ((c.tc : Thread Cert.CompRefIdeal.nD Cert.CompRefIdeal.τ).loc Cert.CompRefIdeal.main_arg2) = m' ((c.tc : Thread Cert.CompRefIdeal.nD Cert.CompRefIdeal.τ).loc Cert.CompRefIdeal.main_arg2))

def preserves_GateHid_GateHidIdeal : Prop :=
  True

def algebraic_GateHidIdeal_GateHidRefIdeal [hGateHidIdeal : Cert.GateHidIdeal.Facts] [hGateHidRefIdeal : Cert.GateHidRefIdeal.Facts] : Prop :=
  ∀ (m : (ℓ : Loc Cert.GateHidIdeal.nD Cert.GateHidIdeal.τ Cert.GateHidIdeal.sig) → Buf (Elt Ideal) ℓ) (g : Dev Cert.GateHidIdeal.nD → PrngReg)
    (m' : (ℓ : Loc Cert.GateHidRefIdeal.nD Cert.GateHidRefIdeal.τ Cert.GateHidRefIdeal.sig) → Buf (Elt Ideal) ℓ) (g' : Dev Cert.GateHidRefIdeal.nD → PrngReg), Pre_GateHidIdeal m →
    (∀ c : Dev Cert.GateHidIdeal.nD,
      m' ((c.tc : Thread Cert.GateHidRefIdeal.nD Cert.GateHidRefIdeal.τ).loc Cert.GateHidRefIdeal.main_arg0) = m ((c.tc : Thread Cert.GateHidIdeal.nD Cert.GateHidIdeal.τ).loc Cert.GateHidIdeal.main_arg0)
      ∧ m' ((c.tc : Thread Cert.GateHidRefIdeal.nD Cert.GateHidRefIdeal.τ).loc Cert.GateHidRefIdeal.main_arg1) = m ((c.tc : Thread Cert.GateHidIdeal.nD Cert.GateHidIdeal.τ).loc Cert.GateHidIdeal.main_arg1)
      ∧ m' ((c.tc : Thread Cert.GateHidRefIdeal.nD Cert.GateHidRefIdeal.τ).loc Cert.GateHidRefIdeal.main_arg2) = m ((c.tc : Thread Cert.GateHidIdeal.nD Cert.GateHidIdeal.τ).loc Cert.GateHidIdeal.main_arg2)) →
    ∃ (v0 : (c : Dev Cert.GateHidIdeal.nD) → Buf (Elt Ideal) ((c.tc : Thread Cert.GateHidIdeal.nD Cert.GateHidIdeal.τ).loc Cert.GateHidIdeal.main_v1)),
      θ_run (Cert.GateHidIdeal.defs (F := Ideal)) (onTc (τ := Cert.GateHidIdeal.τ) (Cert.GateHidIdeal.main (F := Ideal))) ⟨m, fun _ => 0, g⟩ (fun r => ∀ c : Dev Cert.GateHidIdeal.nD,
          r.2.mem ((c.tc : Thread Cert.GateHidIdeal.nD Cert.GateHidIdeal.τ).loc Cert.GateHidIdeal.main_v1) = v0 c
          ∧ r.2.mem ((c.tc : Thread Cert.GateHidIdeal.nD Cert.GateHidIdeal.τ).loc Cert.GateHidIdeal.main_arg0) = m ((c.tc : Thread Cert.GateHidIdeal.nD Cert.GateHidIdeal.τ).loc Cert.GateHidIdeal.main_arg0)
          ∧ r.2.mem ((c.tc : Thread Cert.GateHidIdeal.nD Cert.GateHidIdeal.τ).loc Cert.GateHidIdeal.main_arg1) = m ((c.tc : Thread Cert.GateHidIdeal.nD Cert.GateHidIdeal.τ).loc Cert.GateHidIdeal.main_arg1)
          ∧ r.2.mem ((c.tc : Thread Cert.GateHidIdeal.nD Cert.GateHidIdeal.τ).loc Cert.GateHidIdeal.main_arg2) = m ((c.tc : Thread Cert.GateHidIdeal.nD Cert.GateHidIdeal.τ).loc Cert.GateHidIdeal.main_arg2))
      ∧ θ_run (Cert.GateHidRefIdeal.defs (F := Ideal)) (onTc (τ := Cert.GateHidRefIdeal.τ) (Cert.GateHidRefIdeal.main (F := Ideal))) ⟨m', fun _ => 0, g'⟩ (fun r => ∀ c : Dev Cert.GateHidRefIdeal.nD,
          r.2.mem ((c.tc : Thread Cert.GateHidRefIdeal.nD Cert.GateHidRefIdeal.τ).loc Cert.GateHidRefIdeal.main_v3) = v0 c
          ∧ r.2.mem ((c.tc : Thread Cert.GateHidRefIdeal.nD Cert.GateHidRefIdeal.τ).loc Cert.GateHidRefIdeal.main_arg0) = m' ((c.tc : Thread Cert.GateHidRefIdeal.nD Cert.GateHidRefIdeal.τ).loc Cert.GateHidRefIdeal.main_arg0)
          ∧ r.2.mem ((c.tc : Thread Cert.GateHidRefIdeal.nD Cert.GateHidRefIdeal.τ).loc Cert.GateHidRefIdeal.main_arg1) = m' ((c.tc : Thread Cert.GateHidRefIdeal.nD Cert.GateHidRefIdeal.τ).loc Cert.GateHidRefIdeal.main_arg1)
          ∧ r.2.mem ((c.tc : Thread Cert.GateHidRefIdeal.nD Cert.GateHidRefIdeal.τ).loc Cert.GateHidRefIdeal.main_arg2) = m' ((c.tc : Thread Cert.GateHidRefIdeal.nD Cert.GateHidRefIdeal.τ).loc Cert.GateHidRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v16) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def disproves_algebraic_LayerAtIdeal_LayerRefAtIdeal [hLayerAtIdeal : Cert.LayerAtIdeal.Facts] [hLayerRefAtIdeal : Cert.LayerRefAtIdeal.Facts] : Prop :=
  ∀ (m : (ℓ : Loc Cert.LayerAtIdeal.nD Cert.LayerAtIdeal.τ Cert.LayerAtIdeal.sig) → Buf (Elt Ideal) ℓ) (g : Dev Cert.LayerAtIdeal.nD → PrngReg)
    (m' : (ℓ : Loc Cert.LayerRefAtIdeal.nD Cert.LayerRefAtIdeal.τ Cert.LayerRefAtIdeal.sig) → Buf (Elt Ideal) ℓ) (g' : Dev Cert.LayerRefAtIdeal.nD → PrngReg),
    (∀ c : Dev Cert.LayerAtIdeal.nD,
      m ((c.tc : Thread Cert.LayerAtIdeal.nD Cert.LayerAtIdeal.τ).loc Cert.LayerAtIdeal.main_arg0) = Cert.Cx_LayerAtIdeal.arg0 (F := Ideal)) →
    (∀ c : Dev Cert.LayerAtIdeal.nD,
      m' ((c.tc : Thread Cert.LayerRefAtIdeal.nD Cert.LayerRefAtIdeal.τ).loc Cert.LayerRefAtIdeal.main_arg0) = m ((c.tc : Thread Cert.LayerAtIdeal.nD Cert.LayerAtIdeal.τ).loc Cert.LayerAtIdeal.main_arg0)) →
    Pre_LayerAtIdeal m
    ∧ ∃ (v0 : (c : Dev Cert.LayerAtIdeal.nD) → Buf (Elt Ideal) ((c.tc : Thread Cert.LayerAtIdeal.nD Cert.LayerAtIdeal.τ).loc Cert.LayerAtIdeal.main_v10)),
      θ_run (Cert.LayerAtIdeal.defs (F := Ideal)) (onTc (τ := Cert.LayerAtIdeal.τ) (Cert.LayerAtIdeal.main (F := Ideal))) ⟨m, fun _ => 0, g⟩ (fun r => ¬ (∀ c : Dev Cert.LayerAtIdeal.nD,
          r.2.mem ((c.tc : Thread Cert.LayerAtIdeal.nD Cert.LayerAtIdeal.τ).loc Cert.LayerAtIdeal.main_v10) = v0 c))
      ∧ θ_run (Cert.LayerRefAtIdeal.defs (F := Ideal)) (onTc (τ := Cert.LayerRefAtIdeal.τ) (Cert.LayerRefAtIdeal.main (F := Ideal))) ⟨m', fun _ => 0, g'⟩ (fun r => ∀ c : Dev Cert.LayerRefAtIdeal.nD,
          r.2.mem ((c.tc : Thread Cert.LayerRefAtIdeal.nD Cert.LayerRefAtIdeal.τ).loc Cert.LayerRefAtIdeal.main_v203) = v0 c)

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hProjRefIdeal : Cert.ProjRefIdeal.Facts) (hHidden : Cert.Hidden.Facts) (hHiddenIdeal : Cert.HiddenIdeal.Facts) (hHiddenRefIdeal : Cert.HiddenRefIdeal.Facts) (hComp : Cert.Comp.Facts) (hCompIdeal : Cert.CompIdeal.Facts) (hCompRefIdeal : Cert.CompRefIdeal.Facts) (hGateHid : Cert.GateHid.Facts) (hGateHidIdeal : Cert.GateHidIdeal.Facts) (hGateHidRefIdeal : Cert.GateHidRefIdeal.Facts) (hGate : Cert.Gate.Facts) (hGateIdeal : Cert.GateIdeal.Facts) (hGateRefIdeal : Cert.GateRefIdeal.Facts) (hLayerAtIdeal : Cert.LayerAtIdeal.Facts) (hLayerRefAtIdeal : Cert.LayerRefAtIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Proj (hProj := hProj)
    ∧ quiescent_ProjIdeal (hProjIdeal := hProjIdeal)
    ∧ quiescent_ProjRefIdeal (hProjRefIdeal := hProjRefIdeal)
    ∧ quiescent_Hidden (hHidden := hHidden)
    ∧ quiescent_HiddenIdeal (hHiddenIdeal := hHiddenIdeal)
    ∧ quiescent_HiddenRefIdeal (hHiddenRefIdeal := hHiddenRefIdeal)
    ∧ quiescent_Comp (hComp := hComp)
    ∧ quiescent_CompIdeal (hCompIdeal := hCompIdeal)
    ∧ quiescent_CompRefIdeal (hCompRefIdeal := hCompRefIdeal)
    ∧ quiescent_GateHid (hGateHid := hGateHid)
    ∧ quiescent_GateHidIdeal (hGateHidIdeal := hGateHidIdeal)
    ∧ quiescent_GateHidRefIdeal (hGateHidRefIdeal := hGateHidRefIdeal)
    ∧ quiescent_Gate (hGate := hGate)
    ∧ quiescent_GateIdeal (hGateIdeal := hGateIdeal)
    ∧ quiescent_GateRefIdeal (hGateRefIdeal := hGateRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Proj_ProjIdeal
    ∧ algebraic_ProjIdeal_ProjRefIdeal (hProjIdeal := hProjIdeal) (hProjRefIdeal := hProjRefIdeal)
    ∧ preserves_Hidden_HiddenIdeal
    ∧ algebraic_HiddenIdeal_HiddenRefIdeal (hHiddenIdeal := hHiddenIdeal) (hHiddenRefIdeal := hHiddenRefIdeal)
    ∧ preserves_Comp_CompIdeal
    ∧ algebraic_CompIdeal_CompRefIdeal (hCompIdeal := hCompIdeal) (hCompRefIdeal := hCompRefIdeal)
    ∧ preserves_GateHid_GateHidIdeal
    ∧ algebraic_GateHidIdeal_GateHidRefIdeal (hGateHidIdeal := hGateHidIdeal) (hGateHidRefIdeal := hGateHidRefIdeal)
    ∧ preserves_Gate_GateIdeal
    ∧ algebraic_GateIdeal_GateRefIdeal (hGateIdeal := hGateIdeal) (hGateRefIdeal := hGateRefIdeal)
    ∧ disproves_algebraic_LayerAtIdeal_LayerRefAtIdeal (hLayerAtIdeal := hLayerAtIdeal) (hLayerRefAtIdeal := hLayerRefAtIdeal)
-- ==== Cx_LayerAtIdeal.lean ====
noncomputable def arg0_words : Fin 1 → BitVec 32 :=
  ![0x3F800000#32]
noncomputable def arg0 {F : FTy → Type} [FloatOps F] : FVec F (⟨1, ![1]⟩ : Shape) .f32 := fun i => FloatOps.ofBits .f32 (arg0_words (i 0))
-- ==== Pre_finite.lean ====
abbrev S2048x1024 : Shape := ⟨2, ![2048, 1024]⟩
abbrev S256x1024 : Shape := ⟨2, ![256, 1024]⟩
abbrev S2048x128 : Shape := ⟨2, ![2048, 128]⟩
abbrev S_ : Shape := ⟨0, ![]⟩
abbrev S128x1024 : Shape := ⟨2, ![128, 1024]⟩

class Facts : Prop where
  bcast_S_S2048x1024 : S_.BroadcastsInDim S2048x1024 (![] : Fin 0 → Fin S2048x1024.rank)
  slices_S256x1024_S128x1024_0_0 : S256x1024.Slices ![0, 0] S128x1024
  bcast_S_S128x1024 : S_.BroadcastsInDim S128x1024 (![] : Fin 0 → Fin S128x1024.rank)

variable [Facts]

def fn {F : FTy → Type} [FloatOps F] (main_arg0 : FVec F S2048x1024 .f32) (main_arg1 : FVec F S2048x1024 .f32) (main_arg2 : FVec F S2048x1024 .f32) (main_arg3 : FVec F S256x1024 .f32) (main_arg4 : FVec F S2048x128 .f32) : IVec S2048x1024 1 × IVec S2048x1024 1 × IVec S128x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S128x1024 .f32 := (extractStridedSlice S128x1024 ![0, 0] · slices_S256x1024_S128x1024_0_0) main_arg3
  let main_v7 : FVec F S128x1024 .f32 := Host.absf main_v6
  let main_cst_1 : FVec F S_ .f32 := constant S_ .f32 0x7F800000#32
  let main_v8 : FVec F S128x1024 .f32 := broadcastInDim S128x1024 ![] bcast_S_S128x1024 main_cst_1
  let main_v9 : IVec S128x1024 1 := cmpf .olt main_v7 main_v8
  (main_v2, main_v5, main_v9)
-- ==== Kernel.lean ====
abbrev S2048x1024 : Shape := ⟨2, ![2048, 1024]⟩
abbrev S256x1024 : Shape := ⟨2, ![256, 1024]⟩
abbrev S2048x128 : Shape := ⟨2, ![2048, 128]⟩
abbrev S512x128 : Shape := ⟨2, ![512, 128]⟩
abbrev S256x128 : Shape := ⟨2, ![256, 128]⟩
abbrev S32x512 : Shape := ⟨2, ![32, 512]⟩
abbrev S128x2048 : Shape := ⟨2, ![128, 2048]⟩
abbrev S64x1024 : Shape := ⟨2, ![64, 1024]⟩
abbrev S32x64 : Shape := ⟨2, ![32, 64]⟩
abbrev S32x1024 : Shape := ⟨2, ![32, 1024]⟩
abbrev S512x1024 : Shape := ⟨2, ![512, 1024]⟩
abbrev S32x128 : Shape := ⟨2, ![32, 128]⟩
abbrev S2048x64 : Shape := ⟨2, ![2048, 64]⟩
abbrev S1024x64 : Shape := ⟨2, ![1024, 64]⟩
abbrev S512x64 : Shape := ⟨2, ![512, 64]⟩
abbrev S128x64 : Shape := ⟨2, ![128, 64]⟩
abbrev S512 : Shape := ⟨1, ![512]⟩
abbrev S512x1 : Shape := ⟨2, ![512, 1]⟩
abbrev S32 : Shape := ⟨1, ![32]⟩
abbrev S32x1 : Shape := ⟨2, ![32, 1]⟩
abbrev S512x2048 : Shape := ⟨2, ![512, 2048]⟩
abbrev S32x2048 : Shape := ⟨2, ![32, 2048]⟩
abbrev S1024x128 : Shape := ⟨2, ![1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S256x1024, .f32⟩
  | .hbm, ⟨4, _⟩ => ⟨S2048x128, .f32⟩
  | .hbm, ⟨5, _⟩ => ⟨S2048x1024, .f32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def k0_off1 (i : grid0.Coords) : Fin 2 → Nat :=
  let arg1 : BitVec 32 := BitVec.ofNat 32 (i 1).val
  let c32_i32 : BitVec 32 := 32#32
  let v90 : BitVec 32 := Scalar.muli arg1 c32_i32
  let c32_i32_18 : BitVec 32 := 32#32
  let v91 : BitVec 32 := Scalar.subi v90 c32_i32_18
  let c0_i32_19 : BitVec 32 := 0#32
  let v92 : BitVec 32 := Scalar.maxsi v91 c0_i32_19
  let c16_i32_20 : BitVec 32 := 16#32
  let v93 : BitVec 32 := Scalar.muli v92 c16_i32_20
  let v385 : Index := Scalar.indexCast v93
  let c0_128 : Index := 0#32
  ![v385.toNat, 0]
def k0_off2 (i : grid0.Coords) : Fin 2 → Nat :=
  let arg1 : BitVec 32 := BitVec.ofNat 32 (i 1).val
  let c32_i32 : BitVec 32 := 32#32
  let v90 : BitVec 32 := Scalar.muli arg1 c32_i32
  let c32_i32_18 : BitVec 32 := 32#32
  let v91 : BitVec 32 := Scalar.subi v90 c32_i32_18
  let c0_i32_19 : BitVec 32 := 0#32
  let v92 : BitVec 32 := Scalar.maxsi v91 c0_i32_19
  let c16_i32_20 : BitVec 32 := 16#32
  let v93 : BitVec 32 := Scalar.muli v92 c16_i32_20
  let v682 : Index := Scalar.indexCast v93
  let c64_235 : Index := 64#32
  ![v682.toNat, 64]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2048x1024 : Shape := ⟨2, ![2048, 1024]⟩
abbrev S256x1024 : Shape := ⟨2, ![256, 1024]⟩
abbrev S2048x128 : Shape := ⟨2, ![2048, 128]⟩
abbrev S1x2048x16x64 : Shape := ⟨4, ![1, 2048, 16, 64]⟩
abbrev S1x16x2048x64 : Shape := ⟨4, ![1, 16, 2048, 64]⟩
abbrev S128x1024 : Shape := ⟨2, ![128, 1024]⟩
abbrev S1x128x16x64 : Shape := ⟨4, ![1, 128, 16, 64]⟩
abbrev S1x16x128x64 : Shape := ⟨4, ![1, 16, 128, 64]⟩
abbrev S1x16x2048x128 : Shape := ⟨4, ![1, 16, 2048, 128]⟩
abbrev S_ : Shape := ⟨0, ![]⟩
abbrev S1x16x2048 : Shape := ⟨3, ![1, 16, 2048]⟩
abbrev S1x16x2048x1 : Shape := ⟨4, ![1, 16, 2048, 1]⟩
abbrev S1x16x128x16x128 : Shape := ⟨5, ![1, 16, 128, 16, 128]⟩
abbrev S1x16x128x128 : Shape := ⟨4, ![1, 16, 128, 128]⟩
abbrev S1x16x128x16 : Shape := ⟨4, ![1, 16, 128, 16]⟩
abbrev S1x16x128x16x64 : Shape := ⟨5, ![1, 16, 128, 16, 64]⟩
abbrev S1x16x128x16x1x1 : Shape := ⟨6, ![1, 16, 128, 16, 1, 1]⟩
abbrev S1x16x128x16x16x64 : Shape := ⟨6, ![1, 16, 128, 16, 16, 64]⟩
abbrev S1x16x1x128x16x64 : Shape := ⟨6, ![1, 16, 1, 128, 16, 64]⟩
abbrev S16x128x16x16x64x1 : Shape := ⟨6, ![16, 128, 16, 16, 64, 1]⟩
abbrev S1 : Shape := ⟨1, ![1]⟩
abbrev S1x1x1x1x1x1 : Shape := ⟨6, ![1, 1, 1, 1, 1, 1]⟩
abbrev S16x128x16x16x64 : Shape := ⟨5, ![16, 128, 16, 16, 64]⟩
abbrev S1x16x128x256x64 : Shape := ⟨5, ![1, 16, 128, 256, 64]⟩
abbrev S1x16x128x16x256 : Shape := ⟨5, ![1, 16, 128, 16, 256]⟩
abbrev S1x16x128x16x1 : Shape := ⟨5, ![1, 16, 128, 16, 1]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S128x512x1 : Shape := ⟨3, ![128, 512, 1]⟩
abbrev S1x16x128x512x64 : Shape := ⟨5, ![1, 16, 128, 512, 64]⟩
abbrev S1x16x128x16x512 : Shape := ⟨5, ![1, 16, 128, 16, 512]⟩
abbrev S1x1x128x1x512 : Shape := ⟨5, ![1, 1, 128, 1, 512]⟩
abbrev S2048x3 : Shape := ⟨2, ![2048, 3]⟩
abbrev S1x2048x3 : Shape := ⟨3, ![1, 2048, 3]⟩
abbrev S1x2048x1 : Shape := ⟨3, ![1, 2048, 1]⟩
abbrev S1x2048x1024 : Shape := ⟨3, ![1, 2048, 1024]⟩

abbrev nBuf : Space → Nat
  | .hbm => 212
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S256x1024, .f32⟩
  | 4 => ⟨S2048x128, .f32⟩
  | 5 => ⟨S1x2048x16x64, .f32⟩
  | 6 => ⟨S1x16x2048x64, .f32⟩
  | 7 => ⟨S1x2048x16x64, .f32⟩
  | 8 => ⟨S1x16x2048x64, .f32⟩
  | 9 => ⟨S1x2048x16x64, .f32⟩
  | 10 => ⟨S1x16x2048x64, .f32⟩
  | 11 => ⟨S128x1024, .f32⟩
  | 12 => ⟨S1x128x16x64, .f32⟩
  | 13 => ⟨S1x16x128x64, .f32⟩
  | 14 => ⟨S128x1024, .f32⟩
  | 15 => ⟨S1x128x16x64, .f32⟩
  | 16 => ⟨S1x16x128x64, .f32⟩
  | 17 => ⟨S1x16x2048x128, .f32⟩
  | 18 => ⟨S_, .f32⟩
  | 19 => ⟨S1x16x2048x128, .f32⟩
  | 20 => ⟨S1x16x2048x128, .f32⟩
  | 21 => ⟨S_, .f32⟩
  | 22 => ⟨S1x16x2048, .f32⟩
  | 23 => ⟨S_, .f32⟩
  | 24 => ⟨S1x16x2048, .f32⟩
  | 25 => ⟨S1x16x2048, .f32⟩
  | 26 => ⟨S1x16x2048x1, .f32⟩
  | 27 => ⟨S1x16x2048x128, .f32⟩
  | 28 => ⟨S1x16x2048x128, .f32⟩
  | 29 => ⟨S1x16x2048x128, .f32⟩
  | 30 => ⟨S_, .f32⟩
  | 31 => ⟨S1x16x2048, .f32⟩
  | 32 => ⟨S1x16x2048x1, .f32⟩
  | 33 => ⟨S1x16x2048x128, .f32⟩
  | 34 => ⟨S1x16x2048x128, .f32⟩
  | 35 => ⟨S1x16x2048x64, .f32⟩
  | 36 => ⟨S1x16x128x16x128, .f32⟩
  | 37 => ⟨S_, .f32⟩
  | 38 => ⟨S1x16x128x128, .f32⟩
  | 39 => ⟨S_, .f32⟩
  | 40 => ⟨S1x16x128x128, .f32⟩
  | 41 => ⟨S1x16x128x128, .f32⟩
  | 42 => ⟨S1x16x128x16, .f32⟩
  | 43 => ⟨S1x16x128x16, .i32⟩
  | 44 => ⟨S1x16x128x16x64, .f32⟩
  | 45 => ⟨S1x16x128x16x64, .f32⟩
  | 46 => ⟨S1x16x128x16x1x1, .i32⟩
  | 47 => ⟨S1x16x128x16x16x64, .i32⟩
  | 48 => ⟨S1x16x1x128x16x64, .f32⟩
  | 49 => ⟨S_, .i32⟩
  | 50 => ⟨S1x16x128x16x16x64, .i32⟩
  | 51 => ⟨S1x16x128x16x16x64, .i1⟩
  | 52 => ⟨S_, .i32⟩
  | 53 => ⟨S1x16x128x16x16x64, .i32⟩
  | 54 => ⟨S1x16x128x16x16x64, .i32⟩
  | 55 => ⟨S1x16x128x16x16x64, .i32⟩
  | 56 => ⟨S16x128x16x16x64x1, .i32⟩
  | 57 => ⟨S1x16x128x16x64, .f32⟩
  | 58 => ⟨S1, .i32⟩
  | 59 => ⟨S_, .i32⟩
  | 60 => ⟨S16x128x16x16x64x1, .i32⟩
  | 61 => ⟨S16x128x16x16x64x1, .i1⟩
  | 62 => ⟨S1x1x1x1x1x1, .i32⟩
  | 63 => ⟨S16x128x16x16x64x1, .i32⟩
  | 64 => ⟨S16x128x16x16x64x1, .i1⟩
  | 65 => ⟨S16x128x16x16x64x1, .i1⟩
  | 66 => ⟨S_, .i1⟩
  | 67 => ⟨S16x128x16x16x64, .i1⟩
  | 68 => ⟨S1x16x128x16x16x64, .f32⟩
  | 69 => ⟨S1x16x128x16x16x64, .i1⟩
  | 70 => ⟨S_, .f32⟩
  | 71 => ⟨S1x16x128x16x16x64, .f32⟩
  | 72 => ⟨S1x16x128x16x16x64, .f32⟩
  | 73 => ⟨S1x16x128x256x64, .f32⟩
  | 74 => ⟨S1x16x1x128x16x64, .f32⟩
  | 75 => ⟨S_, .i32⟩
  | 76 => ⟨S1x16x128x16x16x64, .i32⟩
  | 77 => ⟨S1x16x128x16x16x64, .i1⟩
  | 78 => ⟨S_, .i32⟩
  | 79 => ⟨S1x16x128x16x16x64, .i32⟩
  | 80 => ⟨S1x16x128x16x16x64, .i32⟩
  | 81 => ⟨S1x16x128x16x16x64, .i32⟩
  | 82 => ⟨S16x128x16x16x64x1, .i32⟩
  | 83 => ⟨S1x16x128x16x64, .f32⟩
  | 84 => ⟨S1, .i32⟩
  | 85 => ⟨S_, .i32⟩
  | 86 => ⟨S16x128x16x16x64x1, .i32⟩
  | 87 => ⟨S16x128x16x16x64x1, .i1⟩
  | 88 => ⟨S1x1x1x1x1x1, .i32⟩
  | 89 => ⟨S16x128x16x16x64x1, .i32⟩
  | 90 => ⟨S16x128x16x16x64x1, .i1⟩
  | 91 => ⟨S16x128x16x16x64x1, .i1⟩
  | 92 => ⟨S_, .i1⟩
  | 93 => ⟨S16x128x16x16x64, .i1⟩
  | 94 => ⟨S1x16x128x16x16x64, .f32⟩
  | 95 => ⟨S1x16x128x16x16x64, .i1⟩
  | 96 => ⟨S_, .f32⟩
  | 97 => ⟨S1x16x128x16x16x64, .f32⟩
  | 98 => ⟨S1x16x128x16x16x64, .f32⟩
  | 99 => ⟨S1x16x128x256x64, .f32⟩
  | 100 => ⟨S1x16x128x16x64, .f32⟩
  | 101 => ⟨S1x16x128x16x256, .f32⟩
  | 102 => ⟨S_, .f32⟩
  | 103 => ⟨S1x16x128x16x256, .f32⟩
  | 104 => ⟨S1x16x128x16x256, .f32⟩
  | 105 => ⟨S_, .f32⟩
  | 106 => ⟨S1x16x128x16, .f32⟩
  | 107 => ⟨S_, .f32⟩
  | 108 => ⟨S1x16x128x16, .f32⟩
  | 109 => ⟨S1x16x128x16, .f32⟩
  | 110 => ⟨S1x16x128x16x1, .f32⟩
  | 111 => ⟨S1x16x128x16x256, .f32⟩
  | 112 => ⟨S1x16x128x16x256, .f32⟩
  | 113 => ⟨S1x16x128x16x256, .f32⟩
  | 114 => ⟨S_, .f32⟩
  | 115 => ⟨S1x16x128x16, .f32⟩
  | 116 => ⟨S1x16x128x16x1, .f32⟩
  | 117 => ⟨S1x16x128x16x256, .f32⟩
  | 118 => ⟨S1x16x128x16x256, .f32⟩
  | 119 => ⟨S1x16x128x16x64, .f32⟩
  | 120 => ⟨S1x16x2048x64, .f32⟩
  | 121 => ⟨S128, .i32⟩
  | 122 => ⟨S_, .i32⟩
  | 123 => ⟨S128, .i32⟩
  | 124 => ⟨S128, .i32⟩
  | 125 => ⟨S_, .i32⟩
  | 126 => ⟨S128, .i32⟩
  | 127 => ⟨S128, .i32⟩
  | _ => ⟨S2048x1024, .f32⟩

abbrev hbmTy0_1 (i : Nat) : BufTy := match i % 128 with
  | 0 => ⟨S128x1, .i32⟩
  | 1 => ⟨S_, .i32⟩
  | 2 => ⟨S128x1, .i32⟩
  | 3 => ⟨S128x1, .i32⟩
  | 4 => ⟨S512, .i32⟩
  | 5 => ⟨S1x512, .i32⟩
  | 6 => ⟨S128x512, .i32⟩
  | 7 => ⟨S128x512, .i32⟩
  | 8 => ⟨S128x512, .i32⟩
  | 9 => ⟨S_, .i32⟩
  | 10 => ⟨S128x512, .i32⟩
  | 11 => ⟨S128x512, .i1⟩
  | 12 => ⟨S_, .i32⟩
  | 13 => ⟨S_, .i32⟩
  | 14 => ⟨S_, .i32⟩
  | 15 => ⟨S128x512, .i32⟩
  | 16 => ⟨S128x512, .i32⟩
  | 17 => ⟨S_, .i32⟩
  | 18 => ⟨S128x512, .i32⟩
  | 19 => ⟨S128x512, .i32⟩
  | 20 => ⟨S_, .i32⟩
  | 21 => ⟨S128x512, .i32⟩
  | 22 => ⟨S128x512, .i1⟩
  | 23 => ⟨S_, .i32⟩
  | 24 => ⟨S128x512, .i32⟩
  | 25 => ⟨S128x512, .i32⟩
  | 26 => ⟨S128x512, .i32⟩
  | 27 => ⟨S128x512x1, .i32⟩
  | 28 => ⟨S1x16x128x512x64, .f32⟩
  | 29 => ⟨S_, .i32⟩
  | 30 => ⟨S128x512, .i32⟩
  | 31 => ⟨S128x512, .i1⟩
  | 32 => ⟨S_, .i32⟩
  | 33 => ⟨S128x512, .i32⟩
  | 34 => ⟨S128x512, .i32⟩
  | 35 => ⟨S128x512, .i32⟩
  | 36 => ⟨S128x512x1, .i32⟩
  | 37 => ⟨S1x16x128x512x64, .f32⟩
  | 38 => ⟨S1x16x128x16x512, .f32⟩
  | 39 => ⟨S_, .f32⟩
  | 40 => ⟨S1x16x128x16x512, .f32⟩
  | 41 => ⟨S1x16x128x16x512, .f32⟩
  | 42 => ⟨S1x1x128x1x512, .i1⟩
  | 43 => ⟨S_, .f32⟩
  | 44 => ⟨S_, .f32⟩
  | 45 => ⟨S1x16x128x16x512, .i1⟩
  | 46 => ⟨S1x16x128x16x512, .f32⟩
  | 47 => ⟨S1x16x128x16x512, .f32⟩
  | 48 => ⟨S_, .f32⟩
  | 49 => ⟨S1x16x128x16, .f32⟩
  | 50 => ⟨S_, .f32⟩
  | 51 => ⟨S1x16x128x16, .f32⟩
  | 52 => ⟨S1x16x128x16, .f32⟩
  | 53 => ⟨S1x16x128x16x1, .f32⟩
  | 54 => ⟨S1x16x128x16x512, .f32⟩
  | 55 => ⟨S1x16x128x16x512, .f32⟩
  | 56 => ⟨S1x16x128x16x512, .f32⟩
  | 57 => ⟨S_, .f32⟩
  | 58 => ⟨S1x16x128x16, .f32⟩
  | 59 => ⟨S1x16x128x16x1, .f32⟩
  | 60 => ⟨S1x16x128x16x512, .f32⟩
  | 61 => ⟨S1x16x128x16x512, .f32⟩
  | 62 => ⟨S1x16x128x16x64, .f32⟩
  | 63 => ⟨S1x16x2048x64, .f32⟩
  | 64 => ⟨S2048x3, .f32⟩
  | 65 => ⟨S1x2048x3, .f32⟩
  | 66 => ⟨S1x2048x1, .f32⟩
  | 67 => ⟨S1x2048x16x64, .f32⟩
  | 68 => ⟨S1x2048x1024, .f32⟩
  | 69 => ⟨S1x2048x1024, .f32⟩
  | 70 => ⟨S1x2048x1024, .f32⟩
  | 71 => ⟨S1x2048x1, .f32⟩
  | 72 => ⟨S1x2048x16x64, .f32⟩
  | 73 => ⟨S1x2048x1024, .f32⟩
  | 74 => ⟨S1x2048x1024, .f32⟩
  | 75 => ⟨S1x2048x1024, .f32⟩
  | 76 => ⟨S1x2048x1024, .f32⟩
  | 77 => ⟨S1x2048x1, .f32⟩
  | 78 => ⟨S1x2048x16x64, .f32⟩
  | 79 => ⟨S1x2048x1024, .f32⟩
  | 80 => ⟨S1x2048x1024, .f32⟩
  | 81 => ⟨S1x2048x1024, .f32⟩
  | 82 => ⟨S1x2048x1024, .f32⟩
  | 83 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_values : Ref sig .tc := ⟨.hbm, 42, rfl⟩
abbrev main_indices : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_c : Ref sig .tc := ⟨.hbm, 49, rfl⟩
abbrev main_call0_v0 : Ref sig .tc := ⟨.hbm, 50, rfl⟩
abbrev main_call0_v1 : Ref sig .tc := ⟨.hbm, 51, rfl⟩
abbrev main_call0_c_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_c_1 : Ref sig .tc := ⟨.hbm, 58, rfl⟩
abbrev main_call0_c_2 : Ref sig .tc := ⟨.hbm, 59, rfl⟩
abbrev main_call0_v7 : Ref sig .tc := ⟨.hbm, 60, rfl⟩
abbrev main_call0_v8 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_v12 : Ref sig .tc := ⟨.hbm, 65, rfl⟩
abbrev main_call0_c_3 : Ref sig .tc := ⟨.hbm, 66, rfl⟩
abbrev main_call0_v13 : Ref sig .tc := ⟨.hbm, 67, rfl⟩
abbrev main_call0_v14 : Ref sig .tc := ⟨.hbm, 68, rfl⟩
abbrev main_call0_v15 : Ref sig .tc := ⟨.hbm, 69, rfl⟩
abbrev main_call0_cst : Ref sig .tc := ⟨.hbm, 70, rfl⟩
abbrev main_call0_v16 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_c_1 : Ref sig .tc := ⟨.hbm, 84, rfl⟩
abbrev main_call1_c_2 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_c_3 : Ref sig .tc := ⟨.hbm, 92, rfl⟩
abbrev main_call1_v13 : Ref sig .tc := ⟨.hbm, 93, rfl⟩
abbrev main_call1_v14 : Ref sig .tc := ⟨.hbm, 94, rfl⟩
abbrev main_call1_v15 : Ref sig .tc := ⟨.hbm, 95, rfl⟩
abbrev main_call1_cst : Ref sig .tc := ⟨.hbm, 96, rfl⟩
abbrev main_call1_v16 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_cst_5 : Ref sig .tc := ⟨.hbm, 102, rfl⟩
abbrev main_v43 : Ref sig .tc := ⟨.hbm, 103, rfl⟩
abbrev main_v44 : Ref sig .tc := ⟨.hbm, 104, rfl⟩
abbrev main_cst_6 : Ref sig .tc := ⟨.hbm, 105, rfl⟩
abbrev main_v45 : Ref sig .tc := ⟨.hbm, 106, rfl⟩
abbrev main_cst_7 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_cst_8 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_c : Ref sig .tc := ⟨.hbm, 122, rfl⟩
abbrev main_v59 : Ref sig .tc := ⟨.hbm, 123, rfl⟩
abbrev main_v60 : Ref sig .tc := ⟨.hbm, 124, rfl⟩
abbrev main_c_9 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_c_10 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_c_11 : Ref sig .tc := ⟨.hbm, 137, rfl⟩
abbrev main_v71 : Ref sig .tc := ⟨.hbm, 138, rfl⟩
abbrev main_v72 : Ref sig .tc := ⟨.hbm, 139, rfl⟩
abbrev main_c_12 : Ref sig .tc := ⟨.hbm, 140, rfl⟩
abbrev main_c_13 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_v73 : Ref sig .tc := ⟨.hbm, 147, rfl⟩
abbrev main_c_14 : Ref sig .tc := ⟨.hbm, 148, rfl⟩
abbrev main_v74 : Ref sig .tc := ⟨.hbm, 149, rfl⟩
abbrev main_v75 : Ref sig .tc := ⟨.hbm, 150, rfl⟩
abbrev main_c_15 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_c_16 : Ref sig .tc := ⟨.hbm, 157, rfl⟩
abbrev main_v81 : Ref sig .tc := ⟨.hbm, 158, rfl⟩
abbrev main_v82 : Ref sig .tc := ⟨.hbm, 159, rfl⟩
abbrev main_c_17 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_cst_19 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_v92 : Ref sig .tc := ⟨.hbm, 175, rfl⟩
abbrev main_cst_20 : Ref sig .tc := ⟨.hbm, 176, rfl⟩
abbrev main_v93 : Ref sig .tc := ⟨.hbm, 177, rfl⟩
abbrev main_cst_21 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_cst_22 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩

abbrev nD : Nat := 1
abbrev τ : Topo := Topo.v7x

variable {F : FTy → Type} [FloatOps F]
-- ==== Proj.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S1024x512 : Shape := ⟨2, ![1024, 512]⟩
abbrev S1x512 : Shape := ⟨2, ![1, 512]⟩
abbrev S256x512 : Shape := ⟨2, ![256, 512]⟩

abbrev nBuf : Space → Nat
  | .hbm => 5
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjRefIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Hidden.lean ====
abbrev S256x16384 : Shape := ⟨2, ![256, 16384]⟩
abbrev S1x1x16x1024 : Shape := ⟨4, ![1, 1, 16, 1024]⟩
abbrev S16384x4096 : Shape := ⟨2, ![16384, 4096]⟩
abbrev S4096 : Shape := ⟨1, ![4096]⟩
abbrev S1x16384 : Shape := ⟨2, ![1, 16384]⟩
abbrev S1x4096 : Shape := ⟨2, ![1, 4096]⟩
abbrev S256x4096 : Shape := ⟨2, ![256, 4096]⟩
abbrev S256x2048 : Shape := ⟨2, ![256, 2048]⟩
abbrev S2048x512 : Shape := ⟨2, ![2048, 512]⟩
abbrev S1x512 : Shape := ⟨2, ![1, 512]⟩
abbrev S1x2048 : Shape := ⟨2, ![1, 2048]⟩
abbrev S256x512 : Shape := ⟨2, ![256, 512]⟩

abbrev nBuf : Space → Nat
  | .hbm => 7
  | .vmem => 11
  | .smem => 0
  | _ => 0

abbrev bufTy : (tb : Table) → Fin (tcTables nBuf tb) → BufTy
  | .hbm, ⟨0, _⟩ => ⟨S256x16384, .f32⟩
  | .hbm, ⟨1, _⟩ => ⟨S1x1x16x1024, .f32⟩
  | .hbm, ⟨2, _⟩ => ⟨S16384x4096, .f32⟩
  | .hbm, ⟨3, _⟩ => ⟨S4096, .f32⟩
  | .hbm, ⟨4, _⟩ => ⟨S1x16384, .f32⟩
  | .hbm, ⟨5, _⟩ => ⟨S1x4096, .f32⟩
  | .hbm, ⟨6, _⟩ => ⟨S256x4096, .f32⟩
  | .local _ .vmem, ⟨0, _⟩ => ⟨S256x2048, .f32⟩
  | .local _ .vmem, ⟨1, _⟩ => ⟨S256x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1x2048, .f32⟩
  | .local _ .vmem, ⟨7, _⟩ => ⟨S1x2048, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== HiddenRefIdeal.lean ====
abbrev S256x16384 : Shape := ⟨2, ![256, 16384]⟩
abbrev S1x1x16x1024 : Shape := ⟨4, ![1, 1, 16, 1024]⟩
abbrev S16384x4096 : Shape := ⟨2, ![16384, 4096]⟩
abbrev S4096 : Shape := ⟨1, ![4096]⟩
abbrev S1x256x16x1024 : Shape := ⟨4, ![1, 256, 16, 1024]⟩
abbrev S256x4096 : Shape := ⟨2, ![256, 4096]⟩
abbrev S1x4096 : Shape := ⟨2, ![1, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S1x1x16x1024, .f32⟩
  | .hbm, ⟨2, _⟩ => ⟨S16384x4096, .f32⟩
  | .hbm, ⟨3, _⟩ => ⟨S4096, .f32⟩
  | .hbm, ⟨4, _⟩ => ⟨S1x256x16x1024, .f32⟩
  | .hbm, ⟨5, _⟩ => ⟨S1x256x16x1024, .f32⟩
  | .hbm, ⟨6, _⟩ => ⟨S1x256x16x1024, .f32⟩
  | .hbm, ⟨7, _⟩ => ⟨S256x16384, .f32⟩
  | .hbm, ⟨8, _⟩ => ⟨S256x4096, .f32⟩
  | .hbm, ⟨9, _⟩ => ⟨S1x4096, .f32⟩
  | .hbm, ⟨10, _⟩ => ⟨S256x4096, .f32⟩
  | .hbm, ⟨11, _⟩ => ⟨S256x4096, .f32⟩
  | .hbm, ⟨12, _⟩ => ⟨S_, .f32⟩
  | .hbm, ⟨13, _⟩ => ⟨S256x4096, .f32⟩
  | .hbm, ⟨14, _⟩ => ⟨S256x4096, .f32⟩
  | .hbm, ⟨15, _⟩ => ⟨S256x4096, .f32⟩
  | .hbm, ⟨16, _⟩ => ⟨S_, .f32⟩
  | .hbm, ⟨17, _⟩ => ⟨S256x4096, .f32⟩
  | .hbm, ⟨18, _⟩ => ⟨S256x4096, .f32⟩
  | .hbm, ⟨19, _⟩ => ⟨S256x4096, .f32⟩
  | .hbm, ⟨20, _⟩ => ⟨S256x4096, .f32⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Comp.lean ====
abbrev S256x4096 : Shape := ⟨2, ![256, 4096]⟩
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256x2048 : Shape := ⟨2, ![256, 2048]⟩
abbrev S2048x512 : Shape := ⟨2, ![2048, 512]⟩
abbrev S1x512 : Shape := ⟨2, ![1, 512]⟩
abbrev S256x512 : Shape := ⟨2, ![256, 512]⟩

abbrev nBuf : Space → Nat
  | .hbm => 5
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S256x1024, .f32⟩
  | .local _ .vmem, ⟨0, _⟩ => ⟨S256x2048, .f32⟩
  | .local _ .vmem, ⟨1, _⟩ => ⟨S256x2048, .f32⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CompRefIdeal.lean ====
abbrev S256x4096 : Shape := ⟨2, ![256, 4096]⟩
abbrev S4096x1024 : Shape := ⟨2, ![4096, 1024]⟩
abbrev S1024 : Shape := ⟨1, ![1024]⟩
abbrev S256x1024 : Shape := ⟨2, ![256, 1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x1024, .f32⟩
  | .hbm, ⟨2, _⟩ => ⟨S1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S256x1024, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateHid.lean ====
abbrev S2048x1024 : Shape := ⟨2, ![2048, 1024]⟩
abbrev S1024x512 : Shape := ⟨2, ![1024, 512]⟩
abbrev S512 : Shape := ⟨1, ![512]⟩
abbrev S1x512 : Shape := ⟨2, ![1, 512]⟩
abbrev S2048x512 : Shape := ⟨2, ![2048, 512]⟩
abbrev S256x1024 : Shape := ⟨2, ![256, 1024]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S512, .f32⟩
  | .hbm, ⟨3, _⟩ => ⟨S1x512, .f32⟩
  | .hbm, ⟨4, _⟩ => ⟨S2048x512, .f32⟩
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateHidRefIdeal.lean ====
abbrev S2048x1024 : Shape := ⟨2, ![2048, 1024]⟩
abbrev S1024x512 : Shape := ⟨2, ![1024, 512]⟩
abbrev S512 : Shape := ⟨1, ![512]⟩
abbrev S2048x512 : Shape := ⟨2, ![2048, 512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S512, .f32⟩
  | .hbm, ⟨3, _⟩ => ⟨S2048x512, .f32⟩
  | .hbm, ⟨4, _⟩ => ⟨S1x512, .f32⟩
  | .hbm, ⟨5, _⟩ => ⟨S2048x512, .f32⟩
  | .hbm, ⟨6, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gate.lean ====
abbrev S2048x512 : Shape := ⟨2, ![2048, 512]⟩
abbrev S512x128 : Shape := ⟨2, ![512, 128]⟩
abbrev S128 : Shape := ⟨1, ![128]⟩
abbrev S1x128 : Shape := ⟨2, ![1, 128]⟩
abbrev S2048x128 : Shape := ⟨2, ![2048, 128]⟩
abbrev S256x512 : Shape := ⟨2, ![256, 512]⟩
abbrev S256x128 : Shape := ⟨2, ![256, 128]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S128, .f32⟩
  | .hbm, ⟨3, _⟩ => ⟨S1x128, .f32⟩
  | .hbm, ⟨4, _⟩ => ⟨S2048x128, .f32⟩
  | .local _ .vmem, ⟨0, _⟩ => ⟨S256x512, .f32⟩
  | .local _ .vmem, ⟨1, _⟩ => ⟨S256x512, .f32⟩
  | .local _ .vmem, ⟨2, _⟩ => ⟨S512x128, .f32⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_11 : BitVec 32 := 0#32
  let v19 : BitVec 1 := Scalar.cmpi .eq arg2 c0_i32_11
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateRefIdeal.lean ====
abbrev S2048x512 : Shape := ⟨2, ![2048, 512]⟩
abbrev S512x128 : Shape := ⟨2, ![512, 128]⟩
abbrev S128 : Shape := ⟨1, ![128]⟩
abbrev S_ : Shape := ⟨0, ![]⟩
abbrev S2048x128 : Shape := ⟨2, ![2048, 128]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S128, .f32⟩
  | .hbm, ⟨3, _⟩ => ⟨S_, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x128, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S_, .f32⟩
  | .hbm, ⟨19, _⟩ => ⟨S2048x128, .f32⟩
  | .hbm, ⟨20, _⟩ => ⟨S2048x128, .f32⟩
  | .hbm, ⟨21, _⟩ => ⟨S_, .f32⟩
  | .hbm, ⟨22, _⟩ => ⟨S2048x128, .f32⟩
  | .hbm, ⟨23, _⟩ => ⟨S2048x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== LayerAtIdeal.lean ====
abbrev S1 : Shape := ⟨1, ![1]⟩
abbrev S_ : Shape := ⟨0, ![]⟩
abbrev S1x2048x1024 : Shape := ⟨3, ![1, 2048, 1024]⟩
abbrev S1024x1024 : Shape := ⟨2, ![1024, 1024]⟩
abbrev S1024 : Shape := ⟨1, ![1024]⟩
abbrev S2048x1024 : Shape := ⟨2, ![2048, 1024]⟩
abbrev S1x1024 : Shape := ⟨2, ![1, 1024]⟩
abbrev S256x1024 : Shape := ⟨2, ![256, 1024]⟩
abbrev S1024x512 : Shape := ⟨2, ![1024, 512]⟩
abbrev S1x512 : Shape := ⟨2, ![1, 512]⟩
abbrev S256x512 : Shape := ⟨2, ![256, 512]⟩

abbrev nBuf : Space → Nat
  | .hbm => 16
  | .vmem => 18
  | .smem => 0
  | _ => 0

abbrev bufTy : (tb : Table) → Fin (tcTables nBuf tb) → BufTy
  | .hbm, ⟨0, _⟩ => ⟨S1, .f32⟩
  | .hbm, ⟨1, _⟩ => ⟨S_, .f32⟩
  | .hbm, ⟨2, _⟩ => ⟨S1x2048x1024, .f32⟩
  | .hbm, ⟨3, _⟩ => ⟨S_, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S1x1024, .f32⟩
  | .hbm, ⟨14, _⟩ => ⟨S2048x1024, .f32⟩
  | .hbm, ⟨15, _⟩ => ⟨S1x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | .local _ .vmem, ⟨14, _⟩ => ⟨S1x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def k1_cond2 (i : grid1.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== LayerRefAtIdeal.lean ====
abbrev S1 : Shape := ⟨1, ![1]⟩
abbrev S_ : Shape := ⟨0, ![]⟩
abbrev S1x2048x1024 : Shape := ⟨3, ![1, 2048, 1024]⟩
abbrev S1024x1024 : Shape := ⟨2, ![1024, 1024]⟩
abbrev S1024 : Shape := ⟨1, ![1024]⟩
abbrev S16384x4096 : Shape := ⟨2, ![16384, 4096]⟩
abbrev S4096 : Shape := ⟨1, ![4096]⟩
abbrev S4096x1024 : Shape := ⟨2, ![4096, 1024]⟩
abbrev S1x1x16x1024 : Shape := ⟨4, ![1, 1, 16, 1024]⟩
abbrev S1024x512 : Shape := ⟨2, ![1024, 512]⟩
abbrev S512 : Shape := ⟨1, ![512]⟩
abbrev S512x3 : Shape := ⟨2, ![512, 3]⟩
abbrev S3 : Shape := ⟨1, ![3]⟩
abbrev S2048x1024 : Shape := ⟨2, ![2048, 1024]⟩
abbrev S1x1024 : Shape := ⟨2, ![1, 1024]⟩
abbrev S128x16384 : Shape := ⟨2, ![128, 16384]⟩
abbrev S256x16384 : Shape := ⟨2, ![256, 16384]⟩
abbrev S1x256x16x1024 : Shape := ⟨4, ![1, 256, 16, 1024]⟩
abbrev S256x4096 : Shape := ⟨2, ![256, 4096]⟩
abbrev S1x4096 : Shape := ⟨2, ![1, 4096]⟩
abbrev S256x1024 : Shape := ⟨2, ![256, 1024]⟩
abbrev S2048x512 : Shape := ⟨2, ![2048, 512]⟩
abbrev S1x512 : Shape := ⟨2, ![1, 512]⟩
abbrev S2048x3 : Shape := ⟨2, ![2048, 3]⟩
abbrev S1x3 : Shape := ⟨2, ![1, 3]⟩
abbrev S1x2048x16x64 : Shape := ⟨4, ![1, 2048, 16, 64]⟩
abbrev S1x16x2048x64 : Shape := ⟨4, ![1, 16, 2048, 64]⟩
abbrev S128x1024 : Shape := ⟨2, ![128, 1024]⟩
abbrev S1x128x16x64 : Shape := ⟨4, ![1, 128, 16, 64]⟩
abbrev S1x16x128x64 : Shape := ⟨4, ![1, 16, 128, 64]⟩
abbrev S1x16x2048x128 : Shape := ⟨4, ![1, 16, 2048, 128]⟩
abbrev S1x16x2048 : Shape := ⟨3, ![1, 16, 2048]⟩
abbrev S1x16x2048x1 : Shape := ⟨4, ![1, 16, 2048, 1]⟩
abbrev S1x16x128x16x128 : Shape := ⟨5, ![1, 16, 128, 16, 128]⟩
abbrev S1x16x128x128 : Shape := ⟨4, ![1, 16, 128, 128]⟩
abbrev S1x16x128x16 : Shape := ⟨4, ![1, 16, 128, 16]⟩
abbrev S1x16x128x16x64 : Shape := ⟨5, ![1, 16, 128, 16, 64]⟩
abbrev S1x16x128x16x1x1 : Shape := ⟨6, ![1, 16, 128, 16, 1, 1]⟩
abbrev S1x16x128x16x16x64 : Shape := ⟨6, ![1, 16, 128, 16, 16, 64]⟩
abbrev S1x16x1x128x16x64 : Shape := ⟨6, ![1, 16, 1, 128, 16, 64]⟩
abbrev S16x128x16x16x64x1 : Shape := ⟨6, ![16, 128, 16, 16, 64, 1]⟩
abbrev S1x1x1x1x1x1 : Shape := ⟨6, ![1, 1, 1, 1, 1, 1]⟩
abbrev S16x128x16x16x64 : Shape := ⟨5, ![16, 128, 16, 16, 64]⟩
abbrev S1x16x128x256x64 : Shape := ⟨5, ![1, 16, 128, 256, 64]⟩
abbrev S1x16x128x16x256 : Shape := ⟨5, ![1, 16, 128, 16, 256]⟩
abbrev S1x16x128x16x1 : Shape := ⟨5, ![1, 16, 128, 16, 1]⟩
abbrev S128 : Shape := ⟨1, ![128]⟩
abbrev S128x1 : Shape := ⟨2, ![128, 1]⟩
abbrev S128x512 : Shape := ⟨2, ![128, 512]⟩
abbrev S128x512x1 : Shape := ⟨3, ![128, 512, 1]⟩
abbrev S1x16x128x512x64 : Shape := ⟨5, ![1, 16, 128, 512, 64]⟩
abbrev S1x16x128x16x512 : Shape := ⟨5, ![1, 16, 128, 16, 512]⟩
abbrev S1x1x128x1x512 : Shape := ⟨5, ![1, 1, 128, 1, 512]⟩
abbrev S1x2048x3 : Shape := ⟨3, ![1, 2048, 3]⟩
abbrev S1x2048x1 : Shape := ⟨3, ![1, 2048, 1]⟩

abbrev nBuf : Space → Nat
  | .hbm => 309
  | .vmem => 0
  | .smem => 0
  | _ => 0

abbrev hbmTy0_0 (i : Nat) : BufTy := match i % 128 with
  | 0 => ⟨S1, .f32⟩
  | 1 => ⟨S_, .f32⟩
  | 2 => ⟨S1x2048x1024, .f32⟩
  | 3 => ⟨S_, .f32⟩
  | 4 => ⟨S1024x1024, .f32⟩
  | 5 => ⟨S1024, .f32⟩
  | 6 => ⟨S_, .f32⟩
  | 7 => ⟨S1024x1024, .f32⟩
  | 8 => ⟨S_, .f32⟩
  | 9 => ⟨S1024, .f32⟩
  | 10 => ⟨S_, .f32⟩
  | 11 => ⟨S1024x1024, .f32⟩
  | 12 => ⟨S_, .f32⟩
  | 13 => ⟨S1024, .f32⟩
  | 14 => ⟨S_, .f32⟩
  | 15 => ⟨S1024x1024, .f32⟩
  | 16 => ⟨S_, .f32⟩
  | 17 => ⟨S1024, .f32⟩
  | 18 => ⟨S_, .f32⟩
  | 19 => ⟨S16384x4096, .f32⟩
  | 20 => ⟨S_, .f32⟩
  | 21 => ⟨S4096, .f32⟩
  | 22 => ⟨S_, .f32⟩
  | 23 => ⟨S4096x1024, .f32⟩
  | 24 => ⟨S_, .f32⟩
  | 25 => ⟨S1024, .f32⟩
  | 26 => ⟨S_, .f32⟩
  | 27 => ⟨S1x1x16x1024, .f32⟩
  | 28 => ⟨S_, .f32⟩
  | 29 => ⟨S1024x512, .f32⟩
  | 30 => ⟨S_, .f32⟩
  | 31 => ⟨S512, .f32⟩
  | 32 => ⟨S_, .f32⟩
  | 33 => ⟨S512x3, .f32⟩
  | 34 => ⟨S_, .f32⟩
  | 35 => ⟨S3, .f32⟩
  | 36 => ⟨S2048x1024, .f32⟩
  | 37 => ⟨S2048x1024, .f32⟩
  | 38 => ⟨S1x1024, .f32⟩
  | 39 => ⟨S2048x1024, .f32⟩
  | 40 => ⟨S2048x1024, .f32⟩
  | 41 => ⟨S2048x1024, .f32⟩
  | 42 => ⟨S1x1024, .f32⟩
  | 43 => ⟨S2048x1024, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S128x16384, .f32⟩
  | 50 => ⟨S128x16384, .f32⟩
  | 51 => ⟨S256x16384, .f32⟩
  | 52 => ⟨S1x256x16x1024, .f32⟩
  | 53 => ⟨S1x256x16x1024, .f32⟩
  | 54 => ⟨S1x256x16x1024, .f32⟩
  | 55 => ⟨S256x16384, .f32⟩
  | 56 => ⟨S256x4096, .f32⟩
  | 57 => ⟨S1x4096, .f32⟩
  | 58 => ⟨S256x4096, .f32⟩
  | 59 => ⟨S256x4096, .f32⟩
  | 60 => ⟨S_, .f32⟩
  | 61 => ⟨S256x4096, .f32⟩
  | 62 => ⟨S256x4096, .f32⟩
  | 63 => ⟨S256x4096, .f32⟩
  | 64 => ⟨S_, .f32⟩
  | 65 => ⟨S256x4096, .f32⟩
  | 66 => ⟨S256x4096, .f32⟩
  | 67 => ⟨S256x4096, .f32⟩
  | 68 => ⟨S256x4096, .f32⟩
  | 69 => ⟨S256x1024, .f32⟩
  | 70 => ⟨S1x1024, .f32⟩
  | 71 => ⟨S256x1024, .f32⟩
  | 72 => ⟨S256x1024, .f32⟩
  | 73 => ⟨S2048x512, .f32⟩
  | 74 => ⟨S1x512, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S2048x512, .f32⟩
  | 81 => ⟨S_, .f32⟩
  | 82 => ⟨S2048x512, .f32⟩
  | 83 => ⟨S2048x512, .f32⟩
  | 84 => ⟨S2048x512, .f32⟩
  | 85 => ⟨S2048x512, .f32⟩
  | 86 => ⟨S2048x3, .f32⟩
  | 87 => ⟨S1x3, .f32⟩
  | 88 => ⟨S2048x3, .f32⟩
  | 89 => ⟨S2048x3, .f32⟩
  | 90 => ⟨S2048x3, .f32⟩
  | 91 => ⟨S2048x3, .f32⟩
  | 92 => ⟨S_, .f32⟩
  | 93 => ⟨S2048x3, .f32⟩
  | 94 => ⟨S2048x3, .f32⟩
  | 95 => ⟨S_, .f32⟩
  | 96 => ⟨S2048x3, .f32⟩
  | 97 => ⟨S2048x3, .f32⟩
  | 98 => ⟨S1x2048x16x64, .f32⟩
  | 99 => ⟨S1x16x2048x64, .f32⟩
  | 100 => ⟨S1x2048x16x64, .f32⟩
  | 101 => ⟨S1x16x2048x64, .f32⟩
  | 102 => ⟨S1x2048x16x64, .f32⟩
  | 103 => ⟨S1x16x2048x64, .f32⟩
  | 104 => ⟨S128x1024, .f32⟩
  | 105 => ⟨S1x128x16x64, .f32⟩
  | 106 => ⟨S1x16x128x64, .f32⟩
  | 107 => ⟨S128x1024, .f32⟩
  | 108 => ⟨S1x128x16x64, .f32⟩
  | 109 => ⟨S1x16x128x64, .f32⟩
  | 110 => ⟨S1x16x2048x128, .f32⟩
  | 111 => ⟨S_, .f32⟩
  | 112 => ⟨S1x16x2048x128, .f32⟩
  | 113 => ⟨S1x16x2048x128, .f32⟩
  | 114 => ⟨S_, .f32⟩
  | 115 => ⟨S1x16x2048, .f32⟩
  | 116 => ⟨S_, .f32⟩
  | 117 => ⟨S1x16x2048, .f32⟩
  | 118 => ⟨S1x16x2048, .f32⟩
  | 119 => ⟨S1x16x2048x1, .f32⟩
  | 120 => ⟨S1x16x2048x128, .f32⟩
  | 121 => ⟨S1x16x2048x128, .f32⟩
  | 122 => ⟨S1x16x2048x128, .f32⟩
  | 123 => ⟨S_, .f32⟩
  | 124 => ⟨S1x16x2048, .f32⟩
  | 125 => ⟨S1x16x2048x1, .f32⟩
  | 126 => ⟨S1x16x2048x128, .f32⟩
  | 127 => ⟨S1x16x2048x128, .f32⟩
  | _ => ⟨S1, .f32⟩

abbrev hbmTy0_1 (i : Nat) : BufTy := match i % 128 with
  | 0 => ⟨S1x16x2048x64, .f32⟩
  | 1 => ⟨S1x16x128x16x128, .f32⟩
  | 2 => ⟨S_, .f32⟩
  | 3 => ⟨S1x16x128x128, .f32⟩
  | 4 => ⟨S_, .f32⟩
  | 5 => ⟨S1x16x128x128, .f32⟩
  | 6 => ⟨S1x16x128x128, .f32⟩
  | 7 => ⟨S1x16x128x16, .f32⟩
  | 8 => ⟨S1x16x128x16, .i32⟩
  | 9 => ⟨S1x16x128x16x64, .f32⟩
  | 10 => ⟨S1x16x128x16x64, .f32⟩
  | 11 => ⟨S1x16x128x16x1x1, .i32⟩
  | 12 => ⟨S1x16x128x16x16x64, .i32⟩
  | 13 => ⟨S1x16x1x128x16x64, .f32⟩
  | 14 => ⟨S_, .i32⟩
  | 15 => ⟨S1x16x128x16x16x64, .i32⟩
  | 16 => ⟨S1x16x128x16x16x64, .i1⟩
  | 17 => ⟨S_, .i32⟩
  | 18 => ⟨S1x16x128x16x16x64, .i32⟩
  | 19 => ⟨S1x16x128x16x16x64, .i32⟩
  | 20 => ⟨S1x16x128x16x16x64, .i32⟩
  | 21 => ⟨S16x128x16x16x64x1, .i32⟩
  | 22 => ⟨S1x16x128x16x64, .f32⟩
  | 23 => ⟨S1, .i32⟩
  | 24 => ⟨S_, .i32⟩
  | 25 => ⟨S16x128x16x16x64x1, .i32⟩
  | 26 => ⟨S16x128x16x16x64x1, .i1⟩
  | 27 => ⟨S1x1x1x1x1x1, .i32⟩
  | 28 => ⟨S16x128x16x16x64x1, .i32⟩
  | 29 => ⟨S16x128x16x16x64x1, .i1⟩
  | 30 => ⟨S16x128x16x16x64x1, .i1⟩
  | 31 => ⟨S_, .i1⟩
  | 32 => ⟨S16x128x16x16x64, .i1⟩
  | 33 => ⟨S1x16x128x16x16x64, .f32⟩
  | 34 => ⟨S1x16x128x16x16x64, .i1⟩
  | 35 => ⟨S_, .f32⟩
  | 36 => ⟨S1x16x128x16x16x64, .f32⟩
  | 37 => ⟨S1x16x128x16x16x64, .f32⟩
  | 38 => ⟨S1x16x128x256x64, .f32⟩
  | 39 => ⟨S1x16x1x128x16x64, .f32⟩
  | 40 => ⟨S_, .i32⟩
  | 41 => ⟨S1x16x128x16x16x64, .i32⟩
  | 42 => ⟨S1x16x128x16x16x64, .i1⟩
  | 43 => ⟨S_, .i32⟩
  | 44 => ⟨S1x16x128x16x16x64, .i32⟩
  | 45 => ⟨S1x16x128x16x16x64, .i32⟩
  | 46 => ⟨S1x16x128x16x16x64, .i32⟩
  | 47 => ⟨S16x128x16x16x64x1, .i32⟩
  | 48 => ⟨S1x16x128x16x64, .f32⟩
  | 49 => ⟨S1, .i32⟩
  | 50 => ⟨S_, .i32⟩
  | 51 => ⟨S16x128x16x16x64x1, .i32⟩
  | 52 => ⟨S16x128x16x16x64x1, .i1⟩
  | 53 => ⟨S1x1x1x1x1x1, .i32⟩
  | 54 => ⟨S16x128x16x16x64x1, .i32⟩
  | 55 => ⟨S16x128x16x16x64x1, .i1⟩
  | 56 => ⟨S16x128x16x16x64x1, .i1⟩
  | 57 => ⟨S_, .i1⟩
  | 58 => ⟨S16x128x16x16x64, .i1⟩
  | 59 => ⟨S1x16x128x16x16x64, .f32⟩
  | 60 => ⟨S1x16x128x16x16x64, .i1⟩
  | 61 => ⟨S_, .f32⟩
  | 62 => ⟨S1x16x128x16x16x64, .f32⟩
  | 63 => ⟨S1x16x128x16x16x64, .f32⟩
  | 64 => ⟨S1x16x128x256x64, .f32⟩
  | 65 => ⟨S1x16x128x16x64, .f32⟩
  | 66 => ⟨S1x16x128x16x256, .f32⟩
  | 67 => ⟨S_, .f32⟩
  | 68 => ⟨S1x16x128x16x256, .f32⟩
  | 69 => ⟨S1x16x128x16x256, .f32⟩
  | 70 => ⟨S_, .f32⟩
  | 71 => ⟨S1x16x128x16, .f32⟩
  | 72 => ⟨S_, .f32⟩
  | 73 => ⟨S1x16x128x16, .f32⟩
  | 74 => ⟨S1x16x128x16, .f32⟩
  | 75 => ⟨S1x16x128x16x1, .f32⟩
  | 76 => ⟨S1x16x128x16x256, .f32⟩
  | 77 => ⟨S1x16x128x16x256, .f32⟩
  | 78 => ⟨S1x16x128x16x256, .f32⟩
  | 79 => ⟨S_, .f32⟩
  | 80 => ⟨S1x16x128x16, .f32⟩
  | 81 => ⟨S1x16x128x16x1, .f32⟩
  | 82 => ⟨S1x16x128x16x256, .f32⟩
  | 83 => ⟨S1x16x128x16x256, .f32⟩
  | 84 => ⟨S1x16x128x16x64, .f32⟩
  | 85 => ⟨S1x16x2048x64, .f32⟩
  | 86 => ⟨S128, .i32⟩
  | 87 => ⟨S_, .i32⟩
  | 88 => ⟨S128, .i32⟩
  | 89 => ⟨S128, .i32⟩
  | 90 => ⟨S_, .i32⟩
  | 91 => ⟨S128, .i32⟩
  | 92 => ⟨S128, .i32⟩
  | 93 => ⟨S128x1, .i32⟩
  | 94 => ⟨S_, .i32⟩
  | 95 => ⟨S128x1, .i32⟩
  | 96 => ⟨S128x1, .i32⟩
  | 97 => ⟨S512, .i32⟩
  | 98 => ⟨S1x512, .i32⟩
  | 99 => ⟨S128x512, .i32⟩
  | 100 => ⟨S128x512, .i32⟩
  | 101 => ⟨S128x512, .i32⟩
  | 102 => ⟨S_, .i32⟩
  | 103 => ⟨S128x512, .i32⟩
  | 104 => ⟨S128x512, .i1⟩
  | 105 => ⟨S_, .i32⟩
  | 106 => ⟨S_, .i32⟩
  | 107 => ⟨S_, .i32⟩
  | 108 => ⟨S128x512, .i32⟩
  | 109 => ⟨S128x512, .i32⟩
  | 110 => ⟨S_, .i32⟩
  | 111 => ⟨S128x512, .i32⟩
  | 112 => ⟨S128x512, .i32⟩
  | 113 => ⟨S_, .i32⟩
  | 114 => ⟨S128x512, .i32⟩
  | 115 => ⟨S128x512, .i1⟩
  | 116 => ⟨S_, .i32⟩
  | 117 => ⟨S128x512, .i32⟩
  | 118 => ⟨S128x512, .i32⟩
  | 119 => ⟨S128x512, .i32⟩
  | 120 => ⟨S128x512x1, .i32⟩
  | 121 => ⟨S1x16x128x512x64, .f32⟩
  | 122 => ⟨S_, .i32⟩
  | 123 => ⟨S128x512, .i32⟩
  | 124 => ⟨S128x512, .i1⟩
  | 125 => ⟨S_, .i32⟩
  | 126 => ⟨S128x512, .i32⟩
  | 127 => ⟨S128x512, .i32⟩
  | _ => ⟨S1, .f32⟩

abbrev hbmTy0_2 (i : Nat) : BufTy := match i % 128 with
  | 0 => ⟨S128x512, .i32⟩
  | 1 => ⟨S128x512x1, .i32⟩
  | 2 => ⟨S1x16x128x512x64, .f32⟩
  | 3 => ⟨S1x16x128x16x512, .f32⟩
  | 4 => ⟨S_, .f32⟩
  | 5 => ⟨S1x16x128x16x512, .f32⟩
  | 6 => ⟨S1x16x128x16x512, .f32⟩
  | 7 => ⟨S1x1x128x1x512, .i1⟩
  | 8 => ⟨S_, .f32⟩
  | 9 => ⟨S_, .f32⟩
  | 10 => ⟨S1x16x128x16x512, .i1⟩
  | 11 => ⟨S1x16x128x16x512, .f32⟩
  | 12 => ⟨S1x16x128x16x512, .f32⟩
  | 13 => ⟨S_, .f32⟩
  | 14 => ⟨S1x16x128x16, .f32⟩
  | 15 => ⟨S_, .f32⟩
  | 16 => ⟨S1x16x128x16, .f32⟩
  | 17 => ⟨S1x16x128x16, .f32⟩
  | 18 => ⟨S1x16x128x16x1, .f32⟩
  | 19 => ⟨S1x16x128x16x512, .f32⟩
  | 20 => ⟨S1x16x128x16x512, .f32⟩
  | 21 => ⟨S1x16x128x16x512, .f32⟩
  | 22 => ⟨S_, .f32⟩
  | 23 => ⟨S1x16x128x16, .f32⟩
  | 24 => ⟨S1x16x128x16x1, .f32⟩
  | 25 => ⟨S1x16x128x16x512, .f32⟩
  | 26 => ⟨S1x16x128x16x512, .f32⟩
  | 27 => ⟨S1x16x128x16x64, .f32⟩
  | 28 => ⟨S1x16x2048x64, .f32⟩
  | 29 => ⟨S1x2048x3, .f32⟩
  | 30 => ⟨S1x2048x1, .f32⟩
  | 31 => ⟨S1x2048x16x64, .f32⟩
  | 32 => ⟨S1x2048x1024, .f32⟩
  | 33 => ⟨S1x2048x1024, .f32⟩
  | 34 => ⟨S1x2048x1024, .f32⟩
  | 35 => ⟨S1x2048x1, .f32⟩
  | 36 => ⟨S1x2048x16x64, .f32⟩
  | 37 => ⟨S1x2048x1024, .f32⟩
  | 38 => ⟨S1x2048x1024, .f32⟩
  | 39 => ⟨S1x2048x1024, .f32⟩
  | 40 => ⟨S1x2048x1024, .f32⟩
  | 41 => ⟨S1x2048x1, .f32⟩
  | 42 => ⟨S1x2048x16x64, .f32⟩
  | 43 => ⟨S1x2048x1024, .f32⟩
  | 44 => ⟨S1x2048x1024, .f32⟩
  | 45 => ⟨S1x2048x1024, .f32⟩
  | 46 => ⟨S1x2048x1024, .f32⟩
  | 47 => ⟨S2048x1024, .f32⟩
  | 48 => ⟨S2048x1024, .f32⟩
  | 49 => ⟨S1x1024, .f32⟩
  | 50 => ⟨S2048x1024, .f32⟩
  | 51 => ⟨S2048x1024, .f32⟩
  | 52 => ⟨S1x2048x1024, .f32⟩
  | _ => ⟨S1, .f32⟩

abbrev hbmTy (i : Nat) : BufTy := match i / 128 with
  | 0 => hbmTy0_0 i
  | 1 => hbmTy0_1 i
  | 2 => hbmTy0_2 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_cst_3 : Ref sig .tc := ⟨.hbm, 10, rfl⟩
abbrev main_v5 : Ref sig .tc := ⟨.hbm, 11, rfl⟩
abbrev main_cst_4 : Ref sig .tc := ⟨.hbm, 12, rfl⟩
abbrev main_v6 : Ref sig .tc := ⟨.hbm, 13, rfl⟩
abbrev main_cst_5 : Ref sig .tc := ⟨.hbm, 14, rfl⟩
abbrev main_v7 : Ref sig .tc := ⟨.hbm, 15, rfl⟩
abbrev main_cst_6 : Ref sig .tc := ⟨.hbm, 16, rfl⟩
abbrev main_v8 : Ref sig .tc := ⟨.hbm, 17, rfl⟩
abbrev main_cst_7 : Ref sig .tc := ⟨.hbm, 18, rfl⟩
abbrev main_v9 : Ref sig .tc := ⟨.hbm, 19, rfl⟩
abbrev main_cst_8 : Ref sig .tc := ⟨.hbm, 20, rfl⟩
abbrev main_v10 : Ref sig .tc := ⟨.hbm, 21, rfl⟩
abbrev main_cst_9 : Ref sig .tc := ⟨.hbm, 22, rfl⟩
abbrev main_v11 : Ref sig .tc := ⟨.hbm, 23, rfl⟩
abbrev main_cst_10 : Ref sig .tc := ⟨.hbm, 24, rfl⟩
abbrev main_v12 : Ref sig .tc := ⟨.hbm, 25, rfl⟩
abbrev main_cst_11 : Ref sig .tc := ⟨.hbm, 26, rfl⟩
abbrev main_v13 : Ref sig .tc := ⟨.hbm, 27, rfl⟩
abbrev main_cst_12 : Ref sig .tc := ⟨.hbm, 28, rfl⟩
abbrev main_v14 : Ref sig .tc := ⟨.hbm, 29, rfl⟩
abbrev main_cst_13 : Ref sig .tc := ⟨.hbm, 30, rfl⟩
abbrev main_v15 : Ref sig .tc := ⟨.hbm, 31, rfl⟩
abbrev main_cst_14 : Ref sig .tc := ⟨.hbm, 32, rfl⟩
abbrev main_v16 : Ref sig .tc := ⟨.hbm, 33, rfl⟩
abbrev main_cst_15 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_16 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_17 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_18 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_19 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_20 : Ref sig .tc := ⟨.hbm, 92, rfl⟩
abbrev main_v70 : Ref sig .tc := ⟨.hbm, 93, rfl⟩
abbrev main_v71 : Ref sig .tc := ⟨.hbm, 94, rfl⟩
abbrev main_cst_21 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_22 : Ref sig .tc := ⟨.hbm, 111, rfl⟩
abbrev main_v87 : Ref sig .tc := ⟨.hbm, 112, rfl⟩
abbrev main_v88 : Ref sig .tc := ⟨.hbm, 113, rfl⟩
abbrev main_cst_23 : Ref sig .tc := ⟨.hbm, 114, rfl⟩
abbrev main_v89 : Ref sig .tc := ⟨.hbm, 115, rfl⟩
abbrev main_cst_24 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_25 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_26 : Ref sig .tc := ⟨.hbm, 130, rfl⟩
abbrev main_v102 : Ref sig .tc := ⟨.hbm, 131, rfl⟩
abbrev main_cst_27 : Ref sig .tc := ⟨.hbm, 132, rfl⟩
abbrev main_v103 : Ref sig .tc := ⟨.hbm, 133, rfl⟩
abbrev main_v104 : Ref sig .tc := ⟨.hbm, 134, rfl⟩
abbrev main_values : Ref sig .tc := ⟨.hbm, 135, rfl⟩
abbrev main_indices : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_call0_c : Ref sig .tc := ⟨.hbm, 142, rfl⟩
abbrev main_call0_v0 : Ref sig .tc := ⟨.hbm, 143, rfl⟩
abbrev main_call0_v1 : Ref sig .tc := ⟨.hbm, 144, rfl⟩
abbrev main_call0_c_0 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_v5 : Ref sig .tc := ⟨.hbm, 149, rfl⟩
abbrev main_call0_v6 : Ref sig .tc := ⟨.hbm, 150, rfl⟩
abbrev main_call0_c_1 : Ref sig .tc := ⟨.hbm, 151, rfl⟩
abbrev main_call0_c_2 : Ref sig .tc := ⟨.hbm, 152, rfl⟩
abbrev main_call0_v7 : Ref sig .tc := ⟨.hbm, 153, rfl⟩
abbrev main_call0_v8 : Ref sig .tc := ⟨.hbm, 154, rfl⟩
abbrev main_call0_v9 : Ref sig .tc := ⟨.hbm, 155, rfl⟩
abbrev main_call0_v10 : Ref sig .tc := ⟨.hbm, 156, rfl⟩
abbrev main_call0_v11 : Ref sig .tc := ⟨.hbm, 157, rfl⟩
abbrev main_call0_v12 : Ref sig .tc := ⟨.hbm, 158, rfl⟩
abbrev main_call0_c_3 : Ref sig .tc := ⟨.hbm, 159, rfl⟩
abbrev main_call0_v13 : Ref sig .tc := ⟨.hbm, 160, rfl⟩
abbrev main_call0_v14 : Ref sig .tc := ⟨.hbm, 161, rfl⟩
abbrev main_call0_v15 : Ref sig .tc := ⟨.hbm, 162, rfl⟩
abbrev main_call0_cst : Ref sig .tc := ⟨.hbm, 163, rfl⟩
abbrev main_call0_v16 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_call1_c : Ref sig .tc := ⟨.hbm, 168, rfl⟩
abbrev main_call1_v0 : Ref sig .tc := ⟨.hbm, 169, rfl⟩
abbrev main_call1_v1 : Ref sig .tc := ⟨.hbm, 170, rfl⟩
abbrev main_call1_c_0 : Ref sig .tc := ⟨.hbm, 171, rfl⟩
abbrev main_call1_v2 : Ref sig .tc := ⟨.hbm, 172, rfl⟩
abbrev main_call1_v3 : Ref sig .tc := ⟨.hbm, 173, rfl⟩
abbrev main_call1_v4 : Ref sig .tc := ⟨.hbm, 174, rfl⟩
abbrev main_call1_v5 : Ref sig .tc := ⟨.hbm, 175, rfl⟩
abbrev main_call1_v6 : Ref sig .tc := ⟨.hbm, 176, rfl⟩
abbrev main_call1_c_1 : Ref sig .tc := ⟨.hbm, 177, rfl⟩
abbrev main_call1_c_2 : Ref sig .tc := ⟨.hbm, 178, rfl⟩
abbrev main_call1_v7 : Ref sig .tc := ⟨.hbm, 179, rfl⟩
abbrev main_call1_v8 : Ref sig .tc := ⟨.hbm, 180, rfl⟩
abbrev main_call1_v9 : Ref sig .tc := ⟨.hbm, 181, rfl⟩
abbrev main_call1_v10 : Ref sig .tc := ⟨.hbm, 182, rfl⟩
abbrev main_call1_v11 : Ref sig .tc := ⟨.hbm, 183, rfl⟩
abbrev main_call1_v12 : Ref sig .tc := ⟨.hbm, 184, rfl⟩
abbrev main_call1_c_3 : Ref sig .tc := ⟨.hbm, 185, rfl⟩
abbrev main_call1_v13 : Ref sig .tc := ⟨.hbm, 186, rfl⟩
abbrev main_call1_v14 : Ref sig .tc := ⟨.hbm, 187, rfl⟩
abbrev main_call1_v15 : Ref sig .tc := ⟨.hbm, 188, rfl⟩
abbrev main_call1_cst : Ref sig .tc := ⟨.hbm, 189, rfl⟩
abbrev main_call1_v16 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_cst_28 : Ref sig .tc := ⟨.hbm, 195, rfl⟩
abbrev main_v117 : Ref sig .tc := ⟨.hbm, 196, rfl⟩
abbrev main_v118 : Ref sig .tc := ⟨.hbm, 197, rfl⟩
abbrev main_cst_29 : Ref sig .tc := ⟨.hbm, 198, rfl⟩
abbrev main_v119 : Ref sig .tc := ⟨.hbm, 199, rfl⟩
abbrev main_cst_30 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_cst_31 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_c : Ref sig .tc := ⟨.hbm, 215, rfl⟩
abbrev main_v133 : Ref sig .tc := ⟨.hbm, 216, rfl⟩
abbrev main_v134 : Ref sig .tc := ⟨.hbm, 217, rfl⟩
abbrev main_c_32 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_c_33 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_c_34 : Ref sig .tc := ⟨.hbm, 230, rfl⟩
abbrev main_v145 : Ref sig .tc := ⟨.hbm, 231, rfl⟩
abbrev main_v146 : Ref sig .tc := ⟨.hbm, 232, rfl⟩
abbrev main_c_35 : Ref sig .tc := ⟨.hbm, 233, rfl⟩
abbrev main_c_36 : Ref sig .tc := ⟨.hbm, 234, rfl⟩
abbrev main_call2_v0 : Ref sig .tc := ⟨.hbm, 235, rfl⟩
abbrev main_call2_v1 : Ref sig .tc := ⟨.hbm, 236, rfl⟩
abbrev main_call2_v2 : Ref sig .tc := ⟨.hbm, 237, rfl⟩
abbrev main_call2_v3 : Ref sig .tc := ⟨.hbm, 238, rfl⟩
abbrev main_call2_v4 : Ref sig .tc := ⟨.hbm, 239, rfl⟩
abbrev main_v147 : Ref sig .tc := ⟨.hbm, 240, rfl⟩
abbrev main_c_37 : Ref sig .tc := ⟨.hbm, 241, rfl⟩
abbrev main_v148 : Ref sig .tc := ⟨.hbm, 242, rfl⟩
abbrev main_v149 : Ref sig .tc := ⟨.hbm, 243, rfl⟩
abbrev main_c_38 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_c_39 : Ref sig .tc := ⟨.hbm, 250, rfl⟩
abbrev main_v155 : Ref sig .tc := ⟨.hbm, 251, rfl⟩
abbrev main_v156 : Ref sig .tc := ⟨.hbm, 252, rfl⟩
abbrev main_c_40 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_41 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_42 : Ref sig .tc := ⟨.hbm, 264, rfl⟩
abbrev main_call3_v0 : Ref sig .tc := ⟨.hbm, 265, rfl⟩
abbrev main_call3_v1 : Ref sig .tc := ⟨.hbm, 266, rfl⟩
abbrev main_call3_v2 : Ref sig .tc := ⟨.hbm, 267, rfl⟩
abbrev main_v166 : Ref sig .tc := ⟨.hbm, 268, rfl⟩
abbrev main_cst_43 : Ref sig .tc := ⟨.hbm, 269, rfl⟩
abbrev main_v167 : Ref sig .tc := ⟨.hbm, 270, rfl⟩
abbrev main_cst_44 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_cst_45 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩

abbrev nD : Nat := 1
abbrev τ : Topo := Topo.v7x

variable {F : FTy → Type} [FloatOps F]
-- ==== Proof.Common.lean ====
/-
  Facts shared by the value proofs of the linear layers: a matrix product and a row bias read at an index, a sum over
  consecutive blocks taken as one sum, and the exact GELU in its two spellings.
-/
module

public import Idealize.ShloMosaic.Lib.MatmulPlain
public import Idealize.ShloMosaic.Lib.Pipeline.Value
public import Idealize.ShloMosaic.Lib.ValueIdx
public import Idealize.ShloMosaic.PureOps.Ideal.Laws

@[expose] public section

noncomputable section

namespace Cert.Common

open Idealize.ShloMosaic Idealize.ShloMosaic.ValueIdx
open scoped BigOperators

/-- The zero offsets of a rank-two rectangle. -/
theorem off2 : (![0, 0] : Fin 2 → Nat) = fun _ => 0 := funext fun a => by fin_cases a <;> rfl

/-- A plain product into zeros, read at row `r` and column `c`. -/
theorem plain_zero {M K N : ℕ} (prec : Option ContractPrecision) (L : FVec Ideal ⟨2, ![M, K]⟩ .f32)
    (R : FVec Ideal ⟨2, ![K, N]⟩ .f32) (j : (⟨2, ![M, N]⟩ : Shape).Idx) :
    matmul (DotDims.plain M K N) prec L R (constant ⟨2, ![M, N]⟩ .f32 0x00000000#32) j
      = ∑ k : Fin K, L (ix2 (j 0) k) * R (ix2 k (j 1)) := by
  obtain ⟨r, c, rfl⟩ : ∃ r c, j = ix2 r c := ⟨j 0, j 1, eq_ix2 j⟩
  show FloatOps.matmul _ _ _ _ _ _ = _
  rw [Ideal.matmul_plain_apply]
  show Ideal.ofBits .f32 0x00000000#32 + _ = _
  rw [Ideal.ofBits_zero_f32, zero_add]
  rfl

/-- A row laid over the rows of a block, read at an index. -/
theorem row_apply {M N : ℕ} (hN : N ≠ 1) (b : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (j : (⟨2, ![M, N]⟩ : Shape).Idx) :
    broadcastTo ⟨2, ![M, N]⟩ (shapeCast ⟨2, ![1, N]⟩ b hs) hb j = b (ix2 0 (j 1)) := by
  rw [shapeCast_self]
  refine broadcastTo_apply b hb j (ix2 0 (j 1)) fun a => ?_
  match a with
  | ⟨0, _⟩ => rfl
  | ⟨1, _⟩ => exact (if_neg hN).symm

/-- A vector viewed as a one-row matrix, read at an index. -/
theorem asRow_apply {N : ℕ} (b : FVec Ideal ⟨1, ![N]⟩ .f32) (h : (⟨1, ![N]⟩ : Shape).ShapeCasts ⟨2, ![1, N]⟩)
    (j : (⟨2, ![1, N]⟩ : Shape).Idx) : shapeCast ⟨2, ![1, N]⟩ b h j = b (ix1 (j 1)) := by
  rw [shapeCast_addUnit_apply (n := 1) ![N] b h j]
  exact congrArg b (funext fun a => by fin_cases a; rfl)

/-- The plain product of two matrices and a row bias: the linear layer's mathematics. -/
def affine {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

/-- `n` consecutive blocks of `w` terms are the first `n * w` terms. -/
theorem sum_blocks (n w : ℕ) (f : ℕ → EReal) :
    ∑ s ∈ Finset.range n, ∑ k : Fin w, f (s * w + k.val) = ∑ k : Fin (n * w), f k.val := by
  rw [Fin.sum_univ_eq_sum_range (fun i => f i), Nat.mul_comm n w]
  induction n with
  | zero => simp
  | succ n ih =>
    rw [Finset.sum_range_succ, ih, Nat.mul_succ, Finset.sum_range_add, Fin.sum_univ_eq_sum_range (fun i => f (n * w + i)), Nat.mul_comm n w]

/-- Term `i` of a row times a column, zero past the inner axis. -/
def term {M K N : ℕ} (x : (⟨2, ![M, K]⟩ : Shape).Idx → EReal) (w : (⟨2, ![K, N]⟩ : Shape).Idx → EReal) (r : Fin M) (c : Fin N) (i : ℕ) : EReal :=
  if h : i < K then x (ix2 r ⟨i, h⟩) * w (ix2 ⟨i, h⟩ c) else 0

/-- A row times a column, taken in blocks of consecutive terms. -/
theorem sum_terms {M K N : ℕ} (n q : ℕ) (hK : n * q = K) (x : (⟨2, ![M, K]⟩ : Shape).Idx → EReal) (w : (⟨2, ![K, N]⟩ : Shape).Idx → EReal)
    (r : Fin M) (c : Fin N) :
    ∑ s ∈ Finset.range n, ∑ k : Fin q, term x w r c (s * q + k.val) = ∑ k : Fin K, x (ix2 r k) * w (ix2 k c) := by
  subst hK
  rw [sum_blocks n q (term x w r c)]
  exact Finset.sum_congr rfl fun k _ => dif_pos k.isLt

/-- The exact GELU, `x/2 · erfc(-x/√2)`, with the two constants as the programs hold them. -/
def gelu (x : EReal) : EReal :=
  Ideal.ofBits .f32 0x3F000000#32 * x * Ideal.erfc (-x * Ideal.ofBits .f32 0x3F3504F3#32)

/-- The same from the error function. -/
theorem gelu_eq (x : EReal) :
    x * Ideal.ofBits .f32 0x3F000000#32 * (Ideal.ofBits .f32 0x3F800000#32 + Ideal.erf (x * Ideal.ofBits .f32 0x3F3504F3#32)) = gelu x := by
  have h1 : Ideal.ofBits .f32 0x3F800000#32 = 1 := IdealRules.sign_bit.ideal_onePat .f32
  rw [gelu, h1, neg_mul, Ideal.erfc_neg, mul_comm x]

end Cert.Common

end
-- ==== Proof.Proj.lean ====
/-
  The projection: one call of the kernel's blocked product, `x @ W + b`, and the plain product of the reference. A grid
  point computes one 256 by 512 block of the result over the whole inner axis.
-/
module

public import proofs.«01_k».proof.Defs
public import proofs.«01_k».proof.Proof.Common
public import proofs.«01_k».proof.Proof.Gen.ProjIdeal.Value
public import proofs.«01_k».proof.Proof.Gen.ProjRefIdeal.Read
public import Idealize.ShloMosaic.Lib.StableHlo.Run
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.ProjIdeal.Exact

open Cert.ProjIdeal Cert.ProjIdeal.Gen Cert.Common

/-- What a point leaves in its output block. -/
theorem out_A {F : FTy → Type} [FloatOps F] (c : Dev nD) (i : grid0.Coords)
    (a3 : Memref sig .tc .vmem S256x1024 .f32) (h3 : a3.IsWhole)
    (a4 : Memref sig .tc .vmem S1024x512 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : cond0_0 i) (hc1 : cond0_1 i) (x : Vec F S256x1024 .f32) (w : Vec F S1024x512 .f32) (b : Vec F S1x512 .f32) :
    out0_A_3 c i a3 h3 a4 h4 a5 h5 a6 h6 a7 h7 hc0 hc1 x w b = k0_pay3 (k0_pay2 x (k0_pay1 (F := F)) w) b := by
  unfold out0_A_3
  rw [View.read_writes_eq_canon _ _ _ (cover0_A_3 c i a3 h3 a4 h4 a5 h5 a6 h6 a7 h7 hc0 hc1 x w b)]
  unfold kernelRun0_A
  dsimp only
  sl_unfold_words
  rw [View.canon_unit_zero off2]
  rw [View.readCov_cons_toLoadRect]
  simp only [View.readCov_unit_zero (S := S256x512) _ off2, View.readAt_eq_ld, h3.read_unread, h4.read_unread, h5.read_unread,
    View.ld_unit_zero (S := S256x1024) off2, View.ld_unit_zero (S := S1024x512) off2, View.ld_unit_zero (S := S1x512) off2, View.canon_cons_unit_zero (S := S256x512) off2]

/-- The block's element: the product over the whole inner axis, and the bias. -/
theorem pay_apply (x : Vec Ideal S256x1024 .f32) (w : Vec Ideal S1024x512 .f32) (b : Vec Ideal S1x512 .f32) (j : S256x512.Idx) :
    k0_pay3 (F := Ideal) (k0_pay2 x (k0_pay1 (F := Ideal)) w) b j
      = (∑ k : Fin 1024, x (ix2 (j 0) k) * w (ix2 k (j 1))) + b (ix2 0 (j 1)) := by
  unfold k0_pay3 k0_pay2 k0_pay1
  simp only [shapeCast_self, addf_apply]
  have e1 := plain_zero none x w j
  have e2 := row_apply (M := 256) (N := 512) (by decide) b shapeCasts_S1x512_S1x512 broadcasts_S1x512_S256x512 j
  rw [shapeCast_self] at e2
  refine congrArg₂ (· + ·) ?_ e2
  refine Eq.trans ?_ e1
  show Ideal.ofBits .f32 0x00000000#32 + _ = _
  rw [Ideal.ofBits_zero_f32, zero_add]
  rfl

variable (m : (ℓ : Loc nD τ sig) → Buf (Elt Ideal) ℓ) (ρ : Dev nD → PrngReg)

/-- The bias as the call reads it: one row. -/
theorem V_row (c : Dev nD) (j : S1x1024.Idx) :
    V (F := Ideal) m c main_v0 j = m ((c : Thread nD τ).loc main_arg2) (ix1 (j 1)) := by
  have e : V (F := Ideal) m c main_v0 = shapeCast S1x1024 (m ((c : Thread nD τ).loc main_arg2)) shapeCasts_S1024_S1x1024 := by
    unfold V
    after_results
    rfl
  rw [e]
  exact asRow_apply (N := 1024) _ _ j

/-- What the call computes: each element of the product plus its column's bias. -/
def result (c : Dev nD) : Buf (Elt Ideal) ((c : Thread nD τ).loc main_v1) :=
  affine (M := 2048) (K := 1024) (N := 1024) (m ((c : Thread nD τ).loc main_arg0)) (m ((c : Thread nD τ).loc main_arg1)) (m ((c : Thread nD τ).loc main_arg2))

/-- Where the windows of a point lie. -/
theorem idx_at : ∀ t : Fin cfg0.N, win0_0.index t 0 = win0_3.index t 0 ∧ win0_0.index t 1 = 0 ∧ win0_1.index t 0 = 0
    ∧ win0_1.index t 1 = win0_3.index t 1 ∧ win0_2.index t 0 = 0 ∧ win0_2.index t 1 = win0_3.index t 1 :=
  (by decide +kernel : ∀ t : Fin grid0.N, _)

theorem x_at (c : Dev nD) (t : Fin cfg0.N) (j : S256x1024.Idx) (i : S2048x1024.Idx)
    (h0 : (i 0).val = win0_3.index t 0 * 256 + (j 0).val) (h1 : (i 1).val = (j 1).val) :
    (iblk m c 0 t : S256x1024.Idx → EReal) j = (m ((c : Thread nD τ).loc main_arg0) : S2048x1024.Idx → EReal) i := by
  unfold iblk
  rw [View.read_apply]
  show V m c main_arg0 _ = _
  rw [V_main_arg0]
  congr 1
  obtain ⟨e0, e1, -⟩ := idx_at t
  funext a; apply Fin.ext
  match a with
  | ⟨0, _⟩ => show win0_0.index t 0 * 256 + 1 * (j 0).val = (i 0).val; rw [e0]; omega
  | ⟨1, _⟩ => show win0_0.index t 1 * 1024 + 1 * (j 1).val = (i 1).val; rw [e1]; omega

theorem w_at (c : Dev nD) (t : Fin cfg0.N) (j : S1024x512.Idx) (i : S1024x1024.Idx)
    (h0 : (i 0).val = (j 0).val) (h1 : (i 1).val = win0_3.index t 1 * 512 + (j 1).val) :
    (iblk m c 1 t : S1024x512.Idx → EReal) j = (m ((c : Thread nD τ).loc main_arg1) : S1024x1024.Idx → EReal) i := by
  unfold iblk
  rw [View.read_apply]
  show V m c main_arg1 _ = _
  rw [V_main_arg1]
  congr 1
  obtain ⟨-, -, e0, e1, -⟩ := idx_at t
  funext a; apply Fin.ext
  match a with
  | ⟨0, _⟩ => show win0_1.index t 0 * 1024 + 1 * (j 0).val = (i 0).val; rw [e0]; omega
  | ⟨1, _⟩ => show win0_1.index t 1 * 512 + 1 * (j 1).val = (i 1).val; rw [e1]; omega

theorem b_at (c : Dev nD) (t : Fin cfg0.N) (j : S1x512.Idx) (i : S1024.Idx)
    (h1 : (i 0).val = win0_3.index t 1 * 512 + (j 1).val) :
    (iblk m c 2 t : S1x512.Idx → EReal) j = (m ((c : Thread nD τ).loc main_arg2) : S1024.Idx → EReal) i := by
  unfold iblk
  rw [View.read_apply]
  show V m c main_v0 _ = _
  rw [V_row]
  congr 1
  obtain ⟨-, -, -, -, e0, e1⟩ := idx_at t
  funext a; apply Fin.ext
  match a with
  | ⟨0, _⟩ => show win0_2.index t 1 * 512 + 1 * (j 1).val = (i 0).val; rw [e1]; omega

/-- A point writes its block of the result back. -/
theorem flushed_eq (c : Dev nD) (t : Fin cfg0.N) :
    (dats m 0 c).flushed 3 t = ((cfg0.win 3).blk t).view.read (Elt Ideal) (result m c) := by
  rw [Value.flushed3_A, out_A]
  funext j
  rw [View.read_apply]
  show k0_pay3 (F := Ideal) (k0_pay2 (iblk m c 0 t) (k0_pay1 (F := Ideal)) (iblk m c 1 t)) (iblk m c 2 t) (j : S256x512.Idx) = result m c _
  rw [pay_apply]
  unfold result affine
  have r0 : ((((cfg0.win 3).blk t).view.emb j : S2048x1024.Idx) 0).val = win0_3.index t 0 * 256 + 1 * ((j : S256x512.Idx) 0).val := rfl
  have r1 : ((((cfg0.win 3).blk t).view.emb j : S2048x1024.Idx) 1).val = win0_3.index t 1 * 512 + 1 * ((j : S256x512.Idx) 1).val := rfl
  rw [Nat.one_mul] at r0 r1
  refine congrArg₂ (· + ·) (Finset.sum_congr rfl fun k _ => congrArg₂ (· * ·) ?_ ?_) ?_
  · exact x_at m c t _ _ r0 rfl
  · exact w_at m c t _ _ rfl r1
  · exact b_at m c t _ _ r1

/-- The blocks fill the result. -/
theorem final (c : Dev nD) : (dats m 0 c).arrAt 3 cfg0.N = result m c := by
  refine (dats m 0 c).arrAt_eq_of_cover 3 (result m c) (fun t _ => flushed_eq m c t) fun (i : S2048x1024.Idx) => ?_
  have b0 : (i 0).val < 2048 := (i 0).isLt
  have b1 : (i 1).val < 1024 := (i 1).isLt
  obtain ⟨t, hf, ht0, ht1⟩ := (by decide +kernel : ∀ (a : Fin 8) (b : Fin 2), ∃ t : Fin grid0.N, (cfg0.win 3).flush t = true
    ∧ win0_3.index t 0 = a.val ∧ win0_3.index t 1 = b.val) ⟨(i 0).val / 256, by omega⟩ ⟨(i 1).val / 512, by omega⟩
  refine ⟨t, hf, ?_⟩
  show i ∈ ((View.whole main_v1).slice (win0_3.rect t)).set
  rw [View.set_slice_whole, Rect.mem_set_unit]
  intro a
  match a with
  | ⟨0, _⟩ => show win0_3.index t 0 * 256 ≤ (i 0).val ∧ (i 0).val < win0_3.index t 0 * 256 + 256
              rw [ht0]; dsimp only; constructor <;> omega
  | ⟨1, _⟩ => show win0_3.index t 1 * 512 ≤ (i 1).val ∧ (i 1).val < win0_3.index t 1 * 512 + 512
              rw [ht1]; dsimp only; constructor <;> omega

end Cert.ProjIdeal.Exact

namespace Cert.ProjRefIdeal.Exact

open Cert.ProjRefIdeal Cert.ProjRefIdeal.Gen Cert.ProjRefIdeal.Read

/-- The plain product at an index. -/
theorem ref_apply (x : S2048x1024.Idx → EReal) (w : S1024x1024.Idx → EReal) (b : S1024.Idx → EReal) (i : S2048x1024.Idx) :
    val_main_v3 (F := Ideal) x w b i = Cert.Common.affine (M := 2048) (K := 1024) (N := 1024) x w b i := by
  unfold Cert.Common.affine
  rw [val_main_v3_apply, val_main_v0_apply, val_main_v2_apply, val_main_v1_apply]
  refine congrArg₂ (· + ·) (Finset.sum_congr rfl fun k _ => congrArg₂ (· * ·) ?_ ?_) ?_
  all_goals first | refine congrArg x ?_ | refine congrArg w ?_ | refine congrArg b ?_
  all_goals funext a; fin_cases a <;> rfl

end Cert.ProjRefIdeal.Exact

namespace Cert.Proof

open Cert.Common

/-- The projection computes the plain product and bias. -/
theorem proj : algebraic_ProjIdeal_ProjRefIdeal := by
  intro m g m' g' _ h
  refine ⟨fun c => Cert.ProjIdeal.Exact.result m c, ?_, ?_⟩
  · refine (θ_run Cert.ProjIdeal.defs _ _).mono ?_ (Cert.ProjIdeal.Value.run_blocks m g)
    intro r hr c
    exact ⟨(hr c).1.trans (Cert.ProjIdeal.Exact.final m c), (hr c).2⟩
  · refine (θ_run Cert.ProjRefIdeal.defs _ _).mono ?_ (Cert.ProjRefIdeal.Value.run m' g')
    intro r hr c
    refine ⟨(hr c).1.trans ?_, (hr c).2⟩
    rw [Cert.ProjRefIdeal.Read.val_main_v3_eq]
    funext i
    obtain ⟨a0, a1, a2⟩ := h c
    rw [a0, a1, a2]
    exact Cert.ProjRefIdeal.Exact.ref_apply _ _ _ i

end Cert.Proof

end
-- ==== Proof.Hidden.lean ====
/-
  The hidden layer of the block summaries, the kernel's largest product: `gelu((t + pos) @ c1w + c1b)` over an inner axis of
  16384, taken in eight blocks of 2048 that one accumulator carries from point to point, and the reference's plain
  expression.
-/
module

public import proofs.«01_k».proof.Defs
public import proofs.«01_k».proof.Proof.Common
public import proofs.«01_k».proof.Proof.Gen.HiddenIdeal.Value
public import proofs.«01_k».proof.Proof.Gen.HiddenRefIdeal.Read
public import Idealize.ShloMosaic.Lib.StableHlo.Run
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.HiddenIdeal.Exact

open Cert.HiddenIdeal Cert.HiddenIdeal.Gen Cert.Common

section Cases
variable {F : FTy → Type} [FloatOps F]

/-- A run's first point leaves the first block's product over zeros in the accumulator. -/
theorem sout_A (c : Dev nD) (i : grid0.Coords)
    (a3 : Memref sig .tc .vmem S256x2048 .f32) (h3 : a3.IsWhole) (a4 : Memref sig .tc .vmem S2048x512 .f32) (h4 : a4.IsWhole)
    (a5 : Memref sig .tc .vmem S1x512 .f32) (h5 : a5.IsWhole) (a6 : Memref sig .tc .vmem S1x2048 .f32) (h6 : a6.IsWhole) (a7 : Memref sig .tc .vmem S256x512 .f32) (h7 : a7.IsWhole)
    (a8 : Memref sig .tc .vmem S256x512 .f32) (h8 : a8.IsWhole)
    (hc0 : cond0_0 i) (hc1 : ¬cond0_1 i) (x : Vec F S256x2048 .f32) (w : Vec F S2048x512 .f32) (b : Vec F S1x512 .f32) (p : Vec F S1x2048 .f32) :
    sout0_A_0 c i a3 h3 a4 h4 a5 h5 a6 h6 a7 h7 a8 h8 hc0 hc1 x w b p = k0_pay2 x p (k0_pay1 (F := F)) w := by
  unfold sout0_A_0
  rw [View.read_writes_eq_canon _ _ _ (scover0_A_0 c i a3 h3 a4 h4 a5 h5 a6 h6 a7 h7 a8 h8 hc0 hc1 x w b p)]
  unfold kernelRun0_A
  dsimp only
  sl_unfold_words
  rw [View.canon_cons_unit_zero (S := S256x512) off2]
  simp only [View.readCov_unit_zero (S := S256x512) _ off2, View.readAt_eq_ld, h3.read_unread, h4.read_unread, h5.read_unread, h6.read_unread, h8.read_unread,
    View.ld_unit_zero (S := S256x2048) off2, View.ld_unit_zero (S := S2048x512) off2, View.ld_unit_zero (S := S1x512) off2, View.ld_unit_zero (S := S1x2048) off2, View.ld_unit_zero (S := S256x512) off2]

/-- A later point adds its block's product to what the accumulator holds. -/
theorem sout_B (c : Dev nD) (i : grid0.Coords)
    (a3 : Memref sig .tc .vmem S256x2048 .f32) (h3 : a3.IsWhole) (a4 : Memref sig .tc .vmem S2048x512 .f32) (h4 : a4.IsWhole)
    (a5 : Memref sig .tc .vmem S1x512 .f32) (h5 : a5.IsWhole) (a6 : Memref sig .tc .vmem S1x2048 .f32) (h6 : a6.IsWhole) (a7 : Memref sig .tc .vmem S256x512 .f32) (h7 : a7.IsWhole)
    (a8 : Memref sig .tc .vmem S256x512 .f32) (h8 : a8.IsWhole)
    (hc0 : ¬cond0_0 i) (hc1 : ¬cond0_1 i) (x : Vec F S256x2048 .f32) (w : Vec F S2048x512 .f32) (b : Vec F S1x512 .f32) (p : Vec F S1x2048 .f32) (acc : Vec F S256x512 .f32) :
    sout0_B_0 c i a3 h3 a4 h4 a5 h5 a6 h6 a7 h7 a8 h8 hc0 hc1 x w b p acc = k0_pay2 x p acc w := by
  unfold sout0_B_0
  rw [View.read_writes_eq_canon _ _ _ (scover0_B_0 c i a3 h3 a4 h4 a5 h5 a6 h6 a7 h7 a8 h8 hc0 hc1 x w b p acc)]
  unfold kernelRun0_B
  dsimp only
  sl_unfold_words
  rw [View.canon_unit_zero (S := S256x512) off2]
  simp only [View.readAt_eq_ld, h3.read_unread, h4.read_unread, h5.read_unread, h6.read_unread, h8.read_unread,
    View.ld_unit_zero (S := S256x2048) off2, View.ld_unit_zero (S := S2048x512) off2, View.ld_unit_zero (S := S1x512) off2, View.ld_unit_zero (S := S1x2048) off2, View.ld_unit_zero (S := S256x512) off2]

/-- A run's last point adds its block's product and finishes the output block. -/
theorem out_C (c : Dev nD) (i : grid0.Coords)
    (a3 : Memref sig .tc .vmem S256x2048 .f32) (h3 : a3.IsWhole) (a4 : Memref sig .tc .vmem S2048x512 .f32) (h4 : a4.IsWhole)
    (a5 : Memref sig .tc .vmem S1x512 .f32) (h5 : a5.IsWhole) (a6 : Memref sig .tc .vmem S1x2048 .f32) (h6 : a6.IsWhole) (a7 : Memref sig .tc .vmem S256x512 .f32) (h7 : a7.IsWhole)
    (a8 : Memref sig .tc .vmem S256x512 .f32) (h8 : a8.IsWhole)
    (hc0 : ¬cond0_0 i) (hc1 : cond0_1 i) (x : Vec F S256x2048 .f32) (w : Vec F S2048x512 .f32) (b : Vec F S1x512 .f32) (p : Vec F S1x2048 .f32) (acc : Vec F S256x512 .f32) :
    out0_C_4 c i a3 h3 a4 h4 a5 h5 a6 h6 a7 h7 a8 h8 hc0 hc1 x w b p acc = k0_pay3 (k0_pay2 x p acc w) b := by
  unfold out0_C_4
  rw [View.read_writes_eq_canon _ _ _ (cover0_C_4 c i a3 h3 a4 h4 a5 h5 a6 h6 a7 h7 a8 h8 hc0 hc1 x w b p acc)]
  unfold kernelRun0_C
  dsimp only
  sl_unfold_words
  rw [View.canon_unit_zero (S := S256x512) off2]
  simp only [View.readCov_unit_zero (S := S256x512) _ off2, View.readAt_eq_ld, h3.read_unread, h4.read_unread, h5.read_unread, h6.read_unread, h8.read_unread,
    View.ld_unit_zero (S := S256x2048) off2, View.ld_unit_zero (S := S2048x512) off2, View.ld_unit_zero (S := S1x512) off2, View.ld_unit_zero (S := S1x2048) off2, View.ld_unit_zero (S := S256x512) off2]

end Cases

/-- A block's product. -/
def blockDot (x : S256x2048.Idx → EReal) (p : S1x2048.Idx → EReal) (w : S2048x512.Idx → EReal) (j : S256x512.Idx) : EReal :=
  ∑ k : Fin 2048, (x (ix2 (j 0) k) + p (ix2 0 k)) * w (ix2 k (j 1))

/-- A block's product added to an accumulator. -/
theorem pay2_apply (x : Vec Ideal S256x2048 .f32) (p : Vec Ideal S1x2048 .f32) (acc : Vec Ideal S256x512 .f32) (w : Vec Ideal S2048x512 .f32) (j : S256x512.Idx) :
    k0_pay2 (F := Ideal) x p acc w j = acc j + blockDot x p w j := by
  unfold k0_pay2
  have hx : (addf x (broadcastTo S256x2048 (shapeCast S1x2048 p shapeCasts_S1x2048_S1x2048) broadcasts_S1x2048_S256x2048) : FVec Ideal S256x2048 .f32)
      = fun i : S256x2048.Idx => x i + p (ix2 0 (i 1)) :=
    funext fun i => congrArg (x i + ·) (row_apply (M := 256) (N := 2048) (by decide) p shapeCasts_S1x2048_S1x2048 broadcasts_S1x2048_S256x2048 i)
  rw [hx, shapeCast_self]
  exact congrArg (acc j + ·) (plain_zero none (fun i : S256x2048.Idx => x i + p (ix2 0 (i 1))) w j)

/-- The output block's element: the GELU of the finished sum plus the bias. -/
theorem pay3_apply (a : Vec Ideal S256x512 .f32) (b : Vec Ideal S1x512 .f32) (j : S256x512.Idx) :
    k0_pay3 (F := Ideal) a b j = gelu (a j + b (ix2 0 (j 1))) := by
  unfold k0_pay3
  have e := row_apply (M := 256) (N := 512) (by decide) b shapeCasts_S1x512_S1x512 broadcasts_S1x512_S256x512 j
  rw [← e]
  exact gelu_eq _

/-- The zeros a run starts from. -/
theorem pay1_apply (j : S256x512.Idx) : k0_pay1 (F := Ideal) j = 0 := by
  unfold k0_pay1
  rw [shapeCast_self]
  exact Ideal.ofBits_zero_f32

variable (m : (ℓ : Loc nD τ sig) → Buf (Elt Ideal) ℓ) (ρ : Dev nD → PrngReg)

/-- The bias as the call reads it: one row. -/
theorem V_row (c : Dev nD) (j : S1x4096.Idx) :
    V (F := Ideal) m c main_v1 j = m ((c : Thread nD τ).loc main_arg3) (ix1 (j 1)) := by
  have e : V (F := Ideal) m c main_v1 = shapeCast S1x4096 (m ((c : Thread nD τ).loc main_arg3)) shapeCasts_S4096_S1x4096 := by
    unfold V
    after_results
    rfl
  rw [e]
  exact asRow_apply (N := 4096) _ _ j

/-- The positional row: the position's row of the table, laid end to end. -/
def pos (p : (⟨4, ![1, 1, 16, 1024]⟩ : Shape).Idx → EReal) (k : Fin 16384) : EReal :=
  p (ix4 0 0 ⟨k.val / 1024, by omega⟩ ⟨k.val % 1024, by omega⟩)

/-- The positions as the call reads them: one row. -/
theorem V_pos (c : Dev nD) (j : S1x16384.Idx) :
    V (F := Ideal) m c main_v0 j = pos (m ((c : Thread nD τ).loc main_arg1)) (j 1) := by
  have e : V (F := Ideal) m c main_v0 = shapeCast S1x16384 (m ((c : Thread nD τ).loc main_arg1)) shapeCasts_S1x1x16x1024_S1x16384 := by
    unfold V
    after_results
    rfl
  rw [e]
  unfold pos
  refine shapeCast_apply (s := S1x1x16x1024) (t := S1x16384) _ _ j _ ?_
  rw [Shape.rowMajor_val_four, Shape.rowMajor_val_two]
  have h0 : (j 0).val < 1 := (j 0).isLt
  have h1 : (j 1).val < 16384 := (j 1).isLt
  show ((0 * 1 + 0) * 16 + (j 1).val / 1024) * 1024 + (j 1).val % 1024 = (j 0).val * 16384 + (j 1).val
  omega

/-- The operand of the product: every row plus the positional row. -/
def withPos (x : (⟨2, ![256, 16384]⟩ : Shape).Idx → EReal) (p : (⟨4, ![1, 1, 16, 1024]⟩ : Shape).Idx → EReal) : (⟨2, ![256, 16384]⟩ : Shape).Idx → EReal :=
  fun i => x i + pos p (i 1)

/-- The hidden layer's mathematics. -/
def hidden (x : (⟨2, ![256, 16384]⟩ : Shape).Idx → EReal) (p : (⟨4, ![1, 1, 16, 1024]⟩ : Shape).Idx → EReal)
    (w : (⟨2, ![16384, 4096]⟩ : Shape).Idx → EReal) (b : (⟨1, ![4096]⟩ : Shape).Idx → EReal) (i : (⟨2, ![256, 4096]⟩ : Shape).Idx) : EReal :=
  gelu (affine (withPos x p) w b i)

/-- What the call computes. -/
def result (c : Dev nD) : Buf (Elt Ideal) ((c : Thread nD τ).loc main_v2) :=
  hidden (m ((c : Thread nD τ).loc main_arg0)) (m ((c : Thread nD τ).loc main_arg1)) (m ((c : Thread nD τ).loc main_arg2)) (m ((c : Thread nD τ).loc main_arg3))

/-- Where the windows of a point lie. -/
theorem idx_at : ∀ t : Fin cfg0.N, win0_0.index t 0 = 0 ∧ win0_0.index t 1 = t.val % 8 ∧ win0_1.index t 0 = t.val % 8
    ∧ win0_1.index t 1 = t.val / 8 ∧ win0_2.index t 0 = 0 ∧ win0_2.index t 1 = t.val / 8
    ∧ win0_4.index t 0 = 0 ∧ win0_4.index t 1 = t.val / 8 ∧ win0_3.index t 0 = 0 ∧ win0_3.index t 1 = t.val % 8 :=
  (by decide +kernel : ∀ t : Fin grid0.N, _)

theorem x_at (c : Dev nD) (t : Fin cfg0.N) (j : S256x2048.Idx) (i : S256x16384.Idx)
    (h0 : (i 0).val = (j 0).val) (h1 : (i 1).val = t.val % 8 * 2048 + (j 1).val) :
    (iblk m c 0 t : S256x2048.Idx → EReal) j = (m ((c : Thread nD τ).loc main_arg0) : S256x16384.Idx → EReal) i := by
  unfold iblk
  rw [View.read_apply]
  show V m c main_arg0 _ = _
  rw [V_main_arg0]
  congr 1
  obtain ⟨e0, e1, -⟩ := idx_at t
  funext a; apply Fin.ext
  match a with
  | ⟨0, _⟩ => show win0_0.index t 0 * 256 + 1 * (j 0).val = (i 0).val; rw [e0]; omega
  | ⟨1, _⟩ => show win0_0.index t 1 * 2048 + 1 * (j 1).val = (i 1).val; rw [e1]; omega

theorem w_at (c : Dev nD) (t : Fin cfg0.N) (j : S2048x512.Idx) (i : S16384x4096.Idx)
    (h0 : (i 0).val = t.val % 8 * 2048 + (j 0).val) (h1 : (i 1).val = t.val / 8 * 512 + (j 1).val) :
    (iblk m c 1 t : S2048x512.Idx → EReal) j = (m ((c : Thread nD τ).loc main_arg2) : S16384x4096.Idx → EReal) i := by
  unfold iblk
  rw [View.read_apply]
  show V m c main_arg2 _ = _
  rw [V_main_arg2]
  congr 1
  obtain ⟨-, -, e0, e1, -⟩ := idx_at t
  funext a; apply Fin.ext
  match a with
  | ⟨0, _⟩ => show win0_1.index t 0 * 2048 + 1 * (j 0).val = (i 0).val; rw [e0]; omega
  | ⟨1, _⟩ => show win0_1.index t 1 * 512 + 1 * (j 1).val = (i 1).val; rw [e1]; omega

theorem b_at (c : Dev nD) (t : Fin cfg0.N) (j : S1x512.Idx) (i : S4096.Idx)
    (h1 : (i 0).val = t.val / 8 * 512 + (j 1).val) :
    (iblk m c 2 t : S1x512.Idx → EReal) j = (m ((c : Thread nD τ).loc main_arg3) : S4096.Idx → EReal) i := by
  unfold iblk
  rw [View.read_apply]
  show V m c main_v1 _ = _
  rw [V_row]
  congr 1
  obtain ⟨-, -, -, -, e0, e1, -⟩ := idx_at t
  funext a; apply Fin.ext
  match a with
  | ⟨0, _⟩ => show win0_2.index t 1 * 512 + 1 * (j 1).val = (i 0).val; rw [e1]; omega

theorem p_at (c : Dev nD) (t : Fin cfg0.N) (j : S1x2048.Idx) (k : Fin 16384)
    (h1 : k.val = t.val % 8 * 2048 + (j 1).val) :
    (iblk m c 3 t : S1x2048.Idx → EReal) j = pos (m ((c : Thread nD τ).loc main_arg1)) k := by
  unfold iblk
  rw [View.read_apply]
  show V m c main_v0 _ = _
  rw [V_pos]
  congr 1
  obtain ⟨-, -, -, -, -, -, -, -, e0, e1⟩ := idx_at t
  apply Fin.ext
  show win0_3.index t 1 * 2048 + 1 * (j 1).val = k.val; rw [e1]; omega

/-- A point's block of the product: the terms of its stretch of the inner axis. -/
theorem block_at (c : Dev nD) (t : Fin cfg0.N) (j : S256x512.Idx) (col : Fin 4096) (hcol : col.val = t.val / 8 * 512 + (j 1).val) :
    blockDot (iblk m c 0 t) (iblk m c 3 t) (iblk m c 1 t) j
      = ∑ k : Fin 2048, term (M := 256) (K := 16384) (N := 4096) (withPos (m ((c : Thread nD τ).loc main_arg0)) (m ((c : Thread nD τ).loc main_arg1))) (m ((c : Thread nD τ).loc main_arg2)) (j 0) col (t.val % 8 * 2048 + k.val) := by
  unfold blockDot
  refine Finset.sum_congr rfl fun k _ => ?_
  have hb : t.val % 8 * 2048 + k.val < 16384 := by have := k.isLt; omega
  unfold term
  rw [dif_pos hb]
  exact congrArg₂ (· * ·) (congrArg₂ (· + ·) (x_at m c t (ix2 (j 0) k) (ix2 (j 0) ⟨t.val % 8 * 2048 + k.val, hb⟩) rfl rfl) (p_at m c t (ix2 0 k) ⟨t.val % 8 * 2048 + k.val, hb⟩ rfl))
    (w_at m c t (ix2 k (j 1)) (ix2 ⟨t.val % 8 * 2048 + k.val, hb⟩ col) rfl hcol)

/-- The accumulator after a point short of its run's last: the terms of the run's stretches so far. -/
theorem acc_at (c : Dev nD) : ∀ (n : ℕ) (h : n < cfg0.N) (hn : n % 8 ≠ 7) (j : S256x512.Idx) (col : Fin 4096)
    (hcol : col.val = n / 8 * 512 + (j 1).val),
    ((outsAt0 m c n h).2 : S256x512.Idx → EReal) j
      = ∑ s ∈ Finset.range (n % 8 + 1), ∑ k : Fin 2048, term (M := 256) (K := 16384) (N := 4096) (withPos (m ((c : Thread nD τ).loc main_arg0)) (m ((c : Thread nD τ).loc main_arg1))) (m ((c : Thread nD τ).loc main_arg2)) (j 0) col (s * 2048 + k.val) := by
  intro n
  induction n using Nat.strong_induction_on with
  | _ n ih =>
  intro h hn j col hcol
  by_cases h0 : n % 8 = 0
  · rw [outsAt0_A m c ⟨n, h⟩ h0 hn]
    dsimp only
    rw [sout_A, pay2_apply, pay1_apply, zero_add, block_at m c ⟨n, h⟩ j col hcol]
    dsimp only
    rw [h0, zero_add, Finset.sum_range_one]
  · rw [outsAt0_B m c ⟨n, h⟩ h0 hn]
    dsimp only
    have hq : (n - 1) / 8 = n / 8 := by omega
    have hr : (n - 1) % 8 + 1 = n % 8 := by omega
    rw [sout_B, pay2_apply, block_at m c ⟨n, h⟩ j col hcol, ih (n - 1) (by omega) (by omega) (by omega) j col (by rw [hq]; exact hcol), hr]
    exact (Finset.sum_range_succ _ _).symm

/-- The value a run's last point writes. -/
theorem value_at (c : Dev nD) (t : Fin cfg0.N) (hl : t.val % 8 = 7) (hp : t.val - 1 < cfg0.N) (j : S256x512.Idx) (i : S256x4096.Idx)
    (r0 : (i 0).val = (j 0).val) (r1 : (i 1).val = t.val / 8 * 512 + (j 1).val) :
    k0_pay3 (F := Ideal) (k0_pay2 (iblk m c 0 t) (iblk m c 3 t) (outsAt0 m c (t.val - 1) hp).2 (iblk m c 1 t)) (iblk m c 2 t) j
      = hidden (m ((c : Thread nD τ).loc main_arg0)) (m ((c : Thread nD τ).loc main_arg1)) (m ((c : Thread nD τ).loc main_arg2)) (m ((c : Thread nD τ).loc main_arg3)) i := by
  have hrow : (i 0 : Fin 256) = j 0 := Fin.ext r0
  have hq : (t.val - 1) / 8 = t.val / 8 := by omega
  have hr : (t.val - 1) % 8 + 1 = 7 := by omega
  rw [pay3_apply, pay2_apply, block_at m c t j (i 1) r1, acc_at m c (t.val - 1) _ (by omega) j (i 1) (by rw [hq]; exact r1), hr, hl]
  have hs : ∀ f : ℕ → EReal, (∑ s ∈ Finset.range 7, ∑ k : Fin 2048, f (s * 2048 + k.val)) + ∑ k : Fin 2048, f (7 * 2048 + k.val)
      = ∑ s ∈ Finset.range 8, ∑ k : Fin 2048, f (s * 2048 + k.val) := fun f => (Finset.sum_range_succ _ _).symm
  have hsum := (hs (term (M := 256) (K := 16384) (N := 4096) (withPos (m ((c : Thread nD τ).loc main_arg0)) (m ((c : Thread nD τ).loc main_arg1))) (m ((c : Thread nD τ).loc main_arg2)) (j 0) (i 1))).trans (sum_terms (K := 16384) 8 2048 rfl _ _ _ _)
  have hb : (iblk m c 2 t : S1x512.Idx → EReal) (ix2 0 (j 1)) = (m ((c : Thread nD τ).loc main_arg3) : S4096.Idx → EReal) (ix1 (i 1)) := b_at m c t (ix2 0 (j 1)) (ix1 (i 1)) r1
  rw [hb, ← hrow]
  rw [← hrow] at hsum
  unfold hidden affine
  exact congrArg gelu (congrArg (· + (m ((c : Thread nD τ).loc main_arg3) : S4096.Idx → EReal) (ix1 (i 1))) hsum)

/-- A run's last point writes its block of the result back. -/
theorem flushed_eq (c : Dev nD) (t : Fin cfg0.N) (hf : (cfg0.win 4).flush t = true) :
    (dats m 0 c).flushed 4 t = ((cfg0.win 4).blk t).view.read (Elt Ideal) (result m c) := by
  have hl : t.val % 8 = 7 := (flush0_4 t).mp hf
  have h0 : ¬t.val % 8 = 0 := by omega
  rw [Value.flushed4_C m c t h0 hl, out_C]
  funext j
  rw [View.read_apply]
  obtain ⟨-, -, -, -, -, -, i0, i1, -⟩ := idx_at t
  refine value_at m c t hl _ j _ ?_ ?_
  · show win0_4.index t 0 * 256 + 1 * ((j : S256x512.Idx) 0).val = ((j : S256x512.Idx) 0).val
    rw [i0]; omega
  · show win0_4.index t 1 * 512 + 1 * ((j : S256x512.Idx) 1).val = t.val / 8 * 512 + ((j : S256x512.Idx) 1).val
    rw [i1]; omega

/-- The blocks fill the result. -/
theorem final (c : Dev nD) : (dats m 0 c).arrAt 4 cfg0.N = result m c := by
  refine (dats m 0 c).arrAt_eq_of_cover 4 (result m c) (flushed_eq m c) fun (i : S256x4096.Idx) => ?_
  have b0 : (i 0).val < 256 := (i 0).isLt
  have b1 : (i 1).val < 4096 := (i 1).isLt
  have hN : cfg0.N = 64 := N_0
  obtain ⟨t, ht⟩ : ∃ t : Fin cfg0.N, t.val = 8 * ((i 1).val / 512) + 7 := ⟨⟨_, by omega⟩, rfl⟩
  obtain ⟨-, -, -, -, -, -, i0, i1, -⟩ := idx_at t
  refine ⟨t, (flush0_4 t).mpr (by omega), ?_⟩
  show i ∈ ((View.whole main_v2).slice (win0_4.rect t)).set
  rw [View.set_slice_whole, Rect.mem_set_unit]
  intro a
  match a with
  | ⟨0, _⟩ => show win0_4.index t 0 * 256 ≤ (i 0).val ∧ (i 0).val < win0_4.index t 0 * 256 + 256
              rw [i0]; constructor <;> omega
  | ⟨1, _⟩ => show win0_4.index t 1 * 512 ≤ (i 1).val ∧ (i 1).val < win0_4.index t 1 * 512 + 512
              rw [i1]; constructor <;> omega

end Cert.HiddenIdeal.Exact

namespace Cert.HiddenRefIdeal.Exact

open Cert.HiddenRefIdeal Cert.HiddenRefIdeal.Gen Cert.HiddenRefIdeal.Read

/-- The reference's operand is the rows plus the positional row. -/
theorem operand (x : S256x16384.Idx → EReal) (p : S1x1x16x1024.Idx → EReal) :
    val_main_v3 (F := Ideal) x p = Cert.HiddenIdeal.Exact.withPos x p := by
  funext i
  rw [val_main_v3_apply, val_main_v2_apply, val_main_v0_apply, val_main_v1_apply]
  have h0 : (i 0).val < 256 := (i 0).isLt
  have h1 : (i 1).val < 16384 := (i 1).isLt
  refine congrArg₂ (· + ·) (congrArg x ?_) (congrArg p ?_)
  · funext a; apply Fin.ext
    match a with
    | ⟨0, _⟩ => show (((0 * 256 + ((i 0).val * 16384 + (i 1).val) / 16384 % 256) * 16 + ((i 0).val * 16384 + (i 1).val) / 1024 % 16) * 1024 + ((i 0).val * 16384 + (i 1).val) % 1024) / 16384 = (i 0).val
                omega
    | ⟨1, _⟩ => show (((0 * 256 + ((i 0).val * 16384 + (i 1).val) / 16384 % 256) * 16 + ((i 0).val * 16384 + (i 1).val) / 1024 % 16) * 1024 + ((i 0).val * 16384 + (i 1).val) % 1024) % 16384 = (i 1).val
                omega
  · funext a; apply Fin.ext
    match a with
    | ⟨0, _⟩ => rfl
    | ⟨1, _⟩ => rfl
    | ⟨2, _⟩ => show ((i 0).val * 16384 + (i 1).val) / 1024 % 16 = (i 1).val / 1024; omega
    | ⟨3, _⟩ => show ((i 0).val * 16384 + (i 1).val) % 1024 = (i 1).val % 1024; omega

/-- The reference at an index. -/
theorem ref_apply (x : S256x16384.Idx → EReal) (p : S1x1x16x1024.Idx → EReal) (w : S16384x4096.Idx → EReal) (b : S4096.Idx → EReal) (i : S256x4096.Idx) :
    val_main_v14 (F := Ideal) x p w b i = Cert.HiddenIdeal.Exact.hidden x p w b i := by
  have hl : val_main_v7 (F := Ideal) x p w b i = Cert.Common.affine (M := 256) (K := 16384) (N := 4096) (Cert.HiddenIdeal.Exact.withPos x p) w b i := by
    rw [val_main_v7_apply, val_main_v4_apply, val_main_v6_apply, val_main_v5_apply, operand]
    unfold Cert.Common.affine
    generalize Cert.HiddenIdeal.Exact.withPos x p = y
    refine congrArg₂ (· + ·) (Finset.sum_congr rfl fun k _ => congrArg₂ (· * ·) ?_ ?_) ?_
    all_goals first | refine congrArg y ?_ | refine congrArg w ?_ | refine congrArg b ?_
    all_goals funext a; fin_cases a <;> rfl
  rw [val_main_v14_apply, val_main_v9_apply, val_main_v13_apply, val_main_v12_apply, val_main_v10_apply, val_main_v8_apply, val_main_v11_apply,
    val_main_cst_apply, val_main_cst_0_apply, hl]
  rfl

end Cert.HiddenRefIdeal.Exact

namespace Cert.Proof

/-- The hidden layer's call computes the reference's hidden layer. -/
theorem hidden : algebraic_HiddenIdeal_HiddenRefIdeal := by
  intro m g m' g' _ h
  refine ⟨fun c => Cert.HiddenIdeal.Exact.result m c, ?_, ?_⟩
  · refine (θ_run Cert.HiddenIdeal.defs _ _).mono ?_ (Cert.HiddenIdeal.Value.run_blocks m g)
    intro r hr c
    exact ⟨(hr c).1.trans (Cert.HiddenIdeal.Exact.final m c), (hr c).2⟩
  · refine (θ_run Cert.HiddenRefIdeal.defs _ _).mono ?_ (Cert.HiddenRefIdeal.Value.run m' g')
    intro r hr c
    refine ⟨(hr c).1.trans ?_, (hr c).2⟩
    rw [Cert.HiddenRefIdeal.Read.val_main_v14_eq]
    funext i
    obtain ⟨a0, a1, a2, a3⟩ := h c
    rw [a0, a1, a2, a3]
    exact Cert.HiddenRefIdeal.Exact.ref_apply _ _ _ _ i

end Cert.Proof

end
-- ==== Proof.Comp.lean ====
/-
  The block summaries: `h @ c2w + c2b` over an inner axis of 4096, taken in two blocks of 2048 that one accumulator
  carries from one point to the next, and the plain product of the reference.
-/
module

public import proofs.«01_k».proof.Defs
public import proofs.«01_k».proof.Proof.Common
public import proofs.«01_k».proof.Proof.Gen.CompIdeal.Value
public import proofs.«01_k».proof.Proof.Gen.CompRefIdeal.Read
public import Idealize.ShloMosaic.Lib.StableHlo.Run
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.CompIdeal.Exact

open Cert.CompIdeal Cert.CompIdeal.Gen Cert.Common

section Cases
variable {F : FTy → Type} [FloatOps F]

/-- A run's first point leaves the first block's product over zeros in the accumulator. -/
theorem sout_A (c : Dev nD) (i : grid0.Coords)
    (a3 : Memref sig .tc .vmem S256x2048 .f32) (h3 : a3.IsWhole) (a4 : Memref sig .tc .vmem S2048x512 .f32) (h4 : a4.IsWhole)
    (a5 : Memref sig .tc .vmem S1x512 .f32) (h5 : a5.IsWhole) (a6 : Memref sig .tc .vmem S256x512 .f32) (h6 : a6.IsWhole)
    (a7 : Memref sig .tc .vmem S256x512 .f32) (h7 : a7.IsWhole)
    (hc0 : cond0_0 i) (hc1 : ¬cond0_1 i) (x : Vec F S256x2048 .f32) (w : Vec F S2048x512 .f32) (b : Vec F S1x512 .f32) :
    sout0_A_0 c i a3 h3 a4 h4 a5 h5 a6 h6 a7 h7 hc0 hc1 x w b = k0_pay2 x (k0_pay1 (F := F)) w := by
  unfold sout0_A_0
  rw [View.read_writes_eq_canon _ _ _ (scover0_A_0 c i a3 h3 a4 h4 a5 h5 a6 h6 a7 h7 hc0 hc1 x w b)]
  unfold kernelRun0_A
  dsimp only
  sl_unfold_words
  rw [View.canon_cons_unit_zero (S := S256x512) off2]
  simp only [View.readCov_unit_zero (S := S256x512) _ off2, View.readAt_eq_ld, h3.read_unread, h4.read_unread, h5.read_unread, h7.read_unread,
    View.ld_unit_zero (S := S256x2048) off2, View.ld_unit_zero (S := S2048x512) off2, View.ld_unit_zero (S := S1x512) off2, View.ld_unit_zero (S := S256x512) off2]

/-- A run's last point adds its block's product and finishes the output block. -/
theorem out_B (c : Dev nD) (i : grid0.Coords)
    (a3 : Memref sig .tc .vmem S256x2048 .f32) (h3 : a3.IsWhole) (a4 : Memref sig .tc .vmem S2048x512 .f32) (h4 : a4.IsWhole)
    (a5 : Memref sig .tc .vmem S1x512 .f32) (h5 : a5.IsWhole) (a6 : Memref sig .tc .vmem S256x512 .f32) (h6 : a6.IsWhole)
    (a7 : Memref sig .tc .vmem S256x512 .f32) (h7 : a7.IsWhole)
    (hc0 : ¬cond0_0 i) (hc1 : cond0_1 i) (x : Vec F S256x2048 .f32) (w : Vec F S2048x512 .f32) (b : Vec F S1x512 .f32) (acc : Vec F S256x512 .f32) :
    out0_B_3 c i a3 h3 a4 h4 a5 h5 a6 h6 a7 h7 hc0 hc1 x w b acc = k0_pay3 (k0_pay2 x acc w) b := by
  unfold out0_B_3
  rw [View.read_writes_eq_canon _ _ _ (cover0_B_3 c i a3 h3 a4 h4 a5 h5 a6 h6 a7 h7 hc0 hc1 x w b acc)]
  unfold kernelRun0_B
  dsimp only
  sl_unfold_words
  rw [View.canon_unit_zero (S := S256x512) off2]
  simp only [View.readCov_unit_zero (S := S256x512) _ off2, View.readAt_eq_ld, h3.read_unread, h4.read_unread, h5.read_unread, h7.read_unread,
    View.ld_unit_zero (S := S256x2048) off2, View.ld_unit_zero (S := S2048x512) off2, View.ld_unit_zero (S := S1x512) off2, View.ld_unit_zero (S := S256x512) off2]

end Cases

/-- A block's product. -/
def blockDot (x : S256x2048.Idx → EReal) (w : S2048x512.Idx → EReal) (j : S256x512.Idx) : EReal :=
  ∑ k : Fin 2048, x (ix2 (j 0) k) * w (ix2 k (j 1))

/-- A block's product added to an accumulator. -/
theorem pay2_apply (x : Vec Ideal S256x2048 .f32) (acc : Vec Ideal S256x512 .f32) (w : Vec Ideal S2048x512 .f32) (j : S256x512.Idx) :
    k0_pay2 (F := Ideal) x acc w j = acc j + blockDot x w j := by
  unfold k0_pay2
  rw [shapeCast_self]
  exact congrArg (acc j + ·) (plain_zero none x w j)

/-- The output block's element: the finished sum plus the bias. -/
theorem pay3_apply (a : Vec Ideal S256x512 .f32) (b : Vec Ideal S1x512 .f32) (j : S256x512.Idx) :
    k0_pay3 (F := Ideal) a b j = a j + b (ix2 0 (j 1)) := by
  unfold k0_pay3
  exact congrArg (a j + ·) (row_apply (M := 256) (N := 512) (by decide) b shapeCasts_S1x512_S1x512 broadcasts_S1x512_S256x512 j)

/-- The zeros a run starts from. -/
theorem pay1_apply (j : S256x512.Idx) : k0_pay1 (F := Ideal) j = 0 := by
  unfold k0_pay1
  rw [shapeCast_self]
  exact Ideal.ofBits_zero_f32

variable (m : (ℓ : Loc nD τ sig) → Buf (Elt Ideal) ℓ) (ρ : Dev nD → PrngReg)

/-- The bias as the call reads it: one row. -/
theorem V_row (c : Dev nD) (j : S1x1024.Idx) :
    V (F := Ideal) m c main_v0 j = m ((c : Thread nD τ).loc main_arg2) (ix1 (j 1)) := by
  have e : V (F := Ideal) m c main_v0 = shapeCast S1x1024 (m ((c : Thread nD τ).loc main_arg2)) shapeCasts_S1024_S1x1024 := by
    unfold V
    after_results
    rfl
  rw [e]
  exact asRow_apply (N := 1024) _ _ j

/-- What the call computes. -/
def result (c : Dev nD) : Buf (Elt Ideal) ((c : Thread nD τ).loc main_v1) :=
  affine (M := 256) (K := 4096) (N := 1024) (m ((c : Thread nD τ).loc main_arg0)) (m ((c : Thread nD τ).loc main_arg1)) (m ((c : Thread nD τ).loc main_arg2))

/-- Where the windows of a point lie. -/
theorem idx_at : ∀ t : Fin cfg0.N, win0_0.index t 0 = 0 ∧ win0_0.index t 1 = t.val % 2 ∧ win0_1.index t 0 = t.val % 2
    ∧ win0_1.index t 1 = t.val / 2 ∧ win0_2.index t 0 = 0 ∧ win0_2.index t 1 = t.val / 2
    ∧ win0_3.index t 0 = 0 ∧ win0_3.index t 1 = t.val / 2 :=
  (by decide +kernel : ∀ t : Fin grid0.N, _)

theorem x_at (c : Dev nD) (t : Fin cfg0.N) (j : S256x2048.Idx) (i : S256x4096.Idx)
    (h0 : (i 0).val = (j 0).val) (h1 : (i 1).val = t.val % 2 * 2048 + (j 1).val) :
    (iblk m c 0 t : S256x2048.Idx → EReal) j = (m ((c : Thread nD τ).loc main_arg0) : S256x4096.Idx → EReal) i := by
  unfold iblk
  rw [View.read_apply]
  show V m c main_arg0 _ = _
  rw [V_main_arg0]
  congr 1
  obtain ⟨e0, e1, -⟩ := idx_at t
  funext a; apply Fin.ext
  match a with
  | ⟨0, _⟩ => show win0_0.index t 0 * 256 + 1 * (j 0).val = (i 0).val; rw [e0]; omega
  | ⟨1, _⟩ => show win0_0.index t 1 * 2048 + 1 * (j 1).val = (i 1).val; rw [e1]; omega

theorem w_at (c : Dev nD) (t : Fin cfg0.N) (j : S2048x512.Idx) (i : S4096x1024.Idx)
    (h0 : (i 0).val = t.val % 2 * 2048 + (j 0).val) (h1 : (i 1).val = t.val / 2 * 512 + (j 1).val) :
    (iblk m c 1 t : S2048x512.Idx → EReal) j = (m ((c : Thread nD τ).loc main_arg1) : S4096x1024.Idx → EReal) i := by
  unfold iblk
  rw [View.read_apply]
  show V m c main_arg1 _ = _
  rw [V_main_arg1]
  congr 1
  obtain ⟨-, -, e0, e1, -⟩ := idx_at t
  funext a; apply Fin.ext
  match a with
  | ⟨0, _⟩ => show win0_1.index t 0 * 2048 + 1 * (j 0).val = (i 0).val; rw [e0]; omega
  | ⟨1, _⟩ => show win0_1.index t 1 * 512 + 1 * (j 1).val = (i 1).val; rw [e1]; omega

theorem b_at (c : Dev nD) (t : Fin cfg0.N) (j : S1x512.Idx) (i : S1024.Idx)
    (h1 : (i 0).val = t.val / 2 * 512 + (j 1).val) :
    (iblk m c 2 t : S1x512.Idx → EReal) j = (m ((c : Thread nD τ).loc main_arg2) : S1024.Idx → EReal) i := by
  unfold iblk
  rw [View.read_apply]
  show V m c main_v0 _ = _
  rw [V_row]
  congr 1
  obtain ⟨-, -, -, -, e0, e1, -⟩ := idx_at t
  funext a; apply Fin.ext
  match a with
  | ⟨0, _⟩ => show win0_2.index t 1 * 512 + 1 * (j 1).val = (i 0).val; rw [e1]; omega

/-- A point's block of the product: the terms of its stretch of the inner axis. -/
theorem block_at (c : Dev nD) (t : Fin cfg0.N) (j : S256x512.Idx) (col : Fin 1024) (hcol : col.val = t.val / 2 * 512 + (j 1).val) :
    blockDot (iblk m c 0 t) (iblk m c 1 t) j
      = ∑ k : Fin 2048, term (M := 256) (K := 4096) (N := 1024) (m ((c : Thread nD τ).loc main_arg0)) (m ((c : Thread nD τ).loc main_arg1)) (j 0) col (t.val % 2 * 2048 + k.val) := by
  unfold blockDot
  refine Finset.sum_congr rfl fun k _ => ?_
  have hb : t.val % 2 * 2048 + k.val < 4096 := by have := k.isLt; omega
  unfold term
  rw [dif_pos hb]
  exact congrArg₂ (· * ·) (x_at m c t (ix2 (j 0) k) (ix2 (j 0) ⟨t.val % 2 * 2048 + k.val, hb⟩) rfl rfl)
    (w_at m c t (ix2 k (j 1)) (ix2 ⟨t.val % 2 * 2048 + k.val, hb⟩ col) rfl hcol)

/-- The accumulator after a run's first point: the terms of the first stretch. -/
theorem acc_at (c : Dev nD) (n : ℕ) (h : n < cfg0.N) (h0 : n % 2 = 0) (j : S256x512.Idx) (col : Fin 1024)
    (hcol : col.val = n / 2 * 512 + (j 1).val) :
    ((outsAt0 m c n h).2 : S256x512.Idx → EReal) j
      = ∑ s ∈ Finset.range (n % 2 + 1), ∑ k : Fin 2048, term (M := 256) (K := 4096) (N := 1024) (m ((c : Thread nD τ).loc main_arg0)) (m ((c : Thread nD τ).loc main_arg1)) (j 0) col (s * 2048 + k.val) := by
  rw [outsAt0_A m c ⟨n, h⟩ h0 (by dsimp only; omega)]
  dsimp only
  rw [sout_A, pay2_apply, pay1_apply, zero_add, block_at m c ⟨n, h⟩ j col hcol]
  dsimp only
  rw [h0, zero_add, Finset.sum_range_one]

/-- The value a run's last point writes. -/
theorem value_at (c : Dev nD) (t : Fin cfg0.N) (hl : t.val % 2 = 1) (hp : t.val - 1 < cfg0.N) (j : S256x512.Idx) (i : S256x1024.Idx)
    (r0 : (i 0).val = (j 0).val) (r1 : (i 1).val = t.val / 2 * 512 + (j 1).val) :
    k0_pay3 (F := Ideal) (k0_pay2 (iblk m c 0 t) (outsAt0 m c (t.val - 1) hp).2 (iblk m c 1 t)) (iblk m c 2 t) j
      = affine (M := 256) (K := 4096) (N := 1024) (m ((c : Thread nD τ).loc main_arg0)) (m ((c : Thread nD τ).loc main_arg1)) (m ((c : Thread nD τ).loc main_arg2)) i := by
  have hrow : (i 0 : Fin 256) = j 0 := Fin.ext r0
  have hq : (t.val - 1) / 2 = t.val / 2 := by omega
  have hr : (t.val - 1) % 2 + 1 = 1 := by omega
  rw [pay3_apply, pay2_apply, block_at m c t j (i 1) r1, acc_at m c (t.val - 1) _ (by omega) j (i 1) (by rw [hq]; exact r1), hr, hl]
  have hs : ∀ f : ℕ → EReal, (∑ s ∈ Finset.range 1, ∑ k : Fin 2048, f (s * 2048 + k.val)) + ∑ k : Fin 2048, f (1 * 2048 + k.val)
      = ∑ s ∈ Finset.range 2, ∑ k : Fin 2048, f (s * 2048 + k.val) := fun f => (Finset.sum_range_succ _ _).symm
  have hsum := (hs (term (M := 256) (K := 4096) (N := 1024) (m ((c : Thread nD τ).loc main_arg0)) (m ((c : Thread nD τ).loc main_arg1)) (j 0) (i 1))).trans (sum_terms (K := 4096) 2 2048 rfl _ _ _ _)
  have hb : (iblk m c 2 t : S1x512.Idx → EReal) (ix2 0 (j 1)) = (m ((c : Thread nD τ).loc main_arg2) : S1024.Idx → EReal) (ix1 (i 1)) := b_at m c t (ix2 0 (j 1)) (ix1 (i 1)) r1
  rw [hb, ← hrow]
  rw [← hrow] at hsum
  unfold affine
  exact (congrArg (· + (m ((c : Thread nD τ).loc main_arg2) : S1024.Idx → EReal) (ix1 (i 1))) hsum)

/-- A run's last point writes its block of the result back. -/
theorem flushed_eq (c : Dev nD) (t : Fin cfg0.N) (hf : (cfg0.win 3).flush t = true) :
    (dats m 0 c).flushed 3 t = ((cfg0.win 3).blk t).view.read (Elt Ideal) (result m c) := by
  have hl : t.val % 2 = 1 := (flush0_3 t).mp hf
  have h0 : ¬t.val % 2 = 0 := by omega
  rw [Value.flushed3_B m c t h0 hl, out_B]
  funext j
  rw [View.read_apply]
  obtain ⟨-, -, -, -, -, -, i0, i1⟩ := idx_at t
  refine value_at m c t hl _ j _ ?_ ?_
  · show win0_3.index t 0 * 256 + 1 * ((j : S256x512.Idx) 0).val = ((j : S256x512.Idx) 0).val
    rw [i0]; omega
  · show win0_3.index t 1 * 512 + 1 * ((j : S256x512.Idx) 1).val = t.val / 2 * 512 + ((j : S256x512.Idx) 1).val
    rw [i1]; omega

/-- The blocks fill the result. -/
theorem final (c : Dev nD) : (dats m 0 c).arrAt 3 cfg0.N = result m c := by
  refine (dats m 0 c).arrAt_eq_of_cover 3 (result m c) (flushed_eq m c) fun (i : S256x1024.Idx) => ?_
  have b0 : (i 0).val < 256 := (i 0).isLt
  have b1 : (i 1).val < 1024 := (i 1).isLt
  have hN : cfg0.N = 4 := N_0
  obtain ⟨t, ht⟩ : ∃ t : Fin cfg0.N, t.val = 2 * ((i 1).val / 512) + 1 := ⟨⟨_, by omega⟩, rfl⟩
  obtain ⟨-, -, -, -, -, -, i0, i1⟩ := idx_at t
  refine ⟨t, (flush0_3 t).mpr (by omega), ?_⟩
  show i ∈ ((View.whole main_v1).slice (win0_3.rect t)).set
  rw [View.set_slice_whole, Rect.mem_set_unit]
  intro a
  match a with
  | ⟨0, _⟩ => show win0_3.index t 0 * 256 ≤ (i 0).val ∧ (i 0).val < win0_3.index t 0 * 256 + 256
              rw [i0]; constructor <;> omega
  | ⟨1, _⟩ => show win0_3.index t 1 * 512 ≤ (i 1).val ∧ (i 1).val < win0_3.index t 1 * 512 + 512
              rw [i1]; constructor <;> omega

end Cert.CompIdeal.Exact

namespace Cert.CompRefIdeal.Exact

open Cert.CompRefIdeal Cert.CompRefIdeal.Gen Cert.CompRefIdeal.Read

/-- The plain product at an index. -/
theorem ref_apply (x : S256x4096.Idx → EReal) (w : S4096x1024.Idx → EReal) (b : S1024.Idx → EReal) (i : S256x1024.Idx) :
    val_main_v3 (F := Ideal) x w b i = Cert.Common.affine (M := 256) (K := 4096) (N := 1024) x w b i := by
  unfold Cert.Common.affine
  rw [val_main_v3_apply, val_main_v0_apply, val_main_v2_apply, val_main_v1_apply]
  refine congrArg₂ (· + ·) (Finset.sum_congr rfl fun k _ => congrArg₂ (· * ·) ?_ ?_) ?_
  all_goals first | refine congrArg x ?_ | refine congrArg w ?_ | refine congrArg b ?_
  all_goals funext a; fin_cases a <;> rfl

end Cert.CompRefIdeal.Exact

namespace Cert.Proof

/-- The block summaries' call computes the plain product and bias. -/
theorem comp : algebraic_CompIdeal_CompRefIdeal := by
  intro m g m' g' _ h
  refine ⟨fun c => Cert.CompIdeal.Exact.result m c, ?_, ?_⟩
  · refine (θ_run Cert.CompIdeal.defs _ _).mono ?_ (Cert.CompIdeal.Value.run_blocks m g)
    intro r hr c
    exact ⟨(hr c).1.trans (Cert.CompIdeal.Exact.final m c), (hr c).2⟩
  · refine (θ_run Cert.CompRefIdeal.defs _ _).mono ?_ (Cert.CompRefIdeal.Value.run m' g')
    intro r hr c
    refine ⟨(hr c).1.trans ?_, (hr c).2⟩
    rw [Cert.CompRefIdeal.Read.val_main_v3_eq]
    funext i
    obtain ⟨a0, a1, a2⟩ := h c
    rw [a0, a1, a2]
    exact Cert.CompRefIdeal.Exact.ref_apply _ _ _ i

end Cert.Proof

end
-- ==== Proof.GateHid.lean ====
/-
  The hidden layer of the branch gate: the kernel's blocked product `x @ g1w + g1b` and the plain product of the
  reference. A grid point computes 256 rows of the result, every column of them, over the whole inner axis.
-/
module

public import proofs.«01_k».proof.Defs
public import proofs.«01_k».proof.Proof.Common
public import proofs.«01_k».proof.Proof.Gen.GateHidIdeal.Value
public import proofs.«01_k».proof.Proof.Gen.GateHidRefIdeal.Read
public import Idealize.ShloMosaic.Lib.StableHlo.Run
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.GateHidIdeal.Exact

open Cert.GateHidIdeal Cert.GateHidIdeal.Gen Cert.Common

/-- What a point leaves in its output block. -/
theorem out_A {F : FTy → Type} [FloatOps F] (c : Dev nD) (i : grid0.Coords)
    (a3 : Memref sig .tc .vmem S256x1024 .f32) (h3 : a3.IsWhole)
    (a4 : Memref sig .tc .vmem S1024x512 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : cond0_0 i) (hc1 : cond0_1 i) (x : Vec F S256x1024 .f32) (w : Vec F S1024x512 .f32) (b : Vec F S1x512 .f32) :
    out0_A_3 c i a3 h3 a4 h4 a5 h5 a6 h6 a7 h7 hc0 hc1 x w b = k0_pay3 (k0_pay2 x (k0_pay1 (F := F)) w) b := by
  unfold out0_A_3
  rw [View.read_writes_eq_canon _ _ _ (cover0_A_3 c i a3 h3 a4 h4 a5 h5 a6 h6 a7 h7 hc0 hc1 x w b)]
  unfold kernelRun0_A
  dsimp only
  sl_unfold_words
  rw [View.canon_unit_zero off2]
  rw [View.readCov_cons_toLoadRect]
  simp only [View.readCov_unit_zero (S := S256x512) _ off2, View.readAt_eq_ld, h3.read_unread, h4.read_unread, h5.read_unread,
    View.ld_unit_zero (S := S256x1024) off2, View.ld_unit_zero (S := S1024x512) off2, View.ld_unit_zero (S := S1x512) off2, View.canon_cons_unit_zero (S := S256x512) off2]

/-- The block's element: the product over the whole inner axis, and the bias. -/
theorem pay_apply (x : Vec Ideal S256x1024 .f32) (w : Vec Ideal S1024x512 .f32) (b : Vec Ideal S1x512 .f32) (j : S256x512.Idx) :
    k0_pay3 (F := Ideal) (k0_pay2 x (k0_pay1 (F := Ideal)) w) b j
      = (∑ k : Fin 1024, x (ix2 (j 0) k) * w (ix2 k (j 1))) + b (ix2 0 (j 1)) := by
  unfold k0_pay3 k0_pay2 k0_pay1
  simp only [shapeCast_self, addf_apply]
  have e1 := plain_zero none x w j
  have e2 := row_apply (M := 256) (N := 512) (by decide) b shapeCasts_S1x512_S1x512 broadcasts_S1x512_S256x512 j
  rw [shapeCast_self] at e2
  refine congrArg₂ (· + ·) ?_ e2
  refine Eq.trans ?_ e1
  show Ideal.ofBits .f32 0x00000000#32 + _ = _
  rw [Ideal.ofBits_zero_f32, zero_add]
  rfl

variable (m : (ℓ : Loc nD τ sig) → Buf (Elt Ideal) ℓ) (ρ : Dev nD → PrngReg)

/-- The bias as the call reads it: one row. -/
theorem V_row (c : Dev nD) (j : S1x512.Idx) :
    V (F := Ideal) m c main_v0 j = m ((c : Thread nD τ).loc main_arg2) (ix1 (j 1)) := by
  have e : V (F := Ideal) m c main_v0 = shapeCast S1x512 (m ((c : Thread nD τ).loc main_arg2)) shapeCasts_S512_S1x512 := by
    unfold V
    after_results
    rfl
  rw [e]
  exact asRow_apply (N := 512) _ _ j

/-- What the call computes: each element of the product plus its column's bias. -/
def result (c : Dev nD) : Buf (Elt Ideal) ((c : Thread nD τ).loc main_v1) :=
  affine (M := 2048) (K := 1024) (N := 512) (m ((c : Thread nD τ).loc main_arg0)) (m ((c : Thread nD τ).loc main_arg1)) (m ((c : Thread nD τ).loc main_arg2))

/-- Where the windows of a point lie. -/
theorem idx_at : ∀ t : Fin cfg0.N, win0_0.index t 0 = win0_3.index t 0 ∧ win0_0.index t 1 = 0 ∧ win0_1.index t 0 = 0
    ∧ win0_1.index t 1 = win0_3.index t 1 ∧ win0_2.index t 0 = 0 ∧ win0_2.index t 1 = win0_3.index t 1 :=
  (by decide +kernel : ∀ t : Fin grid0.N, _)

theorem x_at (c : Dev nD) (t : Fin cfg0.N) (j : S256x1024.Idx) (i : S2048x1024.Idx)
    (h0 : (i 0).val = win0_3.index t 0 * 256 + (j 0).val) (h1 : (i 1).val = (j 1).val) :
    (iblk m c 0 t : S256x1024.Idx → EReal) j = (m ((c : Thread nD τ).loc main_arg0) : S2048x1024.Idx → EReal) i := by
  unfold iblk
  rw [View.read_apply]
  show V m c main_arg0 _ = _
  rw [V_main_arg0]
  congr 1
  obtain ⟨e0, e1, -⟩ := idx_at t
  funext a; apply Fin.ext
  match a with
  | ⟨0, _⟩ => show win0_0.index t 0 * 256 + 1 * (j 0).val = (i 0).val; rw [e0]; omega
  | ⟨1, _⟩ => show win0_0.index t 1 * 1024 + 1 * (j 1).val = (i 1).val; rw [e1]; omega

theorem w_at (c : Dev nD) (t : Fin cfg0.N) (j : S1024x512.Idx) (i : S1024x512.Idx)
    (h0 : (i 0).val = (j 0).val) (h1 : (i 1).val = win0_3.index t 1 * 512 + (j 1).val) :
    (iblk m c 1 t : S1024x512.Idx → EReal) j = (m ((c : Thread nD τ).loc main_arg1) : S1024x512.Idx → EReal) i := by
  unfold iblk
  rw [View.read_apply]
  show V m c main_arg1 _ = _
  rw [V_main_arg1]
  congr 1
  obtain ⟨-, -, e0, e1, -⟩ := idx_at t
  funext a; apply Fin.ext
  match a with
  | ⟨0, _⟩ => show win0_1.index t 0 * 1024 + 1 * (j 0).val = (i 0).val; rw [e0]; omega
  | ⟨1, _⟩ => show win0_1.index t 1 * 512 + 1 * (j 1).val = (i 1).val; rw [e1]; omega

theorem b_at (c : Dev nD) (t : Fin cfg0.N) (j : S1x512.Idx) (i : S512.Idx)
    (h1 : (i 0).val = win0_3.index t 1 * 512 + (j 1).val) :
    (iblk m c 2 t : S1x512.Idx → EReal) j = (m ((c : Thread nD τ).loc main_arg2) : S512.Idx → EReal) i := by
  unfold iblk
  rw [View.read_apply]
  show V m c main_v0 _ = _
  rw [V_row]
  congr 1
  obtain ⟨-, -, -, -, e0, e1⟩ := idx_at t
  funext a; apply Fin.ext
  match a with
  | ⟨0, _⟩ => show win0_2.index t 1 * 512 + 1 * (j 1).val = (i 0).val; rw [e1]; omega

/-- A point writes its block of the result back. -/
theorem flushed_eq (c : Dev nD) (t : Fin cfg0.N) :
    (dats m 0 c).flushed 3 t = ((cfg0.win 3).blk t).view.read (Elt Ideal) (result m c) := by
  rw [Value.flushed3_A, out_A]
  funext j
  rw [View.read_apply]
  show k0_pay3 (F := Ideal) (k0_pay2 (iblk m c 0 t) (k0_pay1 (F := Ideal)) (iblk m c 1 t)) (iblk m c 2 t) (j : S256x512.Idx) = result m c _
  rw [pay_apply]
  unfold result affine
  have r0 : ((((cfg0.win 3).blk t).view.emb j : S2048x512.Idx) 0).val = win0_3.index t 0 * 256 + 1 * ((j : S256x512.Idx) 0).val := rfl
  have r1 : ((((cfg0.win 3).blk t).view.emb j : S2048x512.Idx) 1).val = win0_3.index t 1 * 512 + 1 * ((j : S256x512.Idx) 1).val := rfl
  rw [Nat.one_mul] at r0 r1
  refine congrArg₂ (· + ·) (Finset.sum_congr rfl fun k _ => congrArg₂ (· * ·) ?_ ?_) ?_
  · exact x_at m c t _ _ r0 rfl
  · exact w_at m c t _ _ rfl r1
  · exact b_at m c t _ _ r1

/-- The blocks fill the result. -/
theorem final (c : Dev nD) : (dats m 0 c).arrAt 3 cfg0.N = result m c := by
  refine (dats m 0 c).arrAt_eq_of_cover 3 (result m c) (fun t _ => flushed_eq m c t) fun (i : S2048x512.Idx) => ?_
  have b0 : (i 0).val < 2048 := (i 0).isLt
  have b1 : (i 1).val < 512 := (i 1).isLt
  obtain ⟨t, hf, ht0, ht1⟩ := (by decide +kernel : ∀ (a : Fin 8) (b : Fin 1), ∃ t : Fin grid0.N, (cfg0.win 3).flush t = true
    ∧ win0_3.index t 0 = a.val ∧ win0_3.index t 1 = b.val) ⟨(i 0).val / 256, by omega⟩ ⟨(i 1).val / 512, by omega⟩
  refine ⟨t, hf, ?_⟩
  show i ∈ ((View.whole main_v1).slice (win0_3.rect t)).set
  rw [View.set_slice_whole, Rect.mem_set_unit]
  intro a
  match a with
  | ⟨0, _⟩ => show win0_3.index t 0 * 256 ≤ (i 0).val ∧ (i 0).val < win0_3.index t 0 * 256 + 256
              rw [ht0]; dsimp only; constructor <;> omega
  | ⟨1, _⟩ => show win0_3.index t 1 * 512 ≤ (i 1).val ∧ (i 1).val < win0_3.index t 1 * 512 + 512
              rw [ht1]; dsimp only; constructor <;> omega

end Cert.GateHidIdeal.Exact

namespace Cert.GateHidRefIdeal.Exact

open Cert.GateHidRefIdeal Cert.GateHidRefIdeal.Gen Cert.GateHidRefIdeal.Read

/-- The plain product at an index. -/
theorem ref_apply (x : S2048x1024.Idx → EReal) (w : S1024x512.Idx → EReal) (b : S512.Idx → EReal) (i : S2048x512.Idx) :
    val_main_v3 (F := Ideal) x w b i = Cert.Common.affine (M := 2048) (K := 1024) (N := 512) x w b i := by
  unfold Cert.Common.affine
  rw [val_main_v3_apply, val_main_v0_apply, val_main_v2_apply, val_main_v1_apply]
  refine congrArg₂ (· + ·) (Finset.sum_congr rfl fun k _ => congrArg₂ (· * ·) ?_ ?_) ?_
  all_goals first | refine congrArg x ?_ | refine congrArg w ?_ | refine congrArg b ?_
  all_goals funext a; fin_cases a <;> rfl

end Cert.GateHidRefIdeal.Exact

namespace Cert.Proof

open Cert.Common

/-- The gate's hidden layer computes the plain product and bias. -/
theorem gateHid : algebraic_GateHidIdeal_GateHidRefIdeal := by
  intro m g m' g' _ h
  refine ⟨fun c => Cert.GateHidIdeal.Exact.result m c, ?_, ?_⟩
  · refine (θ_run Cert.GateHidIdeal.defs _ _).mono ?_ (Cert.GateHidIdeal.Value.run_blocks m g)
    intro r hr c
    exact ⟨(hr c).1.trans (Cert.GateHidIdeal.Exact.final m c), (hr c).2⟩
  · refine (θ_run Cert.GateHidRefIdeal.defs _ _).mono ?_ (Cert.GateHidRefIdeal.Value.run m' g')
    intro r hr c
    refine ⟨(hr c).1.trans ?_, (hr c).2⟩
    rw [Cert.GateHidRefIdeal.Read.val_main_v3_eq]
    funext i
    obtain ⟨a0, a1, a2⟩ := h c
    rw [a0, a1, a2]
    exact Cert.GateHidRefIdeal.Exact.ref_apply _ _ _ i

end Cert.Proof

end
-- ==== Proof.Gate.lean ====
/-
  The branch gate: the kernel's blocked product with the GELU taken on its way in and the logistic on its way out, and
  the reference's plain expression. A grid point computes 256 rows of the result over the whole inner axis.
-/
module

public import proofs.«01_k».proof.Defs
public import proofs.«01_k».proof.Proof.Common
public import proofs.«01_k».proof.Proof.Gen.GateIdeal.Value
public import proofs.«01_k».proof.Proof.Gen.GateRefIdeal.Read
public import Idealize.ShloMosaic.Lib.StableHlo.Run
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.GateIdeal.Exact

/-- The gate's mathematics: the logistic of a linear layer of the GELU of the hidden layer. -/
def gated (x : (⟨2, ![2048, 512]⟩ : Shape).Idx → EReal) (w : (⟨2, ![512, 128]⟩ : Shape).Idx → EReal) (b : (⟨1, ![128]⟩ : Shape).Idx → EReal)
    (i : (⟨2, ![2048, 128]⟩ : Shape).Idx) : EReal :=
  Ideal.logistic (Cert.Common.affine (fun i => Cert.Common.gelu (x i)) w b i)

open Cert.GateIdeal Cert.GateIdeal.Gen Cert.Common

/-- What a point leaves in its output block. -/
theorem out_A {F : FTy → Type} [FloatOps F] (c : Dev nD) (i : grid0.Coords)
    (a3 : Memref sig .tc .vmem S256x512 .f32) (h3 : a3.IsWhole)
    (a4 : Memref sig .tc .vmem S512x128 .f32) (h4 : a4.IsWhole) (a5 : Memref sig .tc .vmem S1x128 .f32) (h5 : a5.IsWhole)
    (a6 : Memref sig .tc .vmem S256x128 .f32) (h6 : a6.IsWhole) (a7 : Memref sig .tc .vmem S256x128 .f32) (h7 : a7.IsWhole)
    (hc0 : cond0_0 i) (hc1 : cond0_1 i) (x : Vec F S256x512 .f32) (w : Vec F S512x128 .f32) (b : Vec F S1x128 .f32) :
    out0_A_3 c i a3 h3 a4 h4 a5 h5 a6 h6 a7 h7 hc0 hc1 x w b = k0_pay3 (k0_pay2 x (k0_pay1 (F := F)) w) b := by
  unfold out0_A_3
  rw [View.read_writes_eq_canon _ _ _ (cover0_A_3 c i a3 h3 a4 h4 a5 h5 a6 h6 a7 h7 hc0 hc1 x w b)]
  unfold kernelRun0_A
  dsimp only
  sl_unfold_words
  rw [View.canon_unit_zero off2]
  rw [View.readCov_cons_toLoadRect]
  simp only [View.readCov_unit_zero (S := S256x128) _ off2, View.readAt_eq_ld, h3.read_unread, h4.read_unread, h5.read_unread,
    View.ld_unit_zero (S := S256x512) off2, View.ld_unit_zero (S := S512x128) off2, View.ld_unit_zero (S := S1x128) off2, View.canon_cons_unit_zero (S := S256x128) off2]

/-- The block's element: the logistic of the product over the whole inner axis plus the bias. -/
theorem pay_apply (x : Vec Ideal S256x512 .f32) (w : Vec Ideal S512x128 .f32) (b : Vec Ideal S1x128 .f32) (j : S256x128.Idx) :
    k0_pay3 (F := Ideal) (k0_pay2 x (k0_pay1 (F := Ideal)) w) b j
      = Ideal.logistic ((∑ k : Fin 512, gelu (x (ix2 (j 0) k)) * w (ix2 k (j 1))) + b (ix2 0 (j 1))) := by
  unfold k0_pay3 k0_pay2 k0_pay1
  simp only [shapeCast_self]
  have hx : (mulf (mulf x (broadcast S256x512 (Scalar.ofBits .f32 0x3F000000#32))) (addf (broadcast S256x512 (Scalar.ofBits .f32 0x3F800000#32))
      (erf (mulf x (broadcast S256x512 (Scalar.ofBits .f32 0x3F3504F3#32))))) : FVec Ideal S256x512 .f32) = fun i => gelu (x i) :=
    funext fun i => gelu_eq (x i)
  rw [hx]
  have e1 := plain_zero none (fun i => gelu (x i)) w j
  have e2 := row_apply (M := 256) (N := 128) (by decide) b shapeCasts_S1x128_S1x128 broadcasts_S1x128_S256x128 j
  rw [shapeCast_self] at e2
  show Ideal.logistic (_ + _) = _
  refine congrArg Ideal.logistic (congrArg₂ (· + ·) ?_ e2)
  refine Eq.trans ?_ e1
  show Ideal.ofBits .f32 0x00000000#32 + _ = _
  rw [Ideal.ofBits_zero_f32, zero_add]
  rfl

variable (m : (ℓ : Loc nD τ sig) → Buf (Elt Ideal) ℓ) (ρ : Dev nD → PrngReg)

/-- The bias as the call reads it: one row. -/
theorem V_row (c : Dev nD) (j : S1x128.Idx) :
    V (F := Ideal) m c main_v0 j = m ((c : Thread nD τ).loc main_arg2) (ix1 (j 1)) := by
  have e : V (F := Ideal) m c main_v0 = shapeCast S1x128 (m ((c : Thread nD τ).loc main_arg2)) shapeCasts_S128_S1x128 := by
    unfold V
    after_results
    rfl
  rw [e]
  exact asRow_apply (N := 128) _ _ j

/-- What the call computes. -/
def result (c : Dev nD) : Buf (Elt Ideal) ((c : Thread nD τ).loc main_v1) :=
  gated (m ((c : Thread nD τ).loc main_arg0)) (m ((c : Thread nD τ).loc main_arg1)) (m ((c : Thread nD τ).loc main_arg2))

/-- Where the windows of a point lie. -/
theorem idx_at : ∀ t : Fin cfg0.N, win0_0.index t 0 = win0_3.index t 0 ∧ win0_0.index t 1 = 0 ∧ win0_1.index t 0 = 0
    ∧ win0_1.index t 1 = win0_3.index t 1 ∧ win0_2.index t 0 = 0 ∧ win0_2.index t 1 = win0_3.index t 1 :=
  (by decide +kernel : ∀ t : Fin grid0.N, _)

theorem x_at (c : Dev nD) (t : Fin cfg0.N) (j : S256x512.Idx) (i : S2048x512.Idx)
    (h0 : (i 0).val = win0_3.index t 0 * 256 + (j 0).val) (h1 : (i 1).val = (j 1).val) :
    (iblk m c 0 t : S256x512.Idx → EReal) j = (m ((c : Thread nD τ).loc main_arg0) : S2048x512.Idx → EReal) i := by
  unfold iblk
  rw [View.read_apply]
  show V m c main_arg0 _ = _
  rw [V_main_arg0]
  congr 1
  obtain ⟨e0, e1, -⟩ := idx_at t
  funext a; apply Fin.ext
  match a with
  | ⟨0, _⟩ => show win0_0.index t 0 * 256 + 1 * (j 0).val = (i 0).val; rw [e0]; omega
  | ⟨1, _⟩ => show win0_0.index t 1 * 512 + 1 * (j 1).val = (i 1).val; rw [e1]; omega

theorem w_at (c : Dev nD) (t : Fin cfg0.N) (j : S512x128.Idx) (i : S512x128.Idx)
    (h0 : (i 0).val = (j 0).val) (h1 : (i 1).val = win0_3.index t 1 * 128 + (j 1).val) :
    (iblk m c 1 t : S512x128.Idx → EReal) j = (m ((c : Thread nD τ).loc main_arg1) : S512x128.Idx → EReal) i := by
  unfold iblk
  rw [View.read_apply]
  show V m c main_arg1 _ = _
  rw [V_main_arg1]
  congr 1
  obtain ⟨-, -, e0, e1, -⟩ := idx_at t
  funext a; apply Fin.ext
  match a with
  | ⟨0, _⟩ => show win0_1.index t 0 * 512 + 1 * (j 0).val = (i 0).val; rw [e0]; omega
  | ⟨1, _⟩ => show win0_1.index t 1 * 128 + 1 * (j 1).val = (i 1).val; rw [e1]; omega

theorem b_at (c : Dev nD) (t : Fin cfg0.N) (j : S1x128.Idx) (i : S128.Idx)
    (h1 : (i 0).val = win0_3.index t 1 * 128 + (j 1).val) :
    (iblk m c 2 t : S1x128.Idx → EReal) j = (m ((c : Thread nD τ).loc main_arg2) : S128.Idx → EReal) i := by
  unfold iblk
  rw [View.read_apply]
  show V m c main_v0 _ = _
  rw [V_row]
  congr 1
  obtain ⟨-, -, -, -, e0, e1⟩ := idx_at t
  funext a; apply Fin.ext
  match a with
  | ⟨0, _⟩ => show win0_2.index t 1 * 128 + 1 * (j 1).val = (i 0).val; rw [e1]; omega

/-- A point writes its block of the result back. -/
theorem flushed_eq (c : Dev nD) (t : Fin cfg0.N) :
    (dats m 0 c).flushed 3 t = ((cfg0.win 3).blk t).view.read (Elt Ideal) (result m c) := by
  rw [Value.flushed3_A, out_A]
  funext j
  rw [View.read_apply]
  show k0_pay3 (F := Ideal) (k0_pay2 (iblk m c 0 t) (k0_pay1 (F := Ideal)) (iblk m c 1 t)) (iblk m c 2 t) (j : S256x128.Idx) = result m c _
  rw [pay_apply]
  unfold result gated affine
  have r0 : ((((cfg0.win 3).blk t).view.emb j : S2048x128.Idx) 0).val = win0_3.index t 0 * 256 + 1 * ((j : S256x128.Idx) 0).val := rfl
  have r1 : ((((cfg0.win 3).blk t).view.emb j : S2048x128.Idx) 1).val = win0_3.index t 1 * 128 + 1 * ((j : S256x128.Idx) 1).val := rfl
  rw [Nat.one_mul] at r0 r1
  refine congrArg Ideal.logistic (congrArg₂ (· + ·) (Finset.sum_congr rfl fun k _ => congrArg₂ (· * ·) (congrArg gelu ?_) ?_) ?_)
  · exact x_at m c t _ _ r0 rfl
  · exact w_at m c t _ _ rfl r1
  · exact b_at m c t _ _ r1

/-- The blocks fill the result. -/
theorem final (c : Dev nD) : (dats m 0 c).arrAt 3 cfg0.N = result m c := by
  refine (dats m 0 c).arrAt_eq_of_cover 3 (result m c) (fun t _ => flushed_eq m c t) fun (i : S2048x128.Idx) => ?_
  have b0 : (i 0).val < 2048 := (i 0).isLt
  have b1 : (i 1).val < 128 := (i 1).isLt
  obtain ⟨t, hf, ht0, ht1⟩ := (by decide +kernel : ∀ (a : Fin 8) (b : Fin 1), ∃ t : Fin grid0.N, (cfg0.win 3).flush t = true
    ∧ win0_3.index t 0 = a.val ∧ win0_3.index t 1 = b.val) ⟨(i 0).val / 256, by omega⟩ ⟨(i 1).val / 128, by omega⟩
  refine ⟨t, hf, ?_⟩
  show i ∈ ((View.whole main_v1).slice (win0_3.rect t)).set
  rw [View.set_slice_whole, Rect.mem_set_unit]
  intro a
  match a with
  | ⟨0, _⟩ => show win0_3.index t 0 * 256 ≤ (i 0).val ∧ (i 0).val < win0_3.index t 0 * 256 + 256
              rw [ht0]; dsimp only; constructor <;> omega
  | ⟨1, _⟩ => show win0_3.index t 1 * 128 ≤ (i 1).val ∧ (i 1).val < win0_3.index t 1 * 128 + 128
              rw [ht1]; dsimp only; constructor <;> omega

end Cert.GateIdeal.Exact

namespace Cert.GateRefIdeal.Exact

open Cert.GateRefIdeal Cert.GateRefIdeal.Gen Cert.GateRefIdeal.Read

/-- The reference at an index. -/
theorem ref_apply (x : S2048x512.Idx → EReal) (w : S512x128.Idx → EReal) (b : S128.Idx → EReal) (i : S2048x128.Idx) :
    val_main_v16 (F := Ideal) x w b i = Cert.GateIdeal.Exact.gated x w b i := by
  have h1 : Ideal.ofBits .f32 0x3F800000#32 = 1 := IdealRules.sign_bit.ideal_onePat .f32
  have hg : val_main_v6 (F := Ideal) x = fun i => Cert.Common.gelu (x i) := by
    funext i
    rw [val_main_v6_apply, val_main_v1_apply, val_main_v5_apply, val_main_v4_apply, val_main_v2_apply, val_main_v0_apply, val_main_v3_apply,
      val_main_cst_apply, val_main_cst_0_apply]
    rfl
  have hl : val_main_v10 (F := Ideal) x w b i = Cert.Common.affine (M := 2048) (K := 512) (N := 128) (fun i => Cert.Common.gelu (x i)) w b i := by
    rw [val_main_v10_apply, val_main_v7_apply, val_main_v9_apply, val_main_v8_apply, hg]
    unfold Cert.Common.affine
    refine congrArg₂ (· + ·) (Finset.sum_congr rfl fun k _ => congrArg₂ (· * ·) (congrArg Cert.Common.gelu ?_) ?_) ?_
    all_goals first | refine congrArg x ?_ | refine congrArg w ?_ | refine congrArg b ?_
    all_goals funext a; fin_cases a <;> rfl
  rw [val_main_v16_apply, val_main_v15_apply, val_main_v14_apply, val_main_v13_apply, val_main_v12_apply, val_main_v11_apply,
    val_main_cst_1_apply, val_main_cst_2_apply, hl]
  show Ideal.div (Ideal.ofBits .f32 0x3F800000#32) (Ideal.ofBits .f32 0x3F800000#32 + _) = _
  rw [h1]
  rfl

end Cert.GateRefIdeal.Exact

namespace Cert.Proof

open Cert.Common

/-- The gate's call computes the reference's gate. -/
theorem gate : algebraic_GateIdeal_GateRefIdeal := by
  intro m g m' g' _ h
  refine ⟨fun c => Cert.GateIdeal.Exact.result m c, ?_, ?_⟩
  · refine (θ_run Cert.GateIdeal.defs _ _).mono ?_ (Cert.GateIdeal.Value.run_blocks m g)
    intro r hr c
    exact ⟨(hr c).1.trans (Cert.GateIdeal.Exact.final m c), (hr c).2⟩
  · refine (θ_run Cert.GateRefIdeal.defs _ _).mono ?_ (Cert.GateRefIdeal.Value.run m' g')
    intro r hr c
    refine ⟨(hr c).1.trans ?_, (hr c).2⟩
    rw [Cert.GateRefIdeal.Read.val_main_v16_eq]
    funext i
    obtain ⟨a0, a1, a2⟩ := h c
    rw [a0, a1, a2]
    exact Cert.GateRefIdeal.Exact.ref_apply _ _ _ i

end Cert.Proof

end
-- ==== Proof.Disproof.lean ====
/-
  The kernel as published does not compute the layer: what it returns drops everything its attention computed. Here, at
  weights that are zero but for the query bias and the output matrix (both ones), the kernel returns 1024 at every
  index, while the layer's own result is a sum of multiples of zero.
-/
module

public import proofs.«01_k».proof.Defs
public import proofs.«01_k».proof.Proof.Common
public import proofs.«01_k».proof.Proof.Gen.LayerAtIdeal.Frame
public import proofs.«01_k».proof.Proof.Gen.LayerRefAtIdeal.Read
public import Idealize.ShloMosaic.Lib.StableHlo.Run
public import Idealize.ShloMosaic.Lib.Tactic

@[expose] public section

noncomputable section

open Idealize.ShloMosaic Idealize.ShloMosaic.TcCoe Idealize.SL Idealize.SL.Sem Idealize.ShloMosaic.ValueIdx
open Idealize.ShloMosaic.Pipeline (Dat)
open scoped BigOperators

namespace Cert.LayerRefAtIdeal.Zero

open Cert.LayerRefAtIdeal Cert.LayerRefAtIdeal.Gen Cert.LayerRefAtIdeal.Read

/-- A multiple of zero in the extended reals, or a sum of such: never a nonzero real. -/
def Nil (x : EReal) : Prop := x = 0 ∨ x = ⊤ ∨ x = ⊥

theorem Nil.zero : Nil (Ideal.ofBits .f32 0x00000000#32) := .inl Ideal.ofBits_zero_f32
theorem Nil.add {x y : EReal} (hx : Nil x) (hy : Nil y) : Nil (x + y) := by
  rcases hx with rfl | rfl | rfl <;> rcases hy with rfl | rfl | rfl <;> simp [Nil]
theorem Nil.mul_left {x : EReal} (y : EReal) (hx : Nil x) : Nil (x * y) := by
  rcases hx with rfl | rfl | rfl
  · exact .inl (zero_mul y)
  · rcases lt_trichotomy y 0 with h | rfl | h
    · exact .inr (.inr (EReal.top_mul_of_neg h))
    · exact .inl (mul_zero _)
    · exact .inr (.inl (EReal.top_mul_of_pos h))
  · rcases lt_trichotomy y 0 with h | rfl | h
    · exact .inr (.inl (EReal.bot_mul_of_neg h))
    · exact .inl (mul_zero _)
    · exact .inr (.inr (EReal.bot_mul_of_pos h))
theorem Nil.mul_right (x : EReal) {y : EReal} (hy : Nil y) : Nil (x * y) := by
  rw [mul_comm]; exact hy.mul_left x
theorem Nil.sum {n : ℕ} (f : Fin n → EReal) (h : ∀ k, Nil (f k)) : Nil (∑ k, f k) := by
  refine Finset.sum_induction f Nil (fun _ _ => Nil.add) (.inl rfl) (fun k _ => h k)
theorem nil_bot : Nil (Ideal.ofBits .f32 0x7FC00000#32) := by
  right; right; simp [Ideal.ofBits, Ideal.ieee]
theorem not_nil {x : EReal} (r : ℝ) (hr : r ≠ 0) (h : Nil x) : x ≠ r := by
  rintro rfl
  rcases h with h | h | h
  · exact hr (by exact_mod_cast h)
  · exact EReal.coe_ne_top r h
  · exact EReal.coe_ne_bot r h

theorem nil_v5 (i : S1024x1024.Idx) : Nil (val_main_v5 (F := Ideal) i) := by
  rw [val_main_v5_apply, val_main_cst_3_apply]; exact Nil.zero
theorem nil_v6 (i : S1024.Idx) : Nil (val_main_v6 (F := Ideal) i) := by
  rw [val_main_v6_apply, val_main_cst_4_apply]; exact Nil.zero
theorem nil_v11 (i : S4096x1024.Idx) : Nil (val_main_v11 (F := Ideal) i) := by
  rw [val_main_v11_apply, val_main_cst_9_apply]; exact Nil.zero
theorem nil_v12 (i : S1024.Idx) : Nil (val_main_v12 (F := Ideal) i) := by
  rw [val_main_v12_apply, val_main_cst_10_apply]; exact Nil.zero
theorem nil_v8 (i : S1024.Idx) : Nil (val_main_v8 (F := Ideal) i) := by
  rw [val_main_v8_apply, val_main_cst_6_apply]; exact Nil.zero
theorem nil_v27 (i : S2048x1024.Idx) : Nil (val_main_v27 (F := Ideal) i) := by
  rw [val_main_v27_apply]; exact Nil.sum _ fun k => Nil.mul_right _ (nil_v5 _)
theorem nil_v28 (i : S1x1024.Idx) : Nil (val_main_v28 (F := Ideal) i) := by
  rw [val_main_v28_apply]; exact (nil_v6 _)
theorem nil_v29 (i : S2048x1024.Idx) : Nil (val_main_v29 (F := Ideal) i) := by
  rw [val_main_v29_apply]; exact (nil_v28 _)
theorem nil_v30 (i : S2048x1024.Idx) : Nil (val_main_v30 (F := Ideal) i) := by
  rw [val_main_v30_apply]; exact (nil_v27 _).add (nil_v29 _)
theorem nil_v78 (i : S1x2048x16x64.Idx) : Nil (val_main_v78 (F := Ideal) i) := by
  rw [val_main_v78_apply]; exact (nil_v30 _)
theorem nil_v79 (i : S1x16x2048x64.Idx) : Nil (val_main_v79 (F := Ideal) i) := by
  rw [val_main_v79_apply]; exact (nil_v78 _)
theorem nil_v49 (i : S256x1024.Idx) : Nil (val_main_v49 (F := Ideal) i) := by
  rw [val_main_v49_apply]; exact Nil.sum _ fun k => Nil.mul_right _ (nil_v11 _)
theorem nil_v50 (i : S1x1024.Idx) : Nil (val_main_v50 (F := Ideal) i) := by
  rw [val_main_v50_apply]; exact (nil_v12 _)
theorem nil_v51 (i : S256x1024.Idx) : Nil (val_main_v51 (F := Ideal) i) := by
  rw [val_main_v51_apply]; exact (nil_v50 _)
theorem nil_v52 (i : S256x1024.Idx) : Nil (val_main_v52 (F := Ideal) i) := by
  rw [val_main_v52_apply]; exact (nil_v49 _).add (nil_v51 _)
theorem nil_v83 (i : S128x1024.Idx) : Nil (val_main_v83 (F := Ideal) i) := by
  rw [val_main_v83_apply]; exact (nil_v52 _)
theorem nil_v84 (i : S1x128x16x64.Idx) : Nil (val_main_v84 (F := Ideal) i) := by
  rw [val_main_v84_apply]; exact (nil_v83 _)
theorem nil_v85 (i : S1x16x128x64.Idx) : Nil (val_main_v85 (F := Ideal) i) := by
  rw [val_main_v85_apply]; exact (nil_v84 _)
theorem nil_v100 (x0 : S1.Idx → EReal) (i : S1x16x2048x64.Idx) : Nil (val_main_v100 (F := Ideal) x0 i) := by
  rw [val_main_v100_apply]; exact Nil.sum _ fun k => Nil.mul_right _ (nil_v85 _)
theorem nil_v182 (x0 : S1.Idx → EReal) (i : S1x2048x16x64.Idx) : Nil (val_main_v182 (F := Ideal) x0 i) := by
  rw [val_main_v182_apply]; exact (nil_v100 x0 _)
theorem nil_v183 (x0 : S1.Idx → EReal) (i : S1x2048x1024.Idx) : Nil (val_main_v183 (F := Ideal) x0 i) := by
  rw [val_main_v183_apply]; exact (nil_v182 x0 _)
theorem nil_v185 (x0 : S1.Idx → EReal) (i : S1x2048x1024.Idx) : Nil (val_main_v185 (F := Ideal) x0 i) := by
  rw [val_main_v185_apply]; exact Nil.mul_right _ (nil_v183 x0 _)
theorem nil_v106 (i : S1x16x128x16x64.Idx) : Nil (val_main_v106 (F := Ideal) i) := by
  rw [val_main_v106_apply]; exact (nil_v79 _)
theorem nil_v112 (i : S1x16x1x128x16x64.Idx) : Nil (val_main_v112 (F := Ideal) i) := by
  rw [val_main_v112_apply]; exact (nil_v106 _)
theorem nil_call1_v6 (i : S1x16x128x16x64.Idx) : Nil (val_main_call1_v6 (F := Ideal) i) := by
  unfold val_main_call1_v6; exact (nil_v112 _)
theorem nil_call1_v14 (x0 : S1.Idx → EReal) (i : S1x16x128x16x16x64.Idx) : Nil (val_main_call1_v14 (F := Ideal) x0 i) := by
  unfold val_main_call1_v14; exact (nil_call1_v6 _)
theorem nil_v113 (x0 : S1.Idx → EReal) (i : S1x16x128x16x16x64.Idx) : Nil (val_main_v113 (F := Ideal) x0 i) := by
  rw [val_main_v113_apply]
  rw [val_main_call1_v16_apply, val_main_call1_cst_apply]
  unfold Scalar.select
  split
  · exact nil_call1_v14 x0 _
  · exact nil_bot
theorem nil_v114 (x0 : S1.Idx → EReal) (i : S1x16x128x256x64.Idx) : Nil (val_main_v114 (F := Ideal) x0 i) := by
  unfold val_main_v114; exact (nil_v113 x0 _)
theorem nil_v130 (x0 : S1.Idx → EReal) (i : S1x16x128x16x64.Idx) : Nil (val_main_v130 (F := Ideal) x0 i) := by
  rw [val_main_v130_apply]; exact Nil.sum _ fun k => Nil.mul_right _ (nil_v114 x0 _)
theorem nil_v131 (x0 : S1.Idx → EReal) (i : S1x16x2048x64.Idx) : Nil (val_main_v131 (F := Ideal) x0 i) := by
  rw [val_main_v131_apply]; exact (nil_v130 x0 _)
theorem nil_v187 (x0 : S1.Idx → EReal) (i : S1x2048x16x64.Idx) : Nil (val_main_v187 (F := Ideal) x0 i) := by
  rw [val_main_v187_apply]; exact (nil_v131 x0 _)
theorem nil_v188 (x0 : S1.Idx → EReal) (i : S1x2048x1024.Idx) : Nil (val_main_v188 (F := Ideal) x0 i) := by
  rw [val_main_v188_apply]; exact (nil_v187 x0 _)
theorem nil_v190 (x0 : S1.Idx → EReal) (i : S1x2048x1024.Idx) : Nil (val_main_v190 (F := Ideal) x0 i) := by
  rw [val_main_v190_apply]; exact Nil.mul_right _ (nil_v188 x0 _)
theorem nil_v161 (i : S1x16x128x512x64.Idx) : Nil (val_main_v161 (F := Ideal) i) := by
  unfold val_main_v161; exact (nil_v79 _)
theorem nil_v178 (x0 : S1.Idx → EReal) (i : S1x16x128x16x64.Idx) : Nil (val_main_v178 (F := Ideal) x0 i) := by
  rw [val_main_v178_apply]; exact Nil.sum _ fun k => Nil.mul_right _ (nil_v161 _)
theorem nil_v179 (x0 : S1.Idx → EReal) (i : S1x16x2048x64.Idx) : Nil (val_main_v179 (F := Ideal) x0 i) := by
  rw [val_main_v179_apply]; exact (nil_v178 x0 _)
theorem nil_v193 (x0 : S1.Idx → EReal) (i : S1x2048x16x64.Idx) : Nil (val_main_v193 (F := Ideal) x0 i) := by
  rw [val_main_v193_apply]; exact (nil_v179 x0 _)
theorem nil_v194 (x0 : S1.Idx → EReal) (i : S1x2048x1024.Idx) : Nil (val_main_v194 (F := Ideal) x0 i) := by
  rw [val_main_v194_apply]; exact (nil_v193 x0 _)
theorem nil_v196 (x0 : S1.Idx → EReal) (i : S1x2048x1024.Idx) : Nil (val_main_v196 (F := Ideal) x0 i) := by
  rw [val_main_v196_apply]; exact Nil.mul_right _ (nil_v194 x0 _)
theorem nil_v191 (x0 : S1.Idx → EReal) (i : S1x2048x1024.Idx) : Nil (val_main_v191 (F := Ideal) x0 i) := by
  rw [val_main_v191_apply]; exact (nil_v185 x0 _).add (nil_v190 x0 _)
theorem nil_v197 (x0 : S1.Idx → EReal) (i : S1x2048x1024.Idx) : Nil (val_main_v197 (F := Ideal) x0 i) := by
  rw [val_main_v197_apply]; exact (nil_v191 x0 _).add (nil_v196 x0 _)
theorem nil_v198 (x0 : S1.Idx → EReal) (i : S2048x1024.Idx) : Nil (val_main_v198 (F := Ideal) x0 i) := by
  rw [val_main_v198_apply]; exact (nil_v197 x0 _)
theorem nil_v199 (x0 : S1.Idx → EReal) (i : S2048x1024.Idx) : Nil (val_main_v199 (F := Ideal) x0 i) := by
  rw [val_main_v199_apply]; exact Nil.sum _ fun k => (nil_v198 x0 _).mul_left _
theorem nil_v200 (i : S1x1024.Idx) : Nil (val_main_v200 (F := Ideal) i) := by
  rw [val_main_v200_apply]; exact (nil_v8 _)
theorem nil_v201 (i : S2048x1024.Idx) : Nil (val_main_v201 (F := Ideal) i) := by
  rw [val_main_v201_apply]; exact (nil_v200 _)
theorem nil_v202 (x0 : S1.Idx → EReal) (i : S2048x1024.Idx) : Nil (val_main_v202 (F := Ideal) x0 i) := by
  rw [val_main_v202_apply]; exact (nil_v199 x0 _).add (nil_v201 _)
theorem nil_v203 (x0 : S1.Idx → EReal) (i : S1x2048x1024.Idx) : Nil (val_main_v203 (F := Ideal) x0 i) := by
  rw [val_main_v203_apply]; exact (nil_v202 x0 _)

end Cert.LayerRefAtIdeal.Zero

namespace Cert.LayerAtIdeal.Exact

open Cert.LayerAtIdeal Cert.LayerAtIdeal.Gen Cert.Common
open Idealize.SL.RA Idealize.SL.BI Idealize.SL.BI.BIBase Idealize.SL.BI.Laws Idealize.SL.ProofMode
open scoped Idealize.SL.BI
open Idealize.ShloMosaic.Rounds

/-- An array's element. -/
abbrev rd {S : Shape} (x : S.Idx → EReal) (i : S.Idx) : EReal := x i

/-- What a point of call 0 writes back. -/
theorem flushed0 (V : (c : Dev nD) → (b : Ref sig .tc) → Buf (Elt Ideal) ((c : Thread nD τ).loc b)) (c : Dev nD) (t : Fin cfg0.N) :
    (dat0 (F := Ideal) V c).flushed 3 t = (cfg0.win 3).cut (grid0.coords t) (out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)) := by
  show (cfg0.win 3).cut (grid0.coords t) ((dat0 (F := Ideal) V c).after 3 t) = _
  rw [after0_3]
  unfold outsAt0
  rfl

/-- What a point of call 0 leaves in its output block. -/
theorem out0_A {F : FTy → Type} [FloatOps F] (c : Dev nD) (i : grid0.Coords)
    (a3 : Memref sig .tc .vmem S256x1024 .f32) (h3 : a3.IsWhole)
    (a4 : Memref sig .tc .vmem S1024x512 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : cond0_0 i) (hc1 : cond0_1 i) (x : Vec F S256x1024 .f32) (w : Vec F S1024x512 .f32) (b : Vec F S1x512 .f32) :
    out0_A_3 c i a3 h3 a4 h4 a5 h5 a6 h6 a7 h7 hc0 hc1 x w b = k0_pay3 (k0_pay2 x (k0_pay1 (F := F)) w) b := by
  unfold out0_A_3
  rw [View.read_writes_eq_canon _ _ _ (cover0_A_3 c i a3 h3 a4 h4 a5 h5 a6 h6 a7 h7 hc0 hc1 x w b)]
  unfold kernelRun0_A
  dsimp only
  sl_unfold_words
  rw [View.canon_unit_zero off2]
  rw [View.readCov_cons_toLoadRect]
  simp only [View.readCov_unit_zero (S := S256x512) _ off2, View.readAt_eq_ld, h3.read_unread, h4.read_unread, h5.read_unread,
    View.ld_unit_zero (S := S256x1024) off2, View.ld_unit_zero (S := S1024x512) off2, View.ld_unit_zero (S := S1x512) off2, View.canon_cons_unit_zero (S := S256x512) off2]

theorem pay0_apply (x : Vec Ideal S256x1024 .f32) (w : Vec Ideal S1024x512 .f32) (b : Vec Ideal S1x512 .f32) (j : S256x512.Idx) :
    k0_pay3 (F := Ideal) (k0_pay2 x (k0_pay1 (F := Ideal)) w) b j
      = (∑ k : Fin 1024, x (ix2 (j 0) k) * w (ix2 k (j 1))) + b (ix2 0 (j 1)) := by
  unfold k0_pay3 k0_pay2 k0_pay1
  simp only [shapeCast_self, addf_apply]
  have e1 := plain_zero none x w j
  have e2 := row_apply (M := 256) (N := 512) (by decide) b shapeCasts_S1x512_S1x512 broadcasts_S1x512_S256x512 j
  rw [shapeCast_self] at e2
  refine congrArg₂ (· + ·) ?_ e2
  refine Eq.trans ?_ e1
  show Ideal.ofBits .f32 0x00000000#32 + _ = _
  rw [Ideal.ofBits_zero_f32, zero_add]
  rfl

/-- The block of call 0 at arrays that hold one value each. -/
theorem pay0_const (x : Vec Ideal S256x1024 .f32) (w : Vec Ideal S1024x512 .f32) (b : Vec Ideal S1x512 .f32) (cx cw cb : EReal)
    (hx : ∀ i, x i = cx) (hw : ∀ i, w i = cw) (hb : ∀ i, b i = cb) (j : S256x512.Idx) :
    k0_pay3 (F := Ideal) (k0_pay2 x (k0_pay1 (F := Ideal)) w) b j = (∑ k : Fin 1024, cx * cw) + cb := by
  rw [pay0_apply]
  exact congrArg₂ (· + ·) (Finset.sum_congr rfl fun k _ => congrArg₂ (· * ·) (hx _) (hw _)) (hb _)

/-- Call 0 at arrays that hold one value each. -/
theorem call0 (V : (c : Dev nD) → (b : Ref sig .tc) → Buf (Elt Ideal) ((c : Thread nD τ).loc b)) (c : Dev nD) (cx cw cb : EReal)
    (hx : ∀ i : S2048x1024.Idx, rd (S := S2048x1024) (V c main_v5) i = cx)
    (hw : ∀ i : S1024x1024.Idx, rd (S := S1024x1024) (V c main_v1) i = cw)
    (hb : ∀ i : S1x1024.Idx, rd (S := S1x1024) (V c main_v6) i = cb) :
    (dat0 (F := Ideal) V c).arrAt 3 cfg0.N = fun _ : S2048x1024.Idx => (∑ k : Fin 1024, cx * cw) + cb := by
  refine (dat0 (F := Ideal) V c).arrAt_eq_of_cover 3 (fun _ : S2048x1024.Idx => (∑ k : Fin 1024, cx * cw) + cb) (fun t _ => ?_)
    fun (i : S2048x1024.Idx) => ?_
  · rw [Cert.LayerAtIdeal.Exact.flushed0, out0_A]
    funext j
    rw [View.read_apply]
    refine pay0_const _ _ _ cx cw cb (fun i => ?_) (fun i => ?_) (fun i => ?_) (j : S256x512.Idx)
    · unfold iblk0; rw [View.read_apply]; exact hx _
    · unfold iblk0; rw [View.read_apply]; exact hw _
    · unfold iblk0; rw [View.read_apply]; exact hb _
  · have b0 : (i 0).val < 2048 := (i 0).isLt
    have b1 : (i 1).val < 1024 := (i 1).isLt
    obtain ⟨t, hf, ht0, ht1⟩ := (by decide +kernel : ∀ (a : Fin 8) (b : Fin 2), ∃ t : Fin grid0.N, (cfg0.win 3).flush t = true
      ∧ win0_3.index t 0 = a.val ∧ win0_3.index t 1 = b.val) ⟨(i 0).val / 256, by omega⟩ ⟨(i 1).val / 512, by omega⟩
    refine ⟨t, hf, ?_⟩
    show i ∈ ((View.whole main_v7).slice (win0_3.rect t)).set
    rw [View.set_slice_whole, Rect.mem_set_unit]
    intro a
    match a with
    | ⟨0, _⟩ => show win0_3.index t 0 * 256 ≤ (i 0).val ∧ (i 0).val < win0_3.index t 0 * 256 + 256
                rw [ht0]; dsimp only; constructor <;> omega
    | ⟨1, _⟩ => show win0_3.index t 1 * 512 ≤ (i 1).val ∧ (i 1).val < win0_3.index t 1 * 512 + 512
                rw [ht1]; dsimp only; constructor <;> omega

/-- What a point of call 1 writes back. -/
theorem flushed1 (V : (c : Dev nD) → (b : Ref sig .tc) → Buf (Elt Ideal) ((c : Thread nD τ).loc b)) (c : Dev nD) (t : Fin cfg1.N) :
    (dat1 (F := Ideal) V c).flushed 3 t = (cfg1.win 3).cut (grid1.coords t) (out1_A_3 c (grid1.coords t) (ms1_0 t) (hs1_0 t) (ms1_1 t) (hs1_1 t) (ms1_2 t) (hs1_2 t) (ms1_3 t) (hs1_3 t) scM1_0 (Memref.isWhole_whole _) (hcond1_0 t) (hcond1_1 t) (iblk1 V c 0 t) (iblk1 V c 1 t) (iblk1 V c 2 t)) := by
  show (cfg1.win 3).cut (grid1.coords t) ((dat1 (F := Ideal) V c).after 3 t) = _
  rw [after1_3]
  unfold outsAt1
  rfl

/-- What a point of call 1 leaves in its output block. -/
theorem out1_A {F : FTy → Type} [FloatOps F] (c : Dev nD) (i : grid1.Coords)
    (a3 : Memref sig .tc .vmem S256x1024 .f32) (h3 : a3.IsWhole)
    (a4 : Memref sig .tc .vmem S1024x512 .f32) (h4 : a4.IsWhole) (a5 : Memref sig .tc .vmem S1x512 .f32) (h5 : a5.IsWhole)
    (a6 : Memref sig .tc .vmem S256x512 .f32) (h6 : a6.IsWhole) (a7 : Memref sig .tc .vmem S256x512 .f32) (h7 : a7.IsWhole)
    (hc0 : cond1_0 i) (hc1 : cond1_1 i) (x : Vec F S256x1024 .f32) (w : Vec F S1024x512 .f32) (b : Vec F S1x512 .f32) :
    out1_A_3 c i a3 h3 a4 h4 a5 h5 a6 h6 a7 h7 hc0 hc1 x w b = k1_pay3 (k1_pay2 x (k1_pay1 (F := F)) w) b := by
  unfold out1_A_3
  rw [View.read_writes_eq_canon _ _ _ (cover1_A_3 c i a3 h3 a4 h4 a5 h5 a6 h6 a7 h7 hc0 hc1 x w b)]
  unfold kernelRun1_A
  dsimp only
  sl_unfold_words
  rw [View.canon_unit_zero off2]
  rw [View.readCov_cons_toLoadRect]
  simp only [View.readCov_unit_zero (S := S256x512) _ off2, View.readAt_eq_ld, h3.read_unread, h4.read_unread, h5.read_unread,
    View.ld_unit_zero (S := S256x1024) off2, View.ld_unit_zero (S := S1024x512) off2, View.ld_unit_zero (S := S1x512) off2, View.canon_cons_unit_zero (S := S256x512) off2]

theorem pay1_apply (x : Vec Ideal S256x1024 .f32) (w : Vec Ideal S1024x512 .f32) (b : Vec Ideal S1x512 .f32) (j : S256x512.Idx) :
    k1_pay3 (F := Ideal) (k1_pay2 x (k1_pay1 (F := Ideal)) w) b j
      = (∑ k : Fin 1024, x (ix2 (j 0) k) * w (ix2 k (j 1))) + b (ix2 0 (j 1)) := by
  unfold k1_pay3 k1_pay2 k1_pay1
  simp only [shapeCast_self, addf_apply]
  have e1 := plain_zero none x w j
  have e2 := row_apply (M := 256) (N := 512) (by decide) b shapeCasts_S1x512_S1x512 broadcasts_S1x512_S256x512 j
  rw [shapeCast_self] at e2
  refine congrArg₂ (· + ·) ?_ e2
  refine Eq.trans ?_ e1
  show Ideal.ofBits .f32 0x00000000#32 + _ = _
  rw [Ideal.ofBits_zero_f32, zero_add]
  rfl

/-- The block of call 1 at arrays that hold one value each. -/
theorem pay1_const (x : Vec Ideal S256x1024 .f32) (w : Vec Ideal S1024x512 .f32) (b : Vec Ideal S1x512 .f32) (cx cw cb : EReal)
    (hx : ∀ i, x i = cx) (hw : ∀ i, w i = cw) (hb : ∀ i, b i = cb) (j : S256x512.Idx) :
    k1_pay3 (F := Ideal) (k1_pay2 x (k1_pay1 (F := Ideal)) w) b j = (∑ k : Fin 1024, cx * cw) + cb := by
  rw [pay1_apply]
  exact congrArg₂ (· + ·) (Finset.sum_congr rfl fun k _ => congrArg₂ (· * ·) (hx _) (hw _)) (hb _)

/-- Call 1 at arrays that hold one value each. -/
theorem call1 (V : (c : Dev nD) → (b : Ref sig .tc) → Buf (Elt Ideal) ((c : Thread nD τ).loc b)) (c : Dev nD) (cx cw cb : EReal)
    (hx : ∀ i : S2048x1024.Idx, rd (S := S2048x1024) (V c main_v7) i = cx)
    (hw : ∀ i : S1024x1024.Idx, rd (S := S1024x1024) (V c main_v3) i = cw)
    (hb : ∀ i : S1x1024.Idx, rd (S := S1x1024) (V c main_v8) i = cb) :
    (dat1 (F := Ideal) V c).arrAt 3 cfg1.N = fun _ : S2048x1024.Idx => (∑ k : Fin 1024, cx * cw) + cb := by
  refine (dat1 (F := Ideal) V c).arrAt_eq_of_cover 3 (fun _ : S2048x1024.Idx => (∑ k : Fin 1024, cx * cw) + cb) (fun t _ => ?_)
    fun (i : S2048x1024.Idx) => ?_
  · rw [Cert.LayerAtIdeal.Exact.flushed1, out1_A]
    funext j
    rw [View.read_apply]
    refine pay1_const _ _ _ cx cw cb (fun i => ?_) (fun i => ?_) (fun i => ?_) (j : S256x512.Idx)
    · unfold iblk1; rw [View.read_apply]; exact hx _
    · unfold iblk1; rw [View.read_apply]; exact hw _
    · unfold iblk1; rw [View.read_apply]; exact hb _
  · have b0 : (i 0).val < 2048 := (i 0).isLt
    have b1 : (i 1).val < 1024 := (i 1).isLt
    obtain ⟨t, hf, ht0, ht1⟩ := (by decide +kernel : ∀ (a : Fin 8) (b : Fin 2), ∃ t : Fin grid1.N, (cfg1.win 3).flush t = true
      ∧ win1_3.index t 0 = a.val ∧ win1_3.index t 1 = b.val) ⟨(i 0).val / 256, by omega⟩ ⟨(i 1).val / 512, by omega⟩
    refine ⟨t, hf, ?_⟩
    show i ∈ ((View.whole main_v9).slice (win1_3.rect t)).set
    rw [View.set_slice_whole, Rect.mem_set_unit]
    intro a
    match a with
    | ⟨0, _⟩ => show win1_3.index t 0 * 256 ≤ (i 0).val ∧ (i 0).val < win1_3.index t 0 * 256 + 256
                rw [ht0]; dsimp only; constructor <;> omega
    | ⟨1, _⟩ => show win1_3.index t 1 * 512 ≤ (i 1).val ∧ (i 1).val < win1_3.index t 1 * 512 + 512
                rw [ht1]; dsimp only; constructor <;> omega

local notation "𝕄" => MT nD τ sig Unit (Elt Ideal) ℕ (UR sig nD τ) ℕ

variable (m : (ℓ : Loc nD τ sig) → Buf (Elt Ideal) ℓ) (ρ : Dev nD → PrngReg)

/-- The run ends with the result buffer at the last boundary's contents. -/
theorem run : θ_run defs (onTc (τ := τ) (main (F := Ideal))) ⟨m, fun _ => 0, ρ⟩ (fun r => ∀ c : Dev nD,
      r.2.mem ((c.tc : Thread nD τ).loc main_v10) = W5 m ρ c main_v10) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c _ (mem_uc main_v10 (by decide)))

theorem at_v5 (c : Dev nD) (i : S2048x1024.Idx) : rd (S := S2048x1024) (V1 m ρ c main_v5) i = 0 := by
  have e : (V1 m ρ c main_v5 : S2048x1024.Idx → EReal) = shapeCast S2048x1024 (broadcastInDim S1x2048x1024 ![] bcast_S_S1x2048x1024 (constant (F := Ideal) S_ .f32 0x00000000#32)) shapeCasts_S1x2048x1024_S2048x1024 := by
    show StableHlo.after hostOps0 _ _ = _
    after_results
    try rfl
  unfold rd
  rw [e]
  exact Ideal.ofBits_zero_f32

theorem at_v1 (c : Dev nD) (i : S1024x1024.Idx) : rd (S := S1024x1024) (V1 m ρ c main_v1) i = 0 := by
  have e : (V1 m ρ c main_v1 : S1024x1024.Idx → EReal) = broadcastInDim S1024x1024 ![] bcast_S_S1024x1024 (constant (F := Ideal) S_ .f32 0x00000000#32) := by
    show StableHlo.after hostOps0 _ _ = _
    after_results
    try rfl
  unfold rd
  rw [e]
  exact Ideal.ofBits_zero_f32

theorem at_v3 (c : Dev nD) (i : S1024x1024.Idx) : rd (S := S1024x1024) (V1 m ρ c main_v3) i = 1 := by
  have e : (V1 m ρ c main_v3 : S1024x1024.Idx → EReal) = broadcastInDim S1024x1024 ![] bcast_S_S1024x1024 (constant (F := Ideal) S_ .f32 0x3F800000#32) := by
    show StableHlo.after hostOps0 _ _ = _
    after_results
    try rfl
  unfold rd
  rw [e]
  exact IdealRules.sign_bit.ideal_onePat .f32

theorem at_v4 (c : Dev nD) (i : S1024.Idx) : rd (S := S1024) (V1 m ρ c main_v4) i = 0 := by
  have e : (V1 m ρ c main_v4 : S1024.Idx → EReal) = broadcastInDim S1024 ![] bcast_S_S1024 (constant (F := Ideal) S_ .f32 0x00000000#32) := by
    show StableHlo.after hostOps0 _ _ = _
    after_results
    try rfl
  unfold rd
  rw [e]
  exact Ideal.ofBits_zero_f32

theorem at_v6 (a : EReal) (c : Dev nD) (ha : ∀ i : S1.Idx, rd (S := S1) (m ((c : Thread nD τ).loc main_arg0)) i = a) (i : S1x1024.Idx) :
    rd (S := S1x1024) (V1 m ρ c main_v6) i = a := by
  have e : (V1 m ρ c main_v6 : S1x1024.Idx → EReal) = shapeCast S1x1024 (broadcastInDim S1024 ![0] bcast_S1_S1024_0 (m ((c : Thread nD τ).loc main_arg0))) shapeCasts_S1024_S1x1024 := by
    show StableHlo.after hostOps0 _ _ = _
    after_results
    rfl
  unfold rd
  rw [e]
  exact ha _

theorem at_v7 (a : EReal) (c : Dev nD) (ha : ∀ i : S1.Idx, rd (S := S1) (m ((c : Thread nD τ).loc main_arg0)) i = a) (i : S2048x1024.Idx) :
    rd (S := S2048x1024) (V3 m ρ c main_v7) i = a := by
  have e : V3 m ρ c main_v7 = (dat0 (V1 m ρ) c).arrAt 3 cfg0.N :=
    (W3_of m ρ c main_v7 (by decide)).trans (W2_arr m ρ c 3)
  unfold rd
  rw [e, call0 (V1 m ρ) c 0 0 a (at_v5 m ρ c) (at_v1 m ρ c) (at_v6 m ρ a c ha)]
  simp

theorem at_v3' (c : Dev nD) (i : S1024x1024.Idx) : rd (S := S1024x1024) (V3 m ρ c main_v3) i = 1 := by
  have e : V3 m ρ c main_v3 = V1 m ρ c main_v3 :=
    (W3_of m ρ c main_v3 (by decide)).trans (W2_of_ne m ρ c main_v3 (by decide))
  unfold rd
  rw [e]; exact at_v3 m ρ c i

theorem at_v8 (c : Dev nD) (i : S1x1024.Idx) : rd (S := S1x1024) (V3 m ρ c main_v8) i = 0 := by
  have e : (V3 m ρ c main_v8 : S1x1024.Idx → EReal) = shapeCast S1x1024 (V2 m ρ c main_v4 : S1024.Idx → EReal) shapeCasts_S1024_S1x1024 := by
    show StableHlo.after hostOps1 _ _ = _
    after_results
    rfl
  have e4 : V2 m ρ c main_v4 = V1 m ρ c main_v4 := W2_of_ne m ρ c main_v4 (by decide)
  unfold rd
  rw [e, e4]
  exact at_v4 m ρ c _

/-- The result: the same value at every index. -/
theorem at_v10 (a : EReal) (c : Dev nD) (ha : ∀ i : S1.Idx, rd (S := S1) (m ((c : Thread nD τ).loc main_arg0)) i = a) (i : S1x2048x1024.Idx) :
    rd (S := S1x2048x1024) (W5 m ρ c main_v10) i = ∑ k : Fin 1024, a * 1 := by
  have e : (W5 m ρ c main_v10 : S1x2048x1024.Idx → EReal) = shapeCast S1x2048x1024 (V4 m ρ c main_v9 : S2048x1024.Idx → EReal) shapeCasts_S2048x1024_S1x2048x1024 := by
    show StableHlo.after hostOps2 _ _ = _
    after_results
    rfl
  have e9 : V4 m ρ c main_v9 = (dat1 (V3 m ρ) c).arrAt 3 cfg1.N := W4_arr m ρ c 3
  unfold rd
  rw [e, e9, call1 (V3 m ρ) c a 1 0 (at_v7 m ρ a c ha) (at_v3' m ρ c) (at_v8 m ρ c)]
  exact add_zero _

end Cert.LayerAtIdeal.Exact

namespace Cert.Proof

theorem layerAt : disproves_algebraic_LayerAtIdeal_LayerRefAtIdeal (hLayerAtIdeal := Cert.LayerAtIdeal.Gen.facts) (hLayerRefAtIdeal := Cert.LayerRefAtIdeal.Gen.facts) := by
  intro m g m' g' hpin hag
  refine ⟨trivial, fun c => Cert.LayerRefAtIdeal.Read.val_main_v203 (F := Ideal) (m' ((c : Thread Cert.LayerRefAtIdeal.nD Cert.LayerRefAtIdeal.τ).loc Cert.LayerRefAtIdeal.main_arg0)), ?_, ?_⟩
  · refine (θ_run _ _ _).mono (fun r h hall => ?_) (Cert.LayerAtIdeal.Exact.run m g)
    have ha : ∀ i : Cert.LayerAtIdeal.S1.Idx, Cert.LayerAtIdeal.Exact.rd (S := Cert.LayerAtIdeal.S1) (m (((0 : Dev Cert.LayerAtIdeal.nD) : Thread Cert.LayerAtIdeal.nD Cert.LayerAtIdeal.τ).loc Cert.LayerAtIdeal.main_arg0)) i = 1 := by
      intro i
      unfold Cert.LayerAtIdeal.Exact.rd
      rw [hpin 0]
      obtain rfl : i = ix1 0 := by funext a; apply Fin.ext; have := (i a).isLt; match a with | ⟨0, _⟩ => show (i 0).val = 0; have h : (i 0).val < 1 := (i 0).isLt; omega
      exact IdealRules.sign_bit.ideal_onePat .f32
    have hk := Cert.LayerAtIdeal.Exact.at_v10 m g 1 0 ha (ix3 0 0 0)
    have he := (h 0).symm.trans (hall 0)
    have hn := Cert.LayerRefAtIdeal.Zero.nil_v203 (m' (((0 : Dev Cert.LayerAtIdeal.nD) : Thread Cert.LayerRefAtIdeal.nD Cert.LayerRefAtIdeal.τ).loc Cert.LayerRefAtIdeal.main_arg0)) (ix3 0 0 0)
    refine Cert.LayerRefAtIdeal.Zero.not_nil 1024 (by norm_num) hn ?_
    refine (congrFun he.symm _).trans (hk.trans ?_)
    rw [mul_one, Finset.sum_const, Finset.card_univ, Fintype.card_fin, nsmul_one]
    exact (EReal.coe_natCast (n := 1024)).symm
  · refine (θ_run _ _ _).mono (fun r h c => (h c).1.trans ?_) (Cert.LayerRefAtIdeal.Value.run m' g')
    exact Cert.LayerRefAtIdeal.Read.val_main_v203_eq _

end Cert.Proof

end
-- ==== Proof.AttnBody.lean ====
/-
  The attention call's body, one grid point, in its own terms. A head's block of the result is three weighted averages of
  values, each under its gate: over the compressed blocks, over the sixteen selected blocks, and over a window of blocks.
  The selection is sixteen rounds, each marking the best block left and putting it out of reach.
-/
module

public import proofs.«01_k».proof.Defs
public import proofs.«01_k».proof.Proof.Common
public import proofs.«01_k».proof.Proof.Gen.KernelIdeal.Value
public import Idealize.ShloMosaic.Lib.Tactic

@[expose] public section

noncomputable section

open Idealize.ShloMosaic Idealize.ShloMosaic.TcCoe Idealize.SL.Sem Idealize.ShloMosaic.ValueIdx

namespace Cert.KernelIdeal.Exact

open Cert.KernelIdeal Cert.KernelIdeal.Gen Cert.Common

variable {F : FTy → Type} [FloatOps F]

/-! ## The selection -/

/-- The blocks' numbers, along each row. -/
abbrev lanes : IVec S32x128 32 := iota .tc S32x128 32 [1] iota_S32x128_d1_w32

/-- Each row's greatest score, along the row. -/
def rowMax (w : FVec F S32x128 .f32) : FVec F S32x128 .f32 :=
  broadcastTo S32x128 (shapeCast S32x1 (multiReduction .maximumf [1] S32 w 0xFF800000#32 reduces_S32x128_S32 (.inl rfl) rfl)
    shapeCasts_S32_S32x1) broadcasts_S32x1_S32x128

/-- Where a row attains its greatest score. -/
def atMax (w : FVec F S32x128 .f32) : IVec S32x128 1 := cmpf .oeq w (rowMax w)

/-- The first block of each row that attains it. -/
def firstRow (w : FVec F S32x128 .f32) : IVec S32 32 :=
  multiReductionI .minsi [1] S32 (select (atMax w) lanes (broadcast S32x128 128#32)) 2147483647#32 reduces_S32x128_S32 rfl

/-- The same as a column. -/
def firstCol (w : FVec F S32x128 .f32) : IVec S32x1 32 := shapeCast S32x1 (firstRow w) shapeCasts_S32_S32x1

/-- Where that block is. -/
def hit (w : FVec F S32x128 .f32) : IVec S32x128 1 := cmpi .eq lanes (broadcastTo S32x128 (firstCol w) broadcasts_S32x1_S32x128)

/-- The scores left once that block is taken. -/
def left (w : FVec F S32x128 .f32) : FVec F S32x128 .f32 := select (hit w) (broadcast S32x128 (Scalar.ofBits .f32 0xFF800000#32)) w

/-- The marks once that block is taken. -/
def mark (w a : FVec F S32x128 .f32) : FVec F S32x128 .f32 := select (hit w) (broadcast S32x128 (Scalar.ofBits .f32 0x3F800000#32)) a

/-- The scores after `k` rounds. -/
def work (s : FVec F S32x128 .f32) : ℕ → FVec F S32x128 .f32
  | 0 => s
  | k + 1 => left (work s k)

/-- The marks after `k` rounds. -/
def marks (s : FVec F S32x128 .f32) : ℕ → FVec F S32x128 .f32
  | 0 => broadcast S32x128 (Scalar.ofBits .f32 0x00000000#32)
  | k + 1 => mark (work s k) (marks s k)

/-- No block marked. -/
theorem marks_zero (s : FVec F S32x128 .f32) : (k0_pay61 : FVec F S32x128 .f32) = marks s 0 := rfl

section rounds
variable (g : FVec F S32x512 .f32) (p : FVec F S512x128 .f32) (s : FVec F S32x128 .f32) (k : ℕ)

theorem pay18_eq : k0_pay18 g lanes p = marks (k0_pay14 g p) 2 := rfl
theorem pay19_eq : k0_pay19 g lanes p = work (k0_pay14 g p) 2 := rfl
theorem pay20_eq : k0_pay20 g lanes p = firstCol (work (k0_pay14 g p) 2) := rfl
theorem pay26_eq : k0_pay26 lanes (marks s k) (work s k) (firstCol (work s k)) = marks s (k + 3) := rfl
theorem pay27_eq : k0_pay27 lanes (work s k) (firstCol (work s k)) = work s (k + 3) := rfl
theorem pay28_eq : k0_pay28 lanes (work s k) (firstCol (work s k)) = hit (work s (k + 3)) := rfl
theorem pay33_eq : k0_pay33 lanes (work s k) (hit (work s k)) = work s (k + 3) := rfl
theorem pay34_eq : k0_pay34 lanes (work s k) (hit (work s k)) = hit (work s (k + 3)) := rfl
theorem pay35_eq : k0_pay35 lanes (marks s k) (work s k) (hit (work s k)) (Scalar.ofBits .f32 0x3F800000#32 : F .f32) = marks s (k + 4) := rfl
theorem pay42_eq : k0_pay42 lanes (work s k) (hit (work s k)) (marks s (k + 1)) (Scalar.ofBits .f32 0xFF800000#32 : F .f32) = marks s (k + 4) := rfl
theorem pay43_eq : k0_pay43 lanes (work s k) (hit (work s k)) (Scalar.ofBits .f32 0xFF800000#32 : F .f32) = work s (k + 4) := rfl
theorem pay49_eq : k0_pay49 lanes (marks s k) (work s k) = marks s (k + 3) := rfl
theorem pay50_eq : k0_pay50 lanes (work s k) = work s (k + 3) := rfl
theorem pay51_eq : k0_pay51 lanes (work s k) = rowMax (work s (k + 3)) := rfl

variable (q : Vec F S512x64 .f32) (kc : Vec F S128x64 .f32)

/-- The second head's scores, by the first head's formula. -/
theorem pay60_eq : k0_pay60 g q kc = k0_pay14 g (k0_pay12 q kc) := rfl
theorem pay62_eq : k0_pay62 g q kc = rowMax (k0_pay14 g (k0_pay12 q kc)) := rfl
theorem pay68_eq : k0_pay68 lanes s (marks s 0) (rowMax s) = marks s 3 := rfl
theorem pay69_eq : k0_pay69 lanes s (rowMax s) = work s 3 := rfl
theorem pay70_eq : k0_pay70 lanes s (rowMax s) = atMax (work s 3) := rfl
theorem pay77_eq : k0_pay77 lanes (marks s k) (work s k) (atMax (work s k)) (k0_pay71) = marks s (k + 3) := rfl
theorem pay78_eq : k0_pay78 lanes (work s k) (atMax (work s k)) (k0_pay71) = work s (k + 3) := rfl
theorem pay79_eq : k0_pay79 lanes (work s k) (atMax (work s k)) (k0_pay71) = firstRow (work s (k + 3)) := rfl
theorem pay85_eq : k0_pay85 lanes (marks s k) (work s k) (firstRow (work s k)) = marks s (k + 3) := rfl
theorem pay86_eq : k0_pay86 lanes (work s k) (firstRow (work s k)) = work s (k + 3) := rfl
theorem pay87_eq : k0_pay87 lanes (work s k) (firstRow (work s k)) = hit (work s (k + 3)) := rfl
theorem pay92_eq : k0_pay92 lanes (work s k) (hit (work s k)) = work s (k + 3) := rfl
theorem pay93_eq : k0_pay93 lanes (work s k) (hit (work s k)) = hit (work s (k + 3)) := rfl
theorem pay94_eq : k0_pay94 lanes (marks s k) (work s k) (hit (work s k)) = marks s (k + 4) := rfl
theorem pay95_eq : k0_pay95 lanes (work s k) (hit (work s k)) (marks s (k + 1)) = marks s (k + 4) := rfl

end rounds

/-! ## A head's block -/

/-- Which block each position lies in: ones at the block's row. -/
def blockOf : FVec F S128x2048 .bf16 :=
  k0_pay6 (iota .tc S128x2048 32 [0] iota_S128x2048_d0_w32) (iota .tc S128x2048 32 [1] iota_S128x2048_d1_w32) 16#32 k0_pay4 k0_pay5
    (Scalar.subi (Scalar.extui (Scalar.cmpi .sgt 16#32 0#32)) (Scalar.extui (Scalar.cmpi .slt 16#32 0#32)))

/-- The first block of the stretch that holds a point's windows. -/
def firstBlock (i : grid0.Coords) : BitVec 32 :=
  Scalar.maxsi (Scalar.subi (Scalar.muli (BitVec.ofNat 32 (i 1).val) 32#32) 32#32) 0#32

/-- Ones where a position of the stretch lies in a query's window. -/
def windowMask (i : grid0.Coords) : FVec F S512x1024 .bf16 :=
  k0_pay8 (BitVec.ofNat 32 (i 1).val) k0_pay3 k0_pay7 (firstBlock i)

/-- A gate's column, along the head's columns. -/
def gateCol (c : Fin 2 → ℕ) (h : S512x128.Slices c S512x1) (g : Vec F S512x128 .f32) : FVec F S512x64 .f32 :=
  broadcastTo S512x64 (extractStridedSlice S512x1 c g h) broadcasts_S512x1_S512x64

/-- The sums of weighted values over the sums of weights. -/
def ratio (n : FVec F S512x128 .f32) : FVec F S512x64 .f32 :=
  mulf (extractStridedSlice S512x64 ![0, 0] n slices_S512x128_o0_0_S512x64)
    (broadcastTo S512x64 (divf (broadcast S512x1 (Scalar.ofBits .f32 0x3F800000#32))
      (extractStridedSlice S512x1 ![0, 64] n slices_S512x128_o0_64_S512x1)) broadcasts_S512x1_S512x64)

/-- The weights of the selected blocks: the exponential of a logit, where the position's block is marked for the query's. -/
def selWeights (q : Vec F S512x64 .f32) (k : Vec F S2048x64 .f32) (a : FVec F S32x128 .f32) : FVec F S512x2048 .bf16 :=
  mulf (truncf .bf16 (exp (matmul dot_S512x64_S2048x64_S512x2048_1_1_0_0_n_n none (truncf .bf16 (k0_pay11 q) bitsLt_bf16_f32)
      (truncf .bf16 k bitsLt_bf16_f32) (constant S512x2048 .f32 0x00000000#32))) bitsLt_bf16_f32)
    (truncf .bf16 (matmul dot_S32x512_S32x2048_S512x2048_0_0_1_1_n_n none (k0_pay3 (F := F))
      (truncf .bf16 (matmul dot_S32x128_S128x2048_S32x2048_1_0_0_1_n_n none (truncf .bf16 a bitsLt_bf16_f32)
        blockOf (constant S32x2048 .f32 0x00000000#32)) bitsLt_bf16_f32)
      (constant S512x2048 .f32 0x00000000#32)) bitsLt_bf16_f32)

/-- The weighted values of the selected blocks, and their weights. -/
def selected (q : Vec F S512x64 .f32) (k v : Vec F S2048x64 .f32) (a : FVec F S32x128 .f32) : FVec F S512x128 .f32 :=
  matmul dot_S512x2048_S2048x128_S512x128_1_0_0_1_n_n none (selWeights q k a)
    (concatenate S2048x128 1 [⟨S2048x64, truncf .bf16 v bitsLt_bf16_f32⟩, ⟨S2048x64, k0_pay9 (F := F)⟩]
      concatenates_S2048x64_S2048x64_S2048x128_d1) (constant S512x128 .f32 0x00000000#32)

/-- A head's block: its gates, queries, compressed keys and values, keys and values, and the window's keys and values. -/
def head (i : grid0.Coords) (g : Vec F S512x128 .f32) (q : Vec F S512x64 .f32) (kc vc : Vec F S128x64 .f32) (k v : Vec F S2048x64 .f32)
    (kw vw : Vec F S1024x64 .f32) : FVec F S512x64 .f32 :=
  addf (addf (mulf (gateCol ![0, 0] slices_S512x128_o0_0_S512x1 g) (k0_pay13 vc (k0_pay12 q kc)))
      (mulf (gateCol ![0, 1] slices_S512x128_o0_1_S512x1 g)
        (ratio (selected q k v (marks (k0_pay14 k0_pay2 (k0_pay12 q kc)) 16)))))
    (mulf (gateCol ![0, 2] slices_S512x128_o0_2_S512x1 g) (ratio (k0_pay54 (windowMask i) k0_pay10 (k0_pay11 q) kw vw)))

/-- What a point leaves in its output block: its two heads' blocks, side by side. -/
theorem out_A (c : Dev nD) (i : grid0.Coords)
  (arg2 : Memref sig .tc .vmem S512x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x128 .f32) (harg5 : arg5.IsWhole)
  (arg6 : Memref sig .tc .vmem S512x128 .f32) (harg6 : arg6.IsWhole) (arg7 : Memref sig .tc .vmem S512x128 .f32) (harg7 : arg7.IsWhole)
  (x0 : Vec F S512x128 .f32) (x1 : Vec F S2048x128 .f32) (x2 : Vec F S2048x128 .f32) (x3 : Vec F S256x128 .f32) (x4 : Vec F S512x128 .f32) :
    out0_A_5 c i arg2 harg2 arg3 harg3 arg4 harg4 arg5 harg5 arg6 harg6 arg7 harg7 x0 x1 x2 x3 x4
      = concatenate S512x128 1
          [⟨S512x64, head i x4 (View.ld x0 (Rect.unit ![0, 0] ![512, 64] inb_S512x128_S512x64_0_0))
            (View.ld x3 (Rect.unit ![0, 0] ![128, 64] inb_S256x128_S128x64_0_0)) (View.ld x3 (Rect.unit ![128, 0] ![128, 64] inb_S256x128_S128x64_128_0))
            (View.ld x1 (Rect.unit ![0, 0] ![2048, 64] inb_S2048x128_S2048x64_0_0)) (View.ld x2 (Rect.unit ![0, 0] ![2048, 64] inb_S2048x128_S2048x64_0_0))
            (View.ld x1 (Rect.unit (s := S2048x128) (k0_off1 i) S1024x64.size (k0_off1_inb i)))
            (View.ld x2 (Rect.unit (s := S2048x128) (k0_off1 i) S1024x64.size (k0_off1_inb i)))⟩,
           ⟨S512x64, head i x4 (View.ld x0 (Rect.unit ![0, 64] ![512, 64] inb_S512x128_S512x64_0_64))
            (View.ld x3 (Rect.unit ![0, 64] ![128, 64] inb_S256x128_S128x64_0_64)) (View.ld x3 (Rect.unit ![128, 64] ![128, 64] inb_S256x128_S128x64_128_64))
            (View.ld x1 (Rect.unit ![0, 64] ![2048, 64] inb_S2048x128_S2048x64_0_64)) (View.ld x2 (Rect.unit ![0, 64] ![2048, 64] inb_S2048x128_S2048x64_0_64))
            (View.ld x1 (Rect.unit (s := S2048x128) (k0_off2 i) S1024x64.size (k0_off2_inb i)))
            (View.ld x2 (Rect.unit (s := S2048x128) (k0_off2 i) S1024x64.size (k0_off2_inb i)))⟩]
          concatenates_S512x64_S512x64_S512x128_d1 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  sl_unfold_words
  rw [View.canon_unit_zero off2]
  simp only [View.readAt_eq_ld, harg2.read_unread, harg3.read_unread, harg4.read_unread, harg5.read_unread, harg6.read_unread,
    View.ld_unit_zero (S := S512x128) off2]
  rw [pay18_eq, pay19_eq, pay20_eq, pay26_eq, pay27_eq, pay28_eq, pay33_eq, pay34_eq, pay35_eq, pay42_eq, pay43_eq, pay49_eq, pay50_eq, pay51_eq,
    pay60_eq, pay62_eq, marks_zero (k0_pay14 k0_pay2 (k0_pay12 (View.ld x0 (Rect.unit ![0, 64] ![512, 64] inb_S512x128_S512x64_0_64))
      (View.ld x3 (Rect.unit ![0, 64] ![128, 64] inb_S256x128_S128x64_0_64)))),
    pay68_eq, pay69_eq, pay70_eq, pay77_eq, pay78_eq, pay79_eq, pay85_eq, pay86_eq, pay87_eq, pay92_eq, pay93_eq, pay94_eq, pay95_eq]
  rfl

end Cert.KernelIdeal.Exact

end
-- ==== Proof.AttnMath.lean ====
/-
  The arithmetic of the attention proof, free of any program: the logit of a query and a key, the weighted average of
  values, the softmax in the spellings of the two programs, the sixteen best of a row, and the two changes of index
  (a window of blocks, a list of selected blocks).
-/
module

public import Idealize.ShloMosaic.PureOps.Ideal.Laws

@[expose] public section

noncomputable section

namespace Cert.Attn

open Idealize.ShloMosaic
open scoped BigOperators

/-- Every entry is a real number. -/
def IsReal {ι : Type} (f : ι → EReal) : Prop := ∀ i, ∃ r : ℝ, f i = (r : EReal)

/-- The logit of a query and a key: their product over eight. -/
def logit (a b : Fin 64 → EReal) : ℝ := (∑ d, a d * b d).toReal / 8

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem logit_coe (a b : Fin 64 → ℝ) : logit (fun d => (a d : EReal)) (fun d => (b d : EReal)) = (∑ d, a d * b d) / 8 := by
  unfold logit
  simp only [← EReal.coe_mul, sum_coe, EReal.toReal_coe]

theorem eq_coe {ι : Type} {f : ι → EReal} (h : IsReal f) : ∃ g : ι → ℝ, f = fun i => ((g i : ℝ) : EReal) :=
  ⟨fun i => (h i).choose, funext fun i => (h i).choose_spec⟩

/-- The query scaled first. -/
theorem scaled_dot {a b : Fin 64 → EReal} (ha : IsReal a) (hb : IsReal b) (e : EReal) (he : e = ((1 / 8 : ℝ) : EReal)) :
    ∑ d, (a d * e) * b d = (logit a b : EReal) := by
  obtain ⟨a, rfl⟩ := eq_coe ha
  obtain ⟨b, rfl⟩ := eq_coe hb
  subst he
  rw [logit_coe]
  simp only [← EReal.coe_mul, sum_coe]
  congr 1
  rw [Finset.sum_div]
  exact Finset.sum_congr rfl fun d _ => by ring

/-- The product scaled. -/
theorem dot_scaled {a b : Fin 64 → EReal} (ha : IsReal a) (hb : IsReal b) (e : EReal) (he : e = ((1 / 8 : ℝ) : EReal)) :
    (∑ d, a d * b d) * e = (logit a b : EReal) := by
  obtain ⟨a, rfl⟩ := eq_coe ha
  obtain ⟨b, rfl⟩ := eq_coe hb
  subst he
  rw [logit_coe]
  simp only [← EReal.coe_mul, sum_coe]
  congr 1
  ring

/-- Values averaged under weights. -/
def avg {ι : Type} [Fintype ι] (w : ι → ℝ) (v : ι → EReal) : EReal := ∑ i, ((w i / ∑ j, w j : ℝ) : EReal) * v i

theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (EReal.coe_nonneg.mpr hc) (EReal.coe_ne_top c), ih]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The weighted sum times the reciprocal of the sum of the weights. -/
theorem avg_of_recip {ι : Type} [Fintype ι] (w : ι → ℝ) (v : ι → EReal) (hw : ∀ i, 0 ≤ w i) (h : 0 < ∑ j, w j) :
    (∑ i, (w i : EReal) * v i) * Ideal.div 1 (∑ i, (w i : EReal) * 1) = avg w v := by
  have h1 : (1 : EReal) = ((1 : ℝ) : EReal) := rfl
  simp only [mul_one]
  rw [sum_coe, h1, div_coe _ _ h.ne', sum_mul_real _ _ _ (by positivity)]
  unfold avg
  refine Finset.sum_congr rfl fun i _ => ?_
  rw [mul_assoc, mul_comm (v i), ← mul_assoc, ← EReal.coe_mul, mul_one_div]

/-- A fold of the maximum from the least value bounds every term, and is one of them. -/
theorem fold_max {n : ℕ} [NeZero n] (f : Fin n → EReal) :
    (∀ i, f i ≤ Finset.univ.fold max ⊥ f) ∧ ∃ i, f i = Finset.univ.fold max ⊥ f := by
  have e : Finset.univ.fold max ⊥ f = Finset.univ.sup f := rfl
  rw [e]
  refine ⟨fun i => Finset.le_sup (Finset.mem_univ i), ?_⟩
  obtain ⟨i, -, hi⟩ := Finset.exists_mem_eq_sup Finset.univ ⟨0, Finset.mem_univ _⟩ f
  exact ⟨i, hi.symm⟩

/-- Weight `e` is the exponential of logit `l`, the least logit having weight zero. -/
def Weighs {ι : Type} (l : ι → EReal) (e : ι → ℝ) : Prop := ∀ i, (l i = ⊥ ∧ e i = 0) ∨ ∃ r : ℝ, l i = (r : EReal) ∧ e i = Real.exp r

theorem exp_shift {ι : Type} {l : ι → EReal} {e : ι → ℝ} (h : Weighs l e) (m : ℝ) (i : ι) :
    Ideal.exp (l i - (m : EReal)) = ((e i * Real.exp (-m) : ℝ) : EReal) := by
  rcases h i with ⟨h1, h2⟩ | ⟨r, h1, h2⟩
  · rw [h1, h2, EReal.bot_sub, zero_mul]; rfl
  · rw [h1, h2, ← EReal.coe_sub, ← Real.exp_add, sub_eq_add_neg]; rfl

theorem exp_sum {ι : Type} [Fintype ι] {l : ι → EReal} {e : ι → ℝ} (h : Weighs l e) (m : ℝ) :
    ∑ i, Ideal.exp (l i - (m : EReal)) = (((∑ i, e i) * Real.exp (-m) : ℝ) : EReal) := by
  simp only [exp_shift h, sum_coe, Finset.sum_mul]

theorem max_real {n : ℕ} [NeZero n] {l : Fin n → EReal} {e : Fin n → ℝ} (h : Weighs l e) (hp : ∃ i, e i ≠ 0) :
    ∃ m : ℝ, Finset.univ.fold max ⊥ l = (m : EReal) := by
  obtain ⟨h1, i, h2⟩ := fold_max l
  obtain ⟨p, hp⟩ := hp
  rcases h i with ⟨h3, -⟩ | ⟨r, h3, -⟩
  · have := h1 p
    rw [← h2, h3] at this
    rcases h p with ⟨-, h4⟩ | ⟨r, h4, -⟩
    · exact absurd h4 hp
    · rw [h4] at this; exact absurd this (by simp)
  · exact ⟨r, h2.symm.trans h3⟩

theorem weight_nonneg {ι : Type} {l : ι → EReal} {e : ι → ℝ} (h : Weighs l e) (i : ι) : 0 ≤ e i := by
  rcases h i with ⟨-, h2⟩ | ⟨r, -, h2⟩ <;> rw [h2]; exact (Real.exp_pos r).le

theorem weight_sum {ι : Type} [Fintype ι] {l : ι → EReal} {e : ι → ℝ} (h : Weighs l e) (hp : ∃ i, e i ≠ 0) : 0 < ∑ i, e i := by
  obtain ⟨p, hp⟩ := hp
  exact Finset.sum_pos' (fun i _ => weight_nonneg h i) ⟨p, Finset.mem_univ p, lt_of_le_of_ne (weight_nonneg h p) hp.symm⟩

/-- The softmax of a row that holds a real number: the exponentials over their sum, whatever is subtracted first. -/
theorem softmax_eq {n : ℕ} [NeZero n] {l : Fin n → EReal} {e : Fin n → ℝ} (h : Weighs l e) (hp : ∃ i, e i ≠ 0) (i : Fin n) :
    Ideal.div (Ideal.exp (l i - Finset.univ.fold max ⊥ l)) (∑ j, Ideal.exp (l j - Finset.univ.fold max ⊥ l))
      = ((e i / ∑ j, e j : ℝ) : EReal) := by
  obtain ⟨m, hm⟩ := max_real h hp
  have hs := weight_sum h hp
  rw [hm, exp_shift h, exp_sum h, div_coe _ _ (mul_pos hs (Real.exp_pos _)).ne', mul_div_mul_right _ _ (Real.exp_pos _).ne']

/-- The same with the reciprocal of the sum. -/
theorem softmax_recip {n : ℕ} [NeZero n] {l : Fin n → EReal} {e : Fin n → ℝ} (h : Weighs l e) (hp : ∃ i, e i ≠ 0) (i : Fin n) :
    Ideal.exp (l i - Finset.univ.fold max ⊥ l) * Ideal.div 1 (∑ j, Ideal.exp (l j - Finset.univ.fold max ⊥ l))
      = ((e i / ∑ j, e j : ℝ) : EReal) := by
  obtain ⟨m, hm⟩ := max_real h hp
  have hs := weight_sum h hp
  have h1 : (1 : EReal) = ((1 : ℝ) : EReal) := rfl
  rw [hm, exp_shift h, exp_sum h, h1, div_coe _ _ (mul_pos hs (Real.exp_pos _)).ne', ← EReal.coe_mul, mul_one_div,
    mul_div_mul_right _ _ (Real.exp_pos _).ne']

/-- Real logits and their exponentials. -/
theorem weighs_real {ι : Type} (l : ι → ℝ) : Weighs (fun i => ((l i : ℝ) : EReal)) (fun i => Real.exp (l i)) :=
  fun i => .inr ⟨l i, rfl, rfl⟩

/-! ## The sixteen best of a row -/

/-- Position `i` is taken before position `j`: its score is greater, or equal and `i` comes first. -/
def before (s : Fin 128 → EReal) (i j : Fin 128) : Prop := s j < s i ∨ (s i = s j ∧ i < j)

theorem before_asymm {s : Fin 128 → EReal} {i j : Fin 128} (h : before s i j) : ¬ before s j i := by
  rintro (h' | ⟨h1, h2⟩) <;> rcases h with h | ⟨h3, h4⟩
  · exact lt_asymm h h'
  · exact absurd h' (by rw [h3]; exact lt_irrefl _)
  · exact absurd h (by rw [h1]; exact lt_irrefl _)
  · exact lt_asymm h2 h4

open Classical in
/-- Position `j` is one of the sixteen taken first. -/
def best (s : Fin 128 → EReal) (j : Fin 128) : Prop := (Finset.univ.filter fun i => before s i j).card < 16

/-- Sixteen positions taken before every other are the sixteen best. -/
theorem mem_iff_best (s : Fin 128 → EReal) (A : Finset (Fin 128)) (hc : A.card = 16)
    (hd : ∀ a ∈ A, ∀ b, b ∉ A → before s a b) (j : Fin 128) : j ∈ A ↔ best s j := by
  classical
  unfold best
  constructor
  · intro hj
    have : (Finset.univ.filter fun i => before s i j) ⊆ A.erase j := by
      intro i hi
      have hb := (Finset.mem_filter.mp hi).2
      rw [Finset.mem_erase]
      refine ⟨fun e => ?_, ?_⟩
      · subst e; exact before_asymm hb hb
      · by_contra hn; exact before_asymm hb (hd j hj i hn)
    have := Finset.card_le_card this
    rw [Finset.card_erase_of_mem hj, hc] at this
    convert Nat.lt_succ_of_le this using 1
  · intro h
    by_contra hn
    have : A ⊆ Finset.univ.filter fun i => before s i j := fun a ha => Finset.mem_filter.mpr ⟨Finset.mem_univ _, hd a ha j hn⟩
    have := Finset.card_le_card this
    rw [hc] at this
    exact absurd h (by convert not_lt.mpr this)

/-- After some rounds of taking the best position left: the positions taken, and the scores with those put out of reach. -/
structure Taken (s w : Fin 128 → EReal) (A : Finset (Fin 128)) : Prop where
  kept : ∀ j, w j = if j ∈ A then ⊥ else s j
  first : ∀ a ∈ A, ∀ b, b ∉ A → before s a b

theorem Taken.start (s : Fin 128 → EReal) : Taken s s ∅ := ⟨fun j => by simp, fun a h => absurd h (by simp)⟩

/-- The best position left: the greatest score, the first of equal ones. -/
def IsBest (w : Fin 128 → EReal) (p : Fin 128) : Prop := (∀ i, w i ≤ w p) ∧ ∀ i, i < p → w i < w p

theorem exists_isBest (w : Fin 128 → EReal) : ∃ p, IsBest w p := by
  classical
  obtain ⟨h1, i, h2⟩ := fold_max w
  have hne : (Finset.univ.filter fun p => w p = Finset.univ.fold max ⊥ w).Nonempty := ⟨i, by simp [h2]⟩
  obtain ⟨p, hp, hm⟩ := Finset.exists_min_image _ id hne
  have hp' := (Finset.mem_filter.mp hp).2
  refine ⟨p, fun i => hp' ▸ h1 i, fun i hi => lt_of_le_of_ne (hp' ▸ h1 i) fun e => ?_⟩
  exact absurd hi (not_lt.mpr (hm i (Finset.mem_filter.mpr ⟨Finset.mem_univ _, e.trans hp'⟩)))

theorem Taken.step {s w w' : Fin 128 → EReal} {A : Finset (Fin 128)} (h : Taken s w A) (hs : ∀ j, ⊥ < s j) (hA : A.card < 128)
    {p : Fin 128} (hp : IsBest w p) (hw : ∀ j, w' j = if j = p then ⊥ else w j) : p ∉ A ∧ Taken s w' (insert p A) := by
  have hpA : p ∉ A := by
    intro hpA
    obtain ⟨b, hb⟩ : ∃ b, b ∉ A := by
      by_contra hc
      push Not at hc
      rw [Finset.eq_univ_iff_forall.mpr hc] at hA
      simp at hA
    have := hp.1 b
    rw [h.kept p, if_pos hpA, h.kept b, if_neg hb] at this
    exact absurd this (not_le.mpr (hs b))
  refine ⟨hpA, ⟨fun j => ?_, fun a ha b hb => ?_⟩⟩
  · rw [hw, h.kept]
    by_cases e : j = p
    · rw [if_pos e, if_pos (by rw [e]; exact Finset.mem_insert_self _ _)]
    · rw [if_neg e]
      by_cases e' : j ∈ A
      · rw [if_pos e', if_pos (Finset.mem_insert_of_mem e')]
      · rw [if_neg e', if_neg (fun hc => (Finset.mem_insert.mp hc).elim e e')]
  · have hbA : b ∉ A := fun hc => hb (Finset.mem_insert_of_mem hc)
    have hbp : b ≠ p := fun e => hb (by rw [e]; exact Finset.mem_insert_self _ _)
    rcases Finset.mem_insert.mp ha with rfl | ha
    · have h1 := hp.1 b
      have h2 := hp.2 b
      rw [h.kept a, if_neg hpA, h.kept b, if_neg hbA] at h1 h2
      rcases lt_or_eq_of_le h1 with h3 | h3
      · exact .inl h3
      · refine .inr ⟨h3.symm, ?_⟩
        rcases lt_trichotomy a b with h4 | h4 | h4
        · exact h4
        · exact absurd h4.symm hbp
        · exact absurd (h2 h4) (by rw [h3]; exact lt_irrefl _)
    · exact h.first a ha b hbA

/-! ## Two changes of index -/

/-- A window of 32 blocks of 16 positions: in the positions that end with block `n`, and in a stretch of 64 blocks from
    block `w` that holds it. -/
theorem sum_window {M : Type} [AddCommMonoid M] (F : ℕ → M) (n w : ℕ) (h1 : n ≤ w + 63) (h2 : w = 0 ∨ w + 31 ≤ n) (hw : w ≤ n) :
    ∑ j : Fin 512, (if 512 ≤ 16 * (n + 1) + j.val then F (16 * (n + 1) + j.val - 512) else 0)
      = ∑ x : Fin 1024, (if w + x.val / 16 ≤ n ∧ n < w + x.val / 16 + 32 then F (16 * w + x.val) else 0) := by
  rw [Fin.sum_univ_eq_sum_range (fun j => if 512 ≤ 16 * (n + 1) + j then F (16 * (n + 1) + j - 512) else 0) 512,
    Fin.sum_univ_eq_sum_range (fun x => if w + x / 16 ≤ n ∧ n < w + x / 16 + 32 then F (16 * w + x) else 0) 1024,
    ← Finset.sum_filter, ← Finset.sum_filter]
  refine Finset.sum_nbij' (fun j => 16 * (n + 1) + j - 512 - 16 * w) (fun x => 16 * w + x + 512 - 16 * (n + 1)) ?_ ?_ ?_ ?_ ?_
  all_goals intro a ha; simp only [Finset.mem_filter, Finset.mem_range] at ha ⊢
  · omega
  · omega
  · omega
  · omega
  · congr 1; omega

/-- The positions of sixteen distinct blocks, listed, and those of all blocks with the others left out. -/
theorem sum_selected {M : Type} [AddCommMonoid M] (σ : Fin 16 → Fin 128) (hσ : Function.Injective σ) (T : Fin 128 → Prop)
    [DecidablePred T] (hT : ∀ b, T b ↔ ∃ t, σ t = b) (F : ℕ → M) :
    ∑ t : Fin 256, F (16 * (σ ⟨t.val / 16, by omega⟩).val + t.val % 16)
      = ∑ p : Fin 2048, if T ⟨p.val / 16, by omega⟩ then F p.val else 0 := by
  classical
  rw [← (finProdFinEquiv (m := 16) (n := 16)).sum_comp, ← (finProdFinEquiv (m := 128) (n := 16)).sum_comp, Fintype.sum_prod_type,
    Fintype.sum_prod_type]
  have e1 : ∀ (a r : Fin 16), F (16 * (σ ⟨(finProdFinEquiv (a, r)).val / 16, by omega⟩).val + (finProdFinEquiv (a, r)).val % 16)
      = F (16 * (σ a).val + r.val) := fun a r => by
    have h1 : (finProdFinEquiv (a, r)).val = r.val + 16 * a.val := rfl
    have h2 : (⟨(finProdFinEquiv (a, r)).val / 16, by omega⟩ : Fin 16) = a := Fin.ext (by show (finProdFinEquiv (a, r)).val / 16 = a.val; omega)
    rw [h2]; congr 1; omega
  have e2 : ∀ (b : Fin 128) (r : Fin 16), (if T ⟨(finProdFinEquiv (b, r)).val / 16, by omega⟩ then F (finProdFinEquiv (b, r)).val else 0)
      = if T b then F (16 * b.val + r.val) else 0 := fun b r => by
    have h1 : (finProdFinEquiv (b, r)).val = r.val + 16 * b.val := rfl
    have h2 : (⟨(finProdFinEquiv (b, r)).val / 16, by omega⟩ : Fin 128) = b := Fin.ext (by show (finProdFinEquiv (b, r)).val / 16 = b.val; omega)
    rw [h2, h1, Nat.add_comm]
  refine (Finset.sum_congr rfl fun a _ => Finset.sum_congr rfl fun r _ => e1 a r).trans
    (Eq.trans ?_ (Finset.sum_congr rfl fun b _ => Finset.sum_congr rfl fun r _ => e2 b r).symm)
  have e3 : ∀ b : Fin 128, (∑ r : Fin 16, if T b then F (16 * b.val + r.val) else 0)
      = if T b then ∑ r : Fin 16, F (16 * b.val + r.val) else 0 := fun b => by
    by_cases h : T b <;> simp [h]
  rw [Finset.sum_congr rfl fun b _ => e3 b, ← Finset.sum_filter]
  have e4 : Finset.univ.filter T = Finset.univ.image σ := by
    ext b; simp [hT]
  rw [e4, Finset.sum_image fun a _ b _ h => hσ h]

end Cert.Attn

end
-- ==== Proof.AttnMasks.lean ====
/-
  The 0/1 matrices of the attention call, read at an index: which query lies in which block, which position lies in which
  block, and which position of a stretch lies in a query's window.
-/
module

public import proofs.«01_k».proof.Proof.AttnBody
public import proofs.«01_k».proof.Proof.AttnMath

@[expose] public section

noncomputable section

open Idealize.ShloMosaic Idealize.ShloMosaic.TcCoe Idealize.SL.Sem Idealize.ShloMosaic.ValueIdx
open scoped BigOperators

namespace Cert.KernelIdeal.Exact

open Cert.KernelIdeal Cert.KernelIdeal.Gen Cert.Common Cert.Attn

/-- A word divided by sixteen, rounded down, as the call spells it. -/
def sixteenth (c : BitVec 32) : BitVec 32 :=
  Scalar.select (IntOp.andi (IntOp.cmpi .ne (IntOp.subi ((IntOp.cmpi .sgt c 0#32).setWidth 32) ((IntOp.cmpi .slt c 0#32).setWidth 32))
      (Scalar.subi (Scalar.extui (Scalar.cmpi .sgt 16#32 0#32)) (Scalar.extui (Scalar.cmpi .slt 16#32 0#32))))
    (IntOp.cmpi .ne (IntOp.remsi .vector c 16#32) 0#32)) (IntOp.subi (IntOp.divsi .vector c 16#32) 1#32) (IntOp.divsi .vector c 16#32)

theorem sixteenth_ofNat : ∀ c : Fin 2048, sixteenth (BitVec.ofNat 32 c.val) = BitVec.ofNat 32 (c.val / 16) := by decide +kernel

/-- A bit as a number. -/
theorem bit_real (b : Bool) : FloatOps.sitofp (F := Ideal) .f32 ((BitVec.ofBool b).setWidth 32) = if b = true then (1 : EReal) else 0 := by
  cases b
  · show (((0 : ℤ) : ℝ) : EReal) = _
    simp
  · show (((1 : ℤ) : ℝ) : EReal) = _
    simp

theorem word_eq {a b : ℕ} (ha : a < 2 ^ 32) (hb : b < 2 ^ 32) : (BitVec.ofNat 32 a == BitVec.ofNat 32 b) = decide (a = b) := by
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · intro h; rw [h]

/-- Query `c` lies in block `r`. -/
theorem queries_apply (r : Fin 32) (c : Fin 512) : k0_pay2 (F := Ideal) (ix2 r c) = if c.val / 16 = r.val then (1 : EReal) else 0 := by
  unfold k0_pay2
  show FloatOps.sitofp (F := Ideal) .f32 ((BitVec.ofBool (sixteenth (iota .tc S32x512 32 [1] iota_S32x512_d1_w32 (ix2 r c)) == iota .tc S32x512 32 [0] iota_S32x512_d0_w32 (ix2 r c))).setWidth 32) = _
  rw [iota_single_apply, iota_single_apply]
  show FloatOps.sitofp (F := Ideal) .f32 ((BitVec.ofBool (sixteenth (BitVec.ofNat 32 c.val) == BitVec.ofNat 32 r.val)).setWidth 32) = _
  rw [sixteenth_ofNat ⟨c.val, by omega⟩, word_eq (by show c.val / 16 < _; omega) (by omega), bit_real]
  simp

/-- Position `p` lies in block `b`. -/
theorem blockOf_apply (b : Fin 128) (p : Fin 2048) : blockOf (F := Ideal) (ix2 b p) = if p.val / 16 = b.val then (1 : EReal) else 0 := by
  unfold blockOf k0_pay6 k0_pay4 k0_pay5
  show FloatOps.sitofp (F := Ideal) .f32 ((BitVec.ofBool (sixteenth (iota .tc S128x2048 32 [1] iota_S128x2048_d1_w32 (ix2 b p)) == iota .tc S128x2048 32 [0] iota_S128x2048_d0_w32 (ix2 b p))).setWidth 32) = _
  rw [iota_single_apply, iota_single_apply]
  show FloatOps.sitofp (F := Ideal) .f32 ((BitVec.ofBool (sixteenth (BitVec.ofNat 32 p.val) == BitVec.ofNat 32 b.val)).setWidth 32) = _
  rw [sixteenth_ofNat p, word_eq (by omega) (by omega), bit_real]
  simp

/-- Position `x` of a stretch lies in its block `b`. -/
theorem stretch_apply (b : Fin 64) (x : Fin 1024) : k0_pay7 (F := Ideal) (ix2 b x) = if x.val / 16 = b.val then (1 : EReal) else 0 := by
  unfold k0_pay7
  show FloatOps.sitofp (F := Ideal) .f32 ((BitVec.ofBool (sixteenth (iota .tc S64x1024 32 [1] iota_S64x1024_d1_w32 (ix2 b x)) == iota .tc S64x1024 32 [0] iota_S64x1024_d0_w32 (ix2 b x))).setWidth 32) = _
  rw [iota_single_apply, iota_single_apply]
  show FloatOps.sitofp (F := Ideal) .f32 ((BitVec.ofBool (sixteenth (BitVec.ofNat 32 x.val) == BitVec.ofNat 32 b.val)).setWidth 32) = _
  rw [sixteenth_ofNat ⟨x.val, by omega⟩, word_eq (by show x.val / 16 < _; omega) (by omega), bit_real]
  simp

/-- The first block of the stretch of chunk `q`. -/
def stretch (q : Fin 4) : ℕ := q.val * 32 - 32

theorem firstBlock_eq (i : grid0.Coords) (q : Fin 4) (h : (i 1).val = q.val) : firstBlock i = BitVec.ofNat 32 (stretch q) := by
  unfold firstBlock stretch
  rw [h]
  clear h
  revert q; decide +kernel

theorem off1_eq (i : grid0.Coords) (q : Fin 4) (h : (i 1).val = q.val) : k0_off1 i = ![16 * stretch q, 0] := by
  unfold k0_off1 stretch
  rw [h]
  clear h
  revert q; decide +kernel

theorem off2_eq (i : grid0.Coords) (q : Fin 4) (h : (i 1).val = q.val) : k0_off2 i = ![16 * stretch q, 64] := by
  unfold k0_off2 stretch
  rw [h]
  clear h
  revert q; decide +kernel

/-- Block `b` of a chunk's stretch lies in the window of the chunk's block `r`. -/
theorem inWindow : ∀ (q : Fin 4) (r : Fin 32) (b : Fin 64),
    IntOp.andi (IntOp.cmpi .sle (IntOp.addi (BitVec.ofNat 32 b.val) (BitVec.ofNat 32 (stretch q))) (IntOp.addi (BitVec.ofNat 32 r.val) (Scalar.muli (BitVec.ofNat 32 q.val) 32#32)))
        (IntOp.cmpi .sgt (IntOp.addi (IntOp.addi (BitVec.ofNat 32 b.val) (BitVec.ofNat 32 (stretch q))) 32#32) (IntOp.addi (BitVec.ofNat 32 r.val) (Scalar.muli (BitVec.ofNat 32 q.val) 32#32)))
      = BitVec.ofBool (decide (stretch q + b.val ≤ q.val * 32 + r.val ∧ q.val * 32 + r.val < stretch q + b.val + 32)) := by
  decide +kernel

/-! ## Products at an index -/

theorem plain_at {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (x : FVec Ideal ⟨2, ![K, N]⟩ φ₂) (r : Fin M) (c : Fin N) :
    matmul d none l x (constant ⟨2, ![M, N]⟩ .f32 0x00000000#32) (ix2 r c) = ∑ k : Fin K, (l (ix2 r k) * x (ix2 k c) : EReal) := by
  subst hd
  refine (Ideal.matmul_plain_apply none l x _ r c).trans ?_
  show Ideal.ofBits .f32 0x00000000#32 + _ = _
  rw [Ideal.ofBits_zero_f32, zero_add]

theorem rows_at {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (x : FVec Ideal ⟨2, ![N, K]⟩ φ₂) (r : Fin M) (c : Fin N) :
    matmul d none l x (constant ⟨2, ![M, N]⟩ .f32 0x00000000#32) (ix2 r c) = ∑ k : Fin K, (l (ix2 r k) * x (ix2 c k) : EReal) := by
  subst hd
  refine (Ideal.matmul_transposedRhs_apply none l x _ r c).trans ?_
  show Ideal.ofBits .f32 0x00000000#32 + _ = _
  rw [Ideal.ofBits_zero_f32, zero_add]

theorem cols_at {M K N : ℕ} {φ₁ φ₂ : FTy} (wf : DotDims.WF ⟨2, ![K, M]⟩ ⟨2, ![K, N]⟩ ⟨2, ![M, N]⟩ [0] [0] [1] [1] [] [])
    (l : FVec Ideal ⟨2, ![K, M]⟩ φ₁) (x : FVec Ideal ⟨2, ![K, N]⟩ φ₂) (r : Fin M) (c : Fin N) :
    matmul (⟨[0], [0], [1], [1], [], [], wf⟩ : DotDims ⟨2, ![K, M]⟩ ⟨2, ![K, N]⟩ ⟨2, ![M, N]⟩) none l x (constant ⟨2, ![M, N]⟩ .f32 0x00000000#32) (ix2 r c)
      = ∑ k : Fin K, (l (ix2 k r) * x (ix2 k c) : EReal) := by
  generalize hD : (⟨[0], [0], [1], [1], [], [], wf⟩ : DotDims ⟨2, ![K, M]⟩ ⟨2, ![K, N]⟩ ⟨2, ![M, N]⟩) = D
  have hr : D.contr.rank = 1 := by subst hD; rfl
  have hs : D.contr.size ⟨0, by omega⟩ = K := by subst hD; rfl
  refine (Ideal.matmul_apply D none l x _ (ix2 r c)).trans ?_
  rw [← Equiv.sum_comp (contrEquiv1 D K hr hs).symm]
  show Ideal.ofBits .f32 0x00000000#32 + _ = _
  rw [Ideal.ofBits_zero_f32, zero_add]
  refine Finset.sum_congr rfl fun k _ => ?_
  have hk := contrEquiv1_symm_val D K hr hs k
  have el : D.lhsIdx (ix2 r c) ((contrEquiv1 D K hr hs).symm k) = ix2 k r := by
    funext a; apply Fin.ext
    subst hD
    match a with
    | ⟨0, _⟩ => exact hk
    | ⟨1, _⟩ => rfl
  have er : D.rhsIdx (ix2 r c) ((contrEquiv1 D K hr hs).symm k) = ix2 k c := by
    funext a; apply Fin.ext
    subst hD
    match a with
    | ⟨0, _⟩ => exact hk
    | ⟨1, _⟩ => rfl
  rw [el, er]

/-! ## The masks -/

/-- One term of a sum of zeros and one entry. -/
theorem pick {n : ℕ} (f : Fin n → EReal) (t : ℕ) (ht : t < n) : ∑ k : Fin n, (if t = k.val then (1 : EReal) else 0) * f k = f ⟨t, ht⟩ := by
  rw [Finset.sum_eq_single ⟨t, ht⟩]
  · rw [if_pos rfl, one_mul]
  · intro k _ hk
    rw [if_neg (fun e => hk (Fin.ext e.symm)), zero_mul]
  · intro h; exact absurd (Finset.mem_univ _) h

theorem pick' {n : ℕ} (f : Fin n → EReal) (t : ℕ) (ht : t < n) : ∑ k : Fin n, f k * (if t = k.val then (1 : EReal) else 0) = f ⟨t, ht⟩ := by
  simp only [mul_comm (f _)]
  exact pick f t ht

/-- The window's mask at an index. -/
theorem windowMask_apply (i : grid0.Coords) (q : Fin 4) (h : (i 1).val = q.val) (c : Fin 512) (x : Fin 1024) :
    windowMask (F := Ideal) i (ix2 c x)
      = if stretch q + x.val / 16 ≤ q.val * 32 + c.val / 16 ∧ q.val * 32 + c.val / 16 < stretch q + x.val / 16 + 32 then (1 : EReal) else 0 := by
  unfold windowMask k0_pay8
  refine (cols_at (M := 512) (K := 32) (N := 1024) dot_S32x512_S32x1024_S512x1024_0_0_1_1_n_n_wf _ _ c x).trans ?_
  have e1 : ∀ r : Fin 32, k0_pay3 (F := Ideal) (ix2 r c) = if c.val / 16 = r.val then (1 : EReal) else 0 := fun r => queries_apply r c
  refine (Finset.sum_congr rfl fun r _ => congrArg (· * _) (e1 r)).trans ?_
  refine (pick _ (c.val / 16) (by omega)).trans ?_
  refine (plain_at (M := 32) (K := 64) (N := 1024) _ rfl _ _ _ x).trans ?_
  refine (Finset.sum_congr rfl fun b _ => congrArg (_ * ·) (stretch_apply b x)).trans ?_
  refine (pick' _ (x.val / 16) (by omega)).trans ?_
  show FloatOps.sitofp (F := Ideal) .f32 ((IntOp.andi (IntOp.cmpi .sle (IntOp.addi (iota .tc S32x64 32 [1] iota_S32x64_d1_w32 (ix2 ⟨c.val / 16, _⟩ ⟨x.val / 16, _⟩)) (firstBlock i))
      (IntOp.addi (iota .tc S32x64 32 [0] iota_S32x64_d0_w32 (ix2 ⟨c.val / 16, _⟩ ⟨x.val / 16, _⟩)) (Scalar.muli (BitVec.ofNat 32 (i 1).val) 32#32)))
      (IntOp.cmpi .sgt (IntOp.addi (IntOp.addi (iota .tc S32x64 32 [1] iota_S32x64_d1_w32 (ix2 ⟨c.val / 16, _⟩ ⟨x.val / 16, _⟩)) (firstBlock i)) 32#32)
      (IntOp.addi (iota .tc S32x64 32 [0] iota_S32x64_d0_w32 (ix2 ⟨c.val / 16, _⟩ ⟨x.val / 16, _⟩)) (Scalar.muli (BitVec.ofNat 32 (i 1).val) 32#32)))).setWidth 32) = _
  rw [iota_single_apply, iota_single_apply, firstBlock_eq i q h, h]
  refine (congrArg (fun w : BitVec 1 => FloatOps.sitofp (F := Ideal) .f32 (w.setWidth 32)) (inWindow q ⟨c.val / 16, by omega⟩ ⟨x.val / 16, by omega⟩)).trans ?_
  rw [bit_real]
  simp only [decide_eq_true_eq]

/-- A mark spread over its block's queries and its block's positions. -/
theorem spread_apply (a : FVec Ideal S32x128 .f32) (c : Fin 512) (p : Fin 2048) :
    matmul dot_S32x512_S32x2048_S512x2048_0_0_1_1_n_n none (k0_pay3 (F := Ideal))
      (truncf .bf16 (matmul dot_S32x128_S128x2048_S32x2048_1_0_0_1_n_n none (truncf .bf16 a bitsLt_bf16_f32)
        blockOf (constant S32x2048 .f32 0x00000000#32)) bitsLt_bf16_f32)
      (constant S512x2048 .f32 0x00000000#32) (ix2 c p) = a (ix2 ⟨c.val / 16, by omega⟩ ⟨p.val / 16, by omega⟩) := by
  refine (cols_at (M := 512) (K := 32) (N := 2048) dot_S32x512_S32x2048_S512x2048_0_0_1_1_n_n_wf _ _ c p).trans ?_
  have e1 : ∀ r : Fin 32, k0_pay3 (F := Ideal) (ix2 r c) = if c.val / 16 = r.val then (1 : EReal) else 0 := fun r => queries_apply r c
  refine (Finset.sum_congr rfl fun r _ => congrArg (· * _) (e1 r)).trans ?_
  refine (pick _ (c.val / 16) (by omega)).trans ?_
  refine (plain_at (M := 32) (K := 128) (N := 2048) _ rfl _ _ _ p).trans ?_
  refine (Finset.sum_congr rfl fun b _ => congrArg (_ * ·) (blockOf_apply b p)).trans ?_
  exact pick' _ (p.val / 16) (by omega)

end Cert.KernelIdeal.Exact

end
-- ==== Proof.AttnSelect.lean ====
/-
  The selection of the attention call: sixteen rounds, each taking the greatest score left and the first block that has it,
  mark the sixteen best blocks of every row.
-/
module

public import proofs.«01_k».proof.Proof.AttnMasks

@[expose] public section

noncomputable section

open Idealize.ShloMosaic Idealize.ShloMosaic.TcCoe Idealize.SL.Sem Idealize.ShloMosaic.ValueIdx
open scoped BigOperators

namespace Cert.KernelIdeal.Exact

open Cert.KernelIdeal Cert.KernelIdeal.Gen Cert.Common Cert.Attn

/-- Row `r` of a matrix of scores. -/
def rowOf (w : FVec Ideal S32x128 .f32) (r : Fin 32) : Fin 128 → EReal := fun j => w (ix2 r j)

theorem lift_row (r : Fin 32) (k : Fin 128) : (reduces_S32x128_S32.lift (ix1 r) k : S32x128.Idx) = ix2 r k := by
  funext a; apply Fin.ext
  match a with
  | ⟨0, _⟩ => rfl
  | ⟨1, _⟩ => rfl

/-- A column laid over a row, from the vector it came from. -/
theorem column_apply {α : Type} {M N : ℕ} (hM : M ≠ 1) (x : (⟨1, ![M]⟩ : Shape).Idx → α) (hs : (⟨1, ![M]⟩ : Shape).ShapeCasts ⟨2, ![M, 1]⟩)
    (hb : (⟨2, ![M, 1]⟩ : Shape).Broadcasts ⟨2, ![M, N]⟩) (r : Fin M) (c : Fin N) :
    broadcastTo ⟨2, ![M, N]⟩ (shapeCast ⟨2, ![M, 1]⟩ x hs) hb (ix2 r c) = x (ix1 r) := by
  refine (broadcastTo_apply _ hb (ix2 r c) (ix2 r 0) fun a => ?_).trans ?_
  · match a with
    | ⟨0, _⟩ => exact (if_neg hM).symm
    | ⟨1, _⟩ => rfl
  · refine shapeCast_apply (s := ⟨1, ![M]⟩) (t := ⟨2, ![M, 1]⟩) x hs (ix2 r 0) (ix1 r) ?_
    rw [Shape.rowMajor_val_one, Shape.rowMajor_val_two]
    show r.val = r.val * 1 + 0
    omega

theorem rowMax_apply (w : FVec Ideal S32x128 .f32) (r : Fin 32) (b : Fin 128) : rowMax w (ix2 r b) = Finset.univ.fold max ⊥ (rowOf w r) := by
  unfold rowMax
  refine (column_apply (M := 32) (N := 128) (by decide) _ _ _ r b).trans ?_
  refine (Ideal.multiReduction_maximumf_single w 0xFF800000#32 reduces_S32x128_S32 (.inl rfl) rfl (ix1 r)).trans ?_
  have e : Ideal.ofBits .f32 0xFF800000#32 = ⊥ := by simp [Ideal.ofBits, Ideal.ieee]
  have e2 : (w ∘ reduces_S32x128_S32.lift (ix1 r) : Fin 128 → EReal) = rowOf w r := funext fun k => congrArg w (lift_row r k)
  exact congrArg₂ (fun a f => Finset.univ.fold max a f) e e2

theorem fold_minsi {ι : Type} [DecidableEq ι] (g : ι → BitVec 32) (s : Finset ι) (z : BitVec 32) :
    (∀ i ∈ s, (s.fold IntOp.minsi z g).toInt ≤ (g i).toInt) ∧ (s.fold IntOp.minsi z g = z ∨ ∃ i ∈ s, s.fold IntOp.minsi z g = g i) := by
  induction s using Finset.induction_on with
  | empty => exact ⟨fun i hi => absurd hi (Finset.notMem_empty i), .inl rfl⟩
  | insert a s ha ih =>
    rw [Finset.fold_insert ha]
    obtain ⟨h1, h2⟩ := ih
    have key : ∀ x y : BitVec 32, ((IntOp.minsi x y).toInt ≤ x.toInt ∧ (IntOp.minsi x y).toInt ≤ y.toInt) ∧ (IntOp.minsi x y = x ∨ IntOp.minsi x y = y) := by
      intro x y
      unfold IntOp.minsi
      by_cases h : x.slt y = true
      · rw [if_pos h]
        rw [BitVec.slt_iff_toInt_lt] at h
        exact ⟨⟨le_refl _, h.le⟩, .inl rfl⟩
      · rw [if_neg h]
        rw [BitVec.slt_iff_toInt_lt] at h
        exact ⟨⟨not_lt.mp h, le_refl _⟩, .inr rfl⟩
    obtain ⟨⟨k1, k2⟩, k3⟩ := key (g a) (s.fold IntOp.minsi z g)
    refine ⟨fun i hi => ?_, ?_⟩
    · rcases Finset.mem_insert.mp hi with rfl | hi
      · exact k1
      · exact k2.trans (h1 i hi)
    · rcases k3 with k3 | k3
      · exact .inr ⟨a, Finset.mem_insert_self _ _, k3⟩
      · rcases h2 with h2 | ⟨i, hi, h2⟩
        · exact .inl (k3.trans h2)
        · exact .inr ⟨i, Finset.mem_insert_of_mem hi, k3.trans h2⟩

theorem small_toInt {n : ℕ} (h : n < 1000) : (BitVec.ofNat 32 n).toInt = n := by
  rw [BitVec.toInt_ofNat']
  simp only [Int.bmod]
  omega

theorem atMax_apply (w : FVec Ideal S32x128 .f32) (r : Fin 32) (b : Fin 128) :
    atMax w (ix2 r b) = BitVec.ofBool (decide (rowOf w r b = Finset.univ.fold max ⊥ (rowOf w r))) := by
  unfold atMax
  show Ideal.cmp .oeq (w (ix2 r b)) (rowMax w (ix2 r b)) = _
  rw [rowMax_apply]
  rfl

/-- The first block with the row's greatest score is the best. -/
theorem firstRow_apply (w : FVec Ideal S32x128 .f32) (r : Fin 32) (p : Fin 128) (hp : IsBest (rowOf w r) p) : firstRow w (ix1 r) = BitVec.ofNat 32 p.val := by
  obtain ⟨m1, i0, m2⟩ := fold_max (rowOf w r)
  have hM : rowOf w r p = Finset.univ.fold max ⊥ (rowOf w r) := le_antisymm (m1 p) (m2 ▸ hp.1 i0)
  unfold firstRow
  refine ((multiReductionI_eq_fold .minsi _ _ reduces_S32x128_S32 rfl (ix1 r)).trans
    (Shape.Reduces.fold_filter_drop_single reduces_S32x128_S32 IKind.minsi.op _ _ (ix1 r))).trans ?_
  have hf : ∀ b : Fin 128, ((select (atMax w) lanes (broadcast S32x128 128#32)) ∘ reduces_S32x128_S32.lift (ix1 r) : Fin 128 → BitVec 32) b
      = if rowOf w r b = Finset.univ.fold max ⊥ (rowOf w r) then BitVec.ofNat 32 b.val else 128#32 := by
    intro b
    show Scalar.select (atMax w (reduces_S32x128_S32.lift (ix1 r) b)) (lanes (reduces_S32x128_S32.lift (ix1 r) b)) 128#32 = _
    rw [lift_row, atMax_apply]
    have e : lanes (ix2 r b) = BitVec.ofNat 32 b.val := by
      unfold lanes; rw [iota_single_apply]
    rw [e]
    by_cases h : rowOf w r b = Finset.univ.fold max ⊥ (rowOf w r)
    · rw [if_pos h, decide_eq_true h]; rfl
    · rw [if_neg h, decide_eq_false h]; rfl
  obtain ⟨f1, f2⟩ := fold_minsi ((select (atMax w) lanes (broadcast S32x128 128#32)) ∘ reduces_S32x128_S32.lift (ix1 r) : Fin 128 → BitVec 32) Finset.univ 2147483647#32
  have f3 := f1 p (Finset.mem_univ _)
  rw [hf p, if_pos hM, small_toInt (by omega)] at f3
  show Finset.univ.fold IntOp.minsi 2147483647#32 ((select (atMax w) lanes (broadcast S32x128 128#32)) ∘ reduces_S32x128_S32.lift (ix1 r) : Fin 128 → BitVec 32) = _
  rcases f2 with f2 | ⟨b, -, f2⟩
  · rw [f2] at f3
    have : (2147483647#32).toInt = 2147483647 := by decide
    omega
  · rw [f2]
    rw [f2] at f3
    rw [hf b] at f3 ⊢
    by_cases h : rowOf w r b = Finset.univ.fold max ⊥ (rowOf w r)
    · rw [if_pos h] at f3 ⊢
      rw [small_toInt (by omega)] at f3
      rcases lt_or_eq_of_le (show b.val ≤ p.val by omega) with hlt | heq
      · exact absurd (hp.2 b hlt) (by rw [h, hM]; exact lt_irrefl _)
      · rw [heq]
    · rw [if_neg h] at f3
      have : (128#32).toInt = 128 := by decide
      omega

theorem hit_apply (w : FVec Ideal S32x128 .f32) (r : Fin 32) (p : Fin 128) (hp : IsBest (rowOf w r) p) (b : Fin 128) :
    hit w (ix2 r b) = BitVec.ofBool (decide (b = p)) := by
  unfold hit firstCol
  show IntOp.cmpi .eq (lanes (ix2 r b)) (broadcastTo S32x128 (shapeCast S32x1 (firstRow w) shapeCasts_S32_S32x1) broadcasts_S32x1_S32x128 (ix2 r b)) = _
  have e : lanes (ix2 r b) = BitVec.ofNat 32 b.val := by
    unfold lanes; rw [iota_single_apply]
  rw [e]
  refine (congrArg (IntOp.cmpi .eq _) ((column_apply (M := 32) (N := 128) (by decide) _ _ _ r b).trans (firstRow_apply w r p hp))).trans ?_
  show BitVec.ofBool (BitVec.ofNat 32 b.val == BitVec.ofNat 32 p.val) = _
  rw [word_eq (by omega) (by omega)]
  simp only [Fin.ext_iff]

theorem left_apply (w : FVec Ideal S32x128 .f32) (r : Fin 32) (p : Fin 128) (hp : IsBest (rowOf w r) p) (b : Fin 128) :
    rowOf (left w) r b = if b = p then ⊥ else rowOf w r b := by
  show Scalar.select (hit w (ix2 r b)) (Ideal.ofBits .f32 0xFF800000#32) (w (ix2 r b)) = _
  have e : Ideal.ofBits .f32 0xFF800000#32 = ⊥ := by simp [Ideal.ofBits, Ideal.ieee]
  rw [hit_apply w r p hp, e]
  by_cases h : b = p
  · rw [if_pos h, decide_eq_true h]; rfl
  · rw [if_neg h, decide_eq_false h]; rfl

theorem mark_apply (w a : FVec Ideal S32x128 .f32) (r : Fin 32) (p : Fin 128) (hp : IsBest (rowOf w r) p) (b : Fin 128) :
    mark w a (ix2 r b) = if b = p then (1 : EReal) else a (ix2 r b) := by
  show Scalar.select (hit w (ix2 r b)) (Ideal.ofBits .f32 0x3F800000#32) (a (ix2 r b)) = _
  have e : Ideal.ofBits .f32 0x3F800000#32 = 1 := IdealRules.sign_bit.ideal_onePat .f32
  rw [hit_apply w r p hp, e]
  by_cases h : b = p
  · rw [if_pos h, decide_eq_true h]; rfl
  · rw [if_neg h, decide_eq_false h]; rfl

/-- After `k` rounds, the row's marks are on `k` blocks taken before all others. -/
theorem rounds (s : FVec Ideal S32x128 .f32) (r : Fin 32) (hs : ∀ j, ⊥ < rowOf s r j) (k : ℕ) (hk : k ≤ 16) :
    ∃ A : Finset (Fin 128), A.card = k ∧ Taken (rowOf s r) (rowOf (work s k) r) A ∧ ∀ b, marks s k (ix2 r b) = if b ∈ A then (1 : EReal) else 0 := by
  induction k with
  | zero =>
    refine ⟨∅, rfl, Taken.start _, fun b => ?_⟩
    rw [if_neg (Finset.notMem_empty b)]
    exact Ideal.ofBits_zero_f32
  | succ k ih =>
    obtain ⟨A, h1, h2, h3⟩ := ih (by omega)
    obtain ⟨p, hp⟩ := exists_isBest (rowOf (work s k) r)
    obtain ⟨h4, h5⟩ := h2.step hs (by omega) hp (fun j => left_apply (work s k) r p hp j)
    refine ⟨insert p A, by rw [Finset.card_insert_of_notMem h4, h1], h5, fun b => ?_⟩
    refine (mark_apply (work s k) (marks s k) r p hp b).trans ?_
    rw [h3 b]
    by_cases h : b = p
    · rw [if_pos h, if_pos (by rw [h]; exact Finset.mem_insert_self _ _)]
    · rw [if_neg h]
      by_cases h' : b ∈ A
      · rw [if_pos h', if_pos (Finset.mem_insert_of_mem h')]
      · rw [if_neg h', if_neg (fun hc => (Finset.mem_insert.mp hc).elim h h')]

open Classical in
/-- The marks of the sixteen rounds are on the sixteen best blocks. -/
theorem marks_apply (s : FVec Ideal S32x128 .f32) (r : Fin 32) (hs : ∀ j, ⊥ < rowOf s r j) (b : Fin 128) :
    marks s 16 (ix2 r b) = if best (rowOf s r) b then (1 : EReal) else 0 := by
  obtain ⟨A, h1, h2, h3⟩ := rounds s r hs 16 (le_refl _)
  rw [h3 b]
  exact if_congr (mem_iff_best _ A h1 h2.first b) rfl rfl

end Cert.KernelIdeal.Exact

end
-- ==== Proof.AttnSpec.lean ====
/-
  What one head of the attention computes for one query, free of any program: three weighted averages of values, each under
  its gate. Positions are natural numbers, sixteen to a block; a head's queries, keys and values are rows of sixty-four.
-/
module

public import proofs.«01_k».proof.Proof.AttnMath

@[expose] public section

noncomputable section

namespace Cert.Attn

open Idealize.ShloMosaic
open scoped BigOperators

/-- The weight of a key under a query. -/
def weight (a b : Fin 64 → EReal) : ℝ := Real.exp (logit a b)

variable (q k v kc vc : ℕ → Fin 64 → EReal)

/-- The weights of the compressed blocks under query `s`. -/
def compWeight (s : ℕ) (b : Fin 128) : ℝ := weight (q s) (kc b.val)

/-- The score of block `b` for the queries of block `n`: the mean of its sixteen softmax weights. -/
def score (n : ℕ) (b : Fin 128) : EReal :=
  (((∑ t : Fin 16, compWeight q kc (16 * n + t.val) b / ∑ j, compWeight q kc (16 * n + t.val) j) / 16 : ℝ) : EReal)

open Classical in
/-- The weights of all positions under query `s`, those outside the sixteen best blocks left out. -/
def selWeight (s : ℕ) (p : Fin 2048) : ℝ := if best (score q kc (s / 16)) ⟨p.val / 16, by omega⟩ then weight (q s) (k p.val) else 0

/-- The weights of the 512 positions that end with the query's block, those before the first left out. -/
def winWeight (s : ℕ) (x : Fin 512) : ℝ :=
  if 512 ≤ 16 * (s / 16 + 1) + x.val then weight (q s) (k (16 * (s / 16 + 1) + x.val - 512)) else 0

/-- A head's result for query `s` in column `d`, under the query's three gates. -/
def spec (g : Fin 3 → EReal) (s : ℕ) (d : Fin 64) : EReal :=
  g 0 * avg (compWeight q kc s) (fun b => vc b.val d) + g 1 * avg (selWeight q k kc s) (fun p => v p.val d)
    + g 2 * avg (winWeight q k s) (fun x => v (16 * (s / 16 + 1) + x.val - 512) d)

theorem weight_pos (a b : Fin 64 → EReal) : 0 < weight a b := Real.exp_pos _

/-- Some position is among the sixteen best. -/
theorem exists_best (s : Fin 128 → EReal) : ∃ b, best s b := by
  classical
  obtain ⟨p, h1, h2⟩ := exists_isBest s
  refine ⟨p, ?_⟩
  unfold best
  have : (Finset.univ.filter fun i => before s i p) = ∅ := by
    refine Finset.filter_eq_empty_iff.mpr fun i _ => ?_
    rintro (h | ⟨h, h'⟩)
    · exact absurd h (not_lt.mpr (h1 i))
    · exact absurd (h2 i h') (by rw [h]; exact lt_irrefl _)
  have h3 : (Finset.univ.filter fun i => before s i p).card = 0 := by rw [this]; rfl
  convert (by omega : (Finset.univ.filter fun i => before s i p).card < 16)

theorem if_weight (c : Prop) [Decidable c] (e Z : ℝ) (x : EReal) :
    (((if c then e else 0) / Z : ℝ) : EReal) * x = if c then ((e / Z : ℝ) : EReal) * x else 0 := by
  by_cases h : c
  · rw [if_pos h, if_pos h]
  · rw [if_neg h, if_neg h, zero_div, EReal.coe_zero, zero_mul]

/-- The average over a window in its two lists of positions. -/
theorem avg_window (e : ℕ → ℝ) (x : ℕ → EReal) (n w : ℕ) (h1 : n ≤ w + 63) (h2 : w = 0 ∨ w + 31 ≤ n) (hw : w ≤ n) :
    avg (fun y : Fin 1024 => if w + y.val / 16 ≤ n ∧ n < w + y.val / 16 + 32 then e (16 * w + y.val) else 0) (fun y => x (16 * w + y.val))
      = avg (fun j : Fin 512 => if 512 ≤ 16 * (n + 1) + j.val then e (16 * (n + 1) + j.val - 512) else 0)
          (fun j => x (16 * (n + 1) + j.val - 512)) := by
  unfold avg
  simp only [if_weight]
  rw [← sum_window e n w h1 h2 hw]
  exact (sum_window (fun p => ((e p / _ : ℝ) : EReal) * x p) n w h1 h2 hw).symm

/-- The average over sixteen distinct blocks, listed, and over all positions with the others left out. -/
theorem avg_selected (σ : Fin 16 → Fin 128) (hσ : Function.Injective σ) (T : Fin 128 → Prop)
    [DecidablePred T] (hT : ∀ b, T b ↔ ∃ t, σ t = b) (e : ℕ → ℝ) (x : ℕ → EReal) :
    avg (fun t : Fin 256 => e (16 * (σ ⟨t.val / 16, by omega⟩).val + t.val % 16)) (fun t => x (16 * (σ ⟨t.val / 16, by omega⟩).val + t.val % 16))
      = avg (fun p : Fin 2048 => if T ⟨p.val / 16, by omega⟩ then e p.val else 0) (fun p => x p.val) := by
  unfold avg
  simp only [if_weight]
  rw [← sum_selected σ hσ T hT e]
  exact sum_selected σ hσ T hT (fun p => ((e p / _ : ℝ) : EReal) * x p)

/-- Sixteen consecutive terms of a longer sum, under a mask. -/
theorem sum_block (n : ℕ) (r : Fin n) (f : ℕ → EReal) :
    ∑ c : Fin (n * 16), (if c.val / 16 = r.val then (1 : EReal) else 0) * f c.val = ∑ t : Fin 16, f (16 * r.val + t.val) := by
  rw [← (finProdFinEquiv (m := n) (n := 16)).sum_comp, Fintype.sum_prod_type, Finset.sum_eq_single r]
  · refine Finset.sum_congr rfl fun t _ => ?_
    have h1 : (finProdFinEquiv (r, t)).val = t.val + 16 * r.val := rfl
    rw [if_pos (by omega), one_mul, h1, Nat.add_comm]
  · intro a _ ha
    refine Finset.sum_eq_zero fun t _ => ?_
    have h1 : (finProdFinEquiv (a, t)).val = t.val + 16 * a.val := rfl
    rw [if_neg (fun h => ha (Fin.ext (by omega))), zero_mul]
  · intro h; exact absurd (Finset.mem_univ _) h

end Cert.Attn

end
-- ==== Proof.AttnHead.lean ====
/-
  One head's block of the attention call at an index: the three weighted averages under their gates.
-/
module

public import proofs.«01_k».proof.Proof.AttnSelect
public import proofs.«01_k».proof.Proof.AttnSpec

@[expose] public section

noncomputable section

open Idealize.ShloMosaic Idealize.ShloMosaic.TcCoe Idealize.SL.Sem Idealize.ShloMosaic.ValueIdx
open scoped BigOperators

namespace Cert.KernelIdeal.Exact

open Cert.KernelIdeal Cert.KernelIdeal.Gen Cert.Common Cert.Attn

theorem one_f32 : Ideal.ofBits .f32 0x3F800000#32 = 1 := IdealRules.sign_bit.ideal_onePat .f32
theorem one_bf16 : Ideal.ofBits .bf16 0x3F80#16 = 1 := IdealRules.sign_bit.ideal_onePat .bf16
theorem eighth_f32 : Ideal.ofBits .f32 0x3E000000#32 = ((1 / 8 : ℝ) : EReal) := by
  simp [Ideal.ofBits, Ideal.ieee]
  rw [← EReal.coe_mul]
  norm_num
theorem sixteenth_f32 : Ideal.ofBits .f32 0x3D800000#32 = ((1 / 16 : ℝ) : EReal) := by
  simp [Ideal.ofBits, Ideal.ieee]
  rw [← EReal.coe_mul]
  norm_num

/-- The product of scaled queries and keys is the logit. -/
theorem logit_at {N : ℕ} (q : FVec Ideal S512x64 .f32) (x : (⟨2, ![N, 64]⟩ : Shape).Idx → EReal) (c : Fin 512) (b : Fin N) (a y : Fin 64 → EReal)
    (ha : IsReal a) (hy : IsReal y) (hq : ∀ d, q (ix2 c d) = a d) (hx : ∀ d, x (ix2 b d) = y d) :
    ∑ d : Fin 64, (k0_pay11 (F := Ideal) q (ix2 c d) : EReal) * x (ix2 b d) = (logit a y : EReal) := by
  rw [← scaled_dot ha hy _ eighth_f32]
  refine Finset.sum_congr rfl fun d _ => ?_
  rw [hx d, ← hq d]
  rfl

theorem lift_long (c : Fin 512) (k : Fin 128) : (reduces_S512x128_S512.lift (ix1 c) k : S512x128.Idx) = ix2 c k := by
  funext a; apply Fin.ext
  match a with
  | ⟨0, _⟩ => rfl
  | ⟨1, _⟩ => rfl

/-- The softmax over the compressed blocks. -/
theorem comp_apply (q : FVec Ideal S512x64 .f32) (kc : FVec Ideal S128x64 .f32) (c : Fin 512) (l : Fin 128 → ℝ)
    (hl : ∀ b, ∑ d : Fin 64, (k0_pay11 (F := Ideal) q (ix2 c d) : EReal) * kc (ix2 b d) = ((l b : ℝ) : EReal)) (b : Fin 128) :
    k0_pay12 (F := Ideal) q kc (ix2 c b) = ((Real.exp (l b) / ∑ j, Real.exp (l j) : ℝ) : EReal) := by
  have hL : ∀ b, matmul dot_S512x64_S128x64_S512x128_1_1_0_0_n_n none (k0_pay11 (F := Ideal) q) kc (constant S512x128 .f32 0x00000000#32) (ix2 c b) = ((l b : ℝ) : EReal) :=
    fun b => (rows_at (M := 512) (K := 64) (N := 128) _ rfl _ _ c b).trans (hl b)
  unfold k0_pay12
  generalize hM : matmul dot_S512x64_S128x64_S512x128_1_1_0_0_n_n none (k0_pay11 (F := Ideal) q) kc (constant S512x128 .f32 0x00000000#32) = L at hL
  have hmax : ∀ b, broadcastTo S512x128 (shapeCast S512x1 (multiReduction .maximumf [1] S512 L 0xFF800000#32 reduces_S512x128_S512 (.inl rfl) rfl) shapeCasts_S512_S512x1)
      broadcasts_S512x1_S512x128 (ix2 c b) = Finset.univ.fold max ⊥ (fun j => ((l j : ℝ) : EReal)) := by
    intro b
    refine (column_apply (M := 512) (N := 128) (by decide) _ _ _ c b).trans ?_
    refine (Ideal.multiReduction_maximumf_single L 0xFF800000#32 reduces_S512x128_S512 (.inl rfl) rfl (ix1 c)).trans ?_
    have e : Ideal.ofBits .f32 0xFF800000#32 = ⊥ := by simp [Ideal.ofBits, Ideal.ieee]
    have e2 : (L ∘ reduces_S512x128_S512.lift (ix1 c) : Fin 128 → EReal) = fun j => ((l j : ℝ) : EReal) :=
      funext fun k => (congrArg L (lift_long c k)).trans (hL k)
    exact congrArg₂ (fun a f => Finset.univ.fold max a f) e e2
  have hexp : ∀ b, (exp (subf L (broadcastTo S512x128 (shapeCast S512x1 (multiReduction .maximumf [1] S512 L 0xFF800000#32 reduces_S512x128_S512 (.inl rfl) rfl)
      shapeCasts_S512_S512x1) broadcasts_S512x1_S512x128)) : FVec Ideal S512x128 .f32) (ix2 c b)
      = Ideal.exp (((l b : ℝ) : EReal) - Finset.univ.fold max ⊥ (fun j => ((l j : ℝ) : EReal))) := by
    intro b
    show Ideal.exp (L (ix2 c b) - _) = _
    rw [hmax b, hL b]
  generalize hE : (exp (subf L (broadcastTo S512x128 (shapeCast S512x1 (multiReduction .maximumf [1] S512 L 0xFF800000#32 reduces_S512x128_S512 (.inl rfl) rfl)
      shapeCasts_S512_S512x1) broadcasts_S512x1_S512x128)) : FVec Ideal S512x128 .f32) = E at hexp
  rw [← softmax_recip (weighs_real l) ⟨0, (Real.exp_pos _).ne'⟩ b, ← hexp b]
  show E (ix2 c b) * broadcastTo S512x128 (divf (broadcast S512x1 (Scalar.ofBits .f32 0x3F800000#32)) (shapeCast S512x1
    (multiReduction .add [1] S512 E 0x00000000#32 reduces_S512x128_S512 (.inl rfl) rfl) shapeCasts_S512_S512x1)) broadcasts_S512x1_S512x128 (ix2 c b) = _
  refine congrArg (E (ix2 c b) * ·) ?_
  refine (broadcastTo_apply _ broadcasts_S512x1_S512x128 (ix2 c b) (ix2 c 0) fun a => ?_).trans ?_
  · match a with
    | ⟨0, _⟩ => rfl
    | ⟨1, _⟩ => rfl
  · show Ideal.div (Ideal.ofBits .f32 0x3F800000#32) (shapeCast S512x1
      (multiReduction .add [1] S512 E 0x00000000#32 reduces_S512x128_S512 (.inl rfl) rfl) shapeCasts_S512_S512x1 (ix2 c 0)) = _
    rw [one_f32]
    refine congrArg (Ideal.div 1) ?_
    refine (shapeCast_apply (s := S512) (t := S512x1) _ shapeCasts_S512_S512x1 (ix2 c 0) (ix1 c) ?_).trans ?_
    · rw [Shape.rowMajor_val_one, Shape.rowMajor_val_two]
      show c.val = c.val * 1 + 0
      omega
    · refine (Ideal.multiReduction_add_single E 0x00000000#32 reduces_S512x128_S512 (.inl rfl) rfl (ix1 c)).trans ?_
      exact Finset.sum_congr rfl fun k _ => (congrArg E (lift_long c k)).trans (hexp k)

/-- The scores of a block of queries: the mean of its sixteen rows. -/
theorem scores_apply (p : FVec Ideal S512x128 .f32) (f : ℕ → Fin 128 → ℝ) (hp : ∀ (c : Fin 512) b, p (ix2 c b) = ((f c.val b : ℝ) : EReal))
    (r : Fin 32) (b : Fin 128) :
    k0_pay14 (F := Ideal) k0_pay2 p (ix2 r b) = (((∑ t : Fin 16, f (16 * r.val + t.val) b) / 16 : ℝ) : EReal) := by
  unfold k0_pay14
  show matmul dot_S32x512_S512x128_S32x128_1_0_0_1_n_n none (k0_pay2 (F := Ideal)) p (constant S32x128 .f32 0x00000000#32) (ix2 r b) * Ideal.ofBits .f32 0x3D800000#32 = _
  rw [sixteenth_f32]
  have e : matmul dot_S32x512_S512x128_S32x128_1_0_0_1_n_n none (k0_pay2 (F := Ideal)) p (constant S32x128 .f32 0x00000000#32) (ix2 r b)
      = ((∑ t : Fin 16, f (16 * r.val + t.val) b : ℝ) : EReal) := by
    refine (plain_at (M := 32) (K := 512) (N := 128) _ rfl _ _ r b).trans ?_
    refine (Finset.sum_congr rfl fun c _ => congrArg₂ (· * ·) (queries_apply r c) (hp c b)).trans ?_
    exact (sum_block 32 r (fun c => ((f c b : ℝ) : EReal))).trans (sum_coe _ _)
  rw [e, ← EReal.coe_mul]
  congr 1
  ring

/-- Values with a column of ones beside them. -/
theorem values_at {N : ℕ} {φ : FTy} (v o : FVec Ideal ⟨2, ![N, 64]⟩ φ)
    (h : Shape.Concatenates [(⟨2, ![N, 64]⟩ : Shape), ⟨2, ![N, 64]⟩] ⟨2, ![N, 128]⟩ 1) (p : Fin N) (d : Fin 64) :
    concatenate ⟨2, ![N, 128]⟩ 1 [⟨_, v⟩, ⟨_, o⟩] h (ix2 p ⟨d.val, by omega⟩) = v (ix2 p d) :=
  concatenate_pair_apply_left 1 v o h _ rfl (ix2 p d) fun b => by
    match b with
    | ⟨0, _⟩ => rfl
    | ⟨1, _⟩ => rfl

theorem ones_at {N : ℕ} {φ : FTy} (v o : FVec Ideal ⟨2, ![N, 64]⟩ φ)
    (h : Shape.Concatenates [(⟨2, ![N, 64]⟩ : Shape), ⟨2, ![N, 64]⟩] ⟨2, ![N, 128]⟩ 1) (p : Fin N) :
    concatenate ⟨2, ![N, 128]⟩ 1 [⟨_, v⟩, ⟨_, o⟩] h (ix2 p 64) = o (ix2 p 0) :=
  concatenate_pair_apply_right 1 v o h (ix2 p 64) rfl rfl (ix2 p 0) (fun b hb => by
    match b with
    | ⟨0, _⟩ => rfl
    | ⟨1, _⟩ => exact absurd rfl hb) rfl

/-- A ratio of weighted values to weights is the weighted average. -/
theorem ratio_apply {ι : Type} [Fintype ι] (n : FVec Ideal S512x128 .f32) (c : Fin 512) (w : ι → ℝ) (v : ι → Fin 64 → EReal)
    (h1 : ∀ d : Fin 64, n (ix2 c ⟨d.val, by omega⟩) = ∑ p, (w p : EReal) * v p d) (h2 : n (ix2 c 64) = ∑ p, (w p : EReal) * 1)
    (hw : ∀ p, 0 ≤ w p) (hpos : 0 < ∑ p, w p) (d : Fin 64) : ratio n (ix2 c d) = avg w (fun p => v p d) := by
  rw [← avg_of_recip w _ hw hpos, ← h1 d, ← h2]
  unfold ratio
  show extractStridedSlice S512x64 ![0, 0] n slices_S512x128_o0_0_S512x64 (ix2 c d) * broadcastTo S512x64 (divf (broadcast S512x1 (Scalar.ofBits .f32 0x3F800000#32))
      (extractStridedSlice S512x1 ![0, 64] n slices_S512x128_o0_64_S512x1)) broadcasts_S512x1_S512x64 (ix2 c d) = _
  refine congrArg₂ (· * ·) ?_ ?_
  · refine extractStridedSlice_apply _ n _ _ _ fun a => ?_
    match a with
    | ⟨0, _⟩ => exact (Nat.zero_add _).symm
    | ⟨1, _⟩ => exact (Nat.zero_add _).symm
  · refine (broadcastTo_apply _ broadcasts_S512x1_S512x64 (ix2 c d) (ix2 c 0) fun a => ?_).trans ?_
    · match a with
      | ⟨0, _⟩ => rfl
      | ⟨1, _⟩ => rfl
    · show Ideal.div (Ideal.ofBits .f32 0x3F800000#32) (extractStridedSlice S512x1 ![0, 64] n slices_S512x128_o0_64_S512x1 (ix2 c 0)) = _
      rw [one_f32]
      refine congrArg (Ideal.div 1) (extractStridedSlice_apply _ n _ _ _ fun a => ?_)
      match a with
      | ⟨0, _⟩ => exact (Nat.zero_add _).symm
      | ⟨1, _⟩ => rfl

/-- A gate laid over a head's columns. -/
theorem gateCol_apply (j : Fin 128) (h : S512x128.Slices ![0, j.val] S512x1) (g : FVec Ideal S512x128 .f32) (c : Fin 512) (d : Fin 64) :
    gateCol (F := Ideal) ![0, j.val] h g (ix2 c d) = g (ix2 c j) := by
  unfold gateCol
  refine (broadcastTo_apply _ broadcasts_S512x1_S512x64 (ix2 c d) (ix2 c 0) fun a => ?_).trans ?_
  · match a with
    | ⟨0, _⟩ => rfl
    | ⟨1, _⟩ => rfl
  · refine extractStridedSlice_apply _ g _ _ _ fun a => ?_
    match a with
    | ⟨0, _⟩ => exact (Nat.zero_add _).symm
    | ⟨1, _⟩ => rfl

/-- An exponential under a mask. -/
theorem masked (e : ℝ) (m : EReal) (P : Prop) [Decidable P] (hm : m = if P then 1 else 0) :
    Ideal.exp ((e : ℝ) : EReal) * m = (((if P then Real.exp e else 0 : ℝ)) : EReal) := by
  rw [hm]
  by_cases h : P
  · rw [if_pos h, if_pos h, mul_one]; rfl
  · rw [if_neg h, if_neg h, mul_zero]; rfl

/-- What a head's block reads: its queries, keys and values as rows, the queries those of chunk `t`. -/
structure Reads (t : Fin 4) (q : FVec Ideal S512x64 .f32) (kc vc : FVec Ideal S128x64 .f32) (k v : FVec Ideal S2048x64 .f32)
    (kw vw : FVec Ideal S1024x64 .f32) (Q K V KC VC : ℕ → Fin 64 → EReal) : Prop where
  q : ∀ c d, q (ix2 c d) = Q (512 * t.val + c.val) d
  kc : ∀ c d, kc (ix2 c d) = KC c.val d
  vc : ∀ c d, vc (ix2 c d) = VC c.val d
  k : ∀ c d, k (ix2 c d) = K c.val d
  v : ∀ c d, v (ix2 c d) = V c.val d
  kw : ∀ c d, kw (ix2 c d) = K (16 * stretch t + c.val) d
  vw : ∀ c d, vw (ix2 c d) = V (16 * stretch t + c.val) d
  realQ : ∀ s, IsReal (Q s)
  realK : ∀ s, IsReal (K s)
  realKC : ∀ s, s < 128 → IsReal (KC s)

section
variable {t : Fin 4} {q : FVec Ideal S512x64 .f32} {kc vc : FVec Ideal S128x64 .f32} {k v : FVec Ideal S2048x64 .f32}
  {kw vw : FVec Ideal S1024x64 .f32} {Q K V KC VC : ℕ → Fin 64 → EReal} (H : Reads t q kc vc k v kw vw Q K V KC VC)
include H

theorem Reads.comp (c : Fin 512) (b : Fin 128) : k0_pay12 (F := Ideal) q kc (ix2 c b)
    = ((compWeight Q KC (512 * t.val + c.val) b / ∑ j, compWeight Q KC (512 * t.val + c.val) j : ℝ) : EReal) :=
  comp_apply q kc c (fun b => logit (Q (512 * t.val + c.val)) (KC b.val))
    (fun b => logit_at q kc c b _ _ (H.realQ _) (H.realKC _ b.isLt) (fun d => H.q c d) (fun d => H.kc b d)) b

theorem Reads.score (r : Fin 32) : rowOf (k0_pay14 (F := Ideal) k0_pay2 (k0_pay12 q kc)) r = Cert.Attn.score Q KC (32 * t.val + r.val) := by
  funext b
  refine (scores_apply _ (fun c b => compWeight Q KC (512 * t.val + c) b / ∑ j, compWeight Q KC (512 * t.val + c) j) (fun c b => H.comp c b) r b).trans ?_
  unfold Cert.Attn.score
  have e : ∀ x : Fin 16, 512 * t.val + (16 * r.val + x.val) = 16 * (32 * t.val + r.val) + x.val := fun x => by omega
  simp only [e]

theorem Reads.first (c : Fin 512) (d : Fin 64) : k0_pay13 (F := Ideal) vc (k0_pay12 q kc) (ix2 c d)
    = avg (compWeight Q KC (512 * t.val + c.val)) (fun b => VC b.val d) := by
  unfold k0_pay13
  refine (plain_at (M := 512) (K := 128) (N := 64) _ rfl _ _ c d).trans ?_
  exact Finset.sum_congr rfl fun b _ => congrArg₂ (· * ·) (H.comp c b) (H.vc b d)

theorem Reads.selWeights (c : Fin 512) (p : Fin 2048) :
    Exact.selWeights (F := Ideal) q k (marks (k0_pay14 k0_pay2 (k0_pay12 q kc)) 16) (ix2 c p) = ((selWeight Q K KC (512 * t.val + c.val) p : ℝ) : EReal) := by
  classical
  have hm : marks (k0_pay14 (F := Ideal) k0_pay2 (k0_pay12 q kc)) 16 (ix2 ⟨c.val / 16, by omega⟩ ⟨p.val / 16, by omega⟩)
      = if best (Cert.Attn.score Q KC ((512 * t.val + c.val) / 16)) ⟨p.val / 16, by omega⟩ then (1 : EReal) else 0 := by
    refine (marks_apply _ ⟨c.val / 16, by omega⟩ (fun j => ?_) ⟨p.val / 16, by omega⟩).trans ?_
    · rw [H.score]; exact EReal.bot_lt_coe _
    · rw [H.score]
      have e : 32 * t.val + c.val / 16 = (512 * t.val + c.val) / 16 := by omega
      simp only [e]
  refine Eq.trans ?_ (masked _ _ _ hm)
  unfold Exact.selWeights
  refine congrArg₂ (· * ·) ?_ (spread_apply _ c p)
  exact congrArg Ideal.exp ((rows_at (M := 512) (K := 64) (N := 2048) _ rfl _ _ c p).trans
    (logit_at q k c p _ _ (H.realQ _) (H.realK _) (fun d => H.q c d) (fun d => H.k p d)))

theorem Reads.second (c : Fin 512) (d : Fin 64) : ratio (F := Ideal) (selected q k v (marks (k0_pay14 k0_pay2 (k0_pay12 q kc)) 16)) (ix2 c d)
    = avg (selWeight Q K KC (512 * t.val + c.val)) (fun p => V p.val d) := by
  classical
  refine ratio_apply _ c (selWeight Q K KC (512 * t.val + c.val)) (fun p d => V p.val d) (fun d => ?_) ?_ (fun p => ?_) ?_ d
  · unfold selected
    refine (plain_at (M := 512) (K := 2048) (N := 128) _ rfl _ _ c _).trans ?_
    exact Finset.sum_congr rfl fun p _ => congrArg₂ (· * ·) (H.selWeights c p) ((values_at (N := 2048) _ _ _ p d).trans (H.v p d))
  · unfold selected
    refine (plain_at (M := 512) (K := 2048) (N := 128) _ rfl _ _ c _).trans ?_
    exact Finset.sum_congr rfl fun p _ => congrArg₂ (· * ·) (H.selWeights c p) ((ones_at (N := 2048) _ _ _ p).trans one_bf16)
  · unfold selWeight
    split_ifs
    · exact (weight_pos _ _).le
    · exact le_refl _
  · obtain ⟨b, hb⟩ := exists_best (Cert.Attn.score Q KC ((512 * t.val + c.val) / 16))
    refine Finset.sum_pos' (fun p _ => ?_) ⟨⟨16 * b.val, by omega⟩, Finset.mem_univ _, ?_⟩
    · unfold selWeight
      split_ifs
      · exact (weight_pos _ _).le
      · exact le_refl _
    · unfold selWeight
      have e : (⟨16 * b.val / 16, by omega⟩ : Fin 128) = b := Fin.ext (by show 16 * b.val / 16 = b.val; omega)
      rw [if_pos (by simp only [e]; exact hb)]
      exact weight_pos _ _

theorem Reads.third (i : grid0.Coords) (hi : (i 1).val = t.val) (c : Fin 512) (d : Fin 64) :
    ratio (F := Ideal) (k0_pay54 (windowMask i) k0_pay10 (k0_pay11 q) kw vw) (ix2 c d)
      = avg (winWeight Q K (512 * t.val + c.val)) (fun x => V (16 * ((512 * t.val + c.val) / 16 + 1) + x.val - 512) d) := by
  have en : (512 * t.val + c.val) / 16 = t.val * 32 + c.val / 16 := by omega
  have ha := avg_window (fun p => weight (Q (512 * t.val + c.val)) (K p)) (fun p => V p d) (t.val * 32 + c.val / 16) (stretch t)
    (by unfold stretch; omega) (by unfold stretch; omega) (by unfold stretch; omega)
  unfold winWeight
  rw [en]
  refine Eq.trans ?_ ha
  have hW : ∀ x : Fin 1024, mulf (truncf .bf16 (exp (matmul dot_S512x64_S1024x64_S512x1024_1_1_0_0_n_n none (k0_pay52 (k0_pay11 (F := Ideal) q))
      (truncf .bf16 kw bitsLt_bf16_f32) (constant S512x1024 .f32 0x00000000#32))) bitsLt_bf16_f32) (windowMask i) (ix2 c x)
      = ((if stretch t + x.val / 16 ≤ t.val * 32 + c.val / 16 ∧ t.val * 32 + c.val / 16 < stretch t + x.val / 16 + 32
          then weight (Q (512 * t.val + c.val)) (K (16 * stretch t + x.val)) else 0 : ℝ) : EReal) := by
    intro x
    refine Eq.trans ?_ (masked _ _ _ (windowMask_apply i t hi c x))
    refine congrArg (· * _) ?_
    exact congrArg Ideal.exp ((rows_at (M := 512) (K := 64) (N := 1024) _ rfl _ _ c x).trans
      (logit_at q kw c x _ _ (H.realQ _) (H.realK _) (fun d => H.q c d) (fun d => H.kw x d)))
  refine ratio_apply _ c _ (fun (x : Fin 1024) d => V (16 * stretch t + x.val) d) (fun d => ?_) ?_ (fun p => ?_) ?_ d
  · unfold k0_pay54
    refine (plain_at (M := 512) (K := 1024) (N := 128) _ rfl _ _ c _).trans ?_
    exact Finset.sum_congr rfl fun x _ => congrArg₂ (· * ·) (hW x) ((values_at (N := 1024) _ _ _ x d).trans (H.vw x d))
  · unfold k0_pay54
    refine (plain_at (M := 512) (K := 1024) (N := 128) _ rfl _ _ c _).trans ?_
    exact Finset.sum_congr rfl fun x _ => congrArg₂ (· * ·) (hW x) ((ones_at (N := 1024) _ _ _ x).trans one_bf16)
  · split_ifs
    · exact (weight_pos _ _).le
    · exact le_refl _
  · refine Finset.sum_pos' (fun p _ => ?_) ⟨⟨16 * (t.val * 32 + c.val / 16 - stretch t), by unfold stretch; omega⟩, Finset.mem_univ _, ?_⟩
    · split_ifs
      · exact (weight_pos _ _).le
      · exact le_refl _
    · rw [if_pos (by show stretch t + 16 * (t.val * 32 + c.val / 16 - stretch t) / 16 ≤ _ ∧ _ < stretch t + 16 * (t.val * 32 + c.val / 16 - stretch t) / 16 + 32; unfold stretch; omega)]
      exact weight_pos _ _

/-- A head's block is the three averages under their gates. -/
theorem Reads.head (i : grid0.Coords) (hi : (i 1).val = t.val) (g : FVec Ideal S512x128 .f32) (c : Fin 512) (d : Fin 64) :
    Exact.head (F := Ideal) i g q kc vc k v kw vw (ix2 c d) = spec Q K V KC VC (fun j => g (ix2 c ⟨j.val, by omega⟩)) (512 * t.val + c.val) d := by
  unfold Exact.head spec
  refine congrArg₂ (· + ·) (congrArg₂ (· + ·) ?_ ?_) ?_
  · exact congrArg₂ (· * ·) (gateCol_apply 0 _ g c d) (H.first c d)
  · exact congrArg₂ (· * ·) (gateCol_apply 1 _ g c d) (H.second c d)
  · exact congrArg₂ (· * ·) (gateCol_apply 2 _ g c d) (H.third i hi c d)

end

end Cert.KernelIdeal.Exact

end
-- ==== Proof.AttnRefComp.lean ====
/-
  The reference attention at an index, first part: the heads of its arguments, the softmax over the compressed blocks with
  its average of values, and the blocks' scores.
-/
module

public import proofs.«01_k».proof.Proof.AttnSpec
public import proofs.«01_k».proof.Proof.Gen.ReferenceIdeal.Read

@[expose] public section

noncomputable section

open Idealize.ShloMosaic Idealize.ShloMosaic.TcCoe Idealize.SL.Sem Idealize.ShloMosaic.ValueIdx
open scoped BigOperators

namespace Cert.Attn

/-- Row `p` of head `h` of an array whose 1024 columns are sixteen heads of sixty-four. -/
def cell {R : ℕ} (x : (⟨2, ![R, 1024]⟩ : Shape).Idx → EReal) (h p : ℕ) (d : Fin 64) : EReal :=
  if hh : h < 16 ∧ p < R then x (ix2 ⟨p, hh.2⟩ ⟨64 * h + d.val, by have := d.isLt; omega⟩) else 0

theorem cell_eq {R : ℕ} (x : (⟨2, ![R, 1024]⟩ : Shape).Idx → EReal) (h p : ℕ) (d : Fin 64) (hh : h < 16) (hp : p < R)
    (j : (⟨2, ![R, 1024]⟩ : Shape).Idx) (h0 : (j 0).val = p) (h1 : (j 1).val = 64 * h + d.val) : x j = cell x h p d := by
  unfold cell
  rw [dif_pos ⟨hh, hp⟩]
  congr 1
  funext a
  apply Fin.ext
  match a with
  | ⟨0, _⟩ => exact h0
  | ⟨1, _⟩ => exact h1

theorem minus_inf : Ideal.ofBits .f32 0xFF800000#32 = ⊥ := by simp [Ideal.ofBits, Ideal.ieee]
theorem zero_bits : Ideal.ofBits .f32 0x00000000#32 = 0 := by simp [Ideal.ofBits, Ideal.ieee]
theorem eighth_bits : Ideal.ofBits .f32 0x3E000000#32 = ((1 / 8 : ℝ) : EReal) := by
  simp [Ideal.ofBits, Ideal.ieee]
  rw [← EReal.coe_mul]
  norm_num
theorem sixteen_bits : Ideal.ofBits .f32 0x41800000#32 = ((16 : ℝ) : EReal) := by
  simp [Ideal.ofBits, Ideal.ieee]
  rw [← EReal.coe_mul]
  norm_num

/-- A softmax as the reference writes it: the row's maximum once more against minus infinity, the sum from zero. -/
theorem row_softmax {n : ℕ} [NeZero n] {l : Fin n → EReal} {e : Fin n → ℝ} (h : Weighs l e) (hp : ∃ i, e i ≠ 0) (M z : EReal)
    (hM : M = max ⊥ (Finset.univ.fold max ⊥ l)) (hz : z = 0) (i : Fin n) :
    Ideal.div (Ideal.exp (l i - M)) (z + ∑ j, Ideal.exp (l j - M)) = ((e i / ∑ j, e j : ℝ) : EReal) := by
  rw [max_eq_right bot_le] at hM
  subst hM hz
  rw [zero_add]
  exact softmax_eq h hp i

end Cert.Attn

namespace Cert.ReferenceIdeal.Exact

open Cert.ReferenceIdeal Cert.ReferenceIdeal.Gen Cert.ReferenceIdeal.Read Cert.Attn

abbrev A2048 : Type := (⟨S2048x1024, .f32⟩ : BufTy).Contents (Elt Ideal)
abbrev A256 : Type := (⟨S256x1024, .f32⟩ : BufTy).Contents (Elt Ideal)

/-! ## The heads -/

theorem q_at (x : A2048) (i : S1x16x2048x64.Idx) : val_main_v1 (F := Ideal) x i = cell (R := 2048) x (i 1).val (i 2).val (i 3) := by
  rw [val_main_v1_apply, val_main_v0_apply]
  have h0 : (i 0).val < 1 := (i 0).isLt
  have h1 : (i 1).val < 16 := (i 1).isLt
  have h2 : (i 2).val < 2048 := (i 2).isLt
  have h3 : (i 3).val < 64 := (i 3).isLt
  refine cell_eq (R := 2048) x _ _ (i 3) h1 h2 _ ?_ ?_
  · show ((((i 0).val * 2048 + (i 2).val) * 16 + (i 1).val) * 64 + (i 3).val) / 1024 = _; omega
  · show ((((i 0).val * 2048 + (i 2).val) * 16 + (i 1).val) * 64 + (i 3).val) % 1024 = _; omega

theorem k_at (x : A2048) (i : S1x16x2048x64.Idx) : val_main_v3 (F := Ideal) x i = cell (R := 2048) x (i 1).val (i 2).val (i 3) := by
  rw [val_main_v3_apply, val_main_v2_apply]
  have h0 : (i 0).val < 1 := (i 0).isLt
  have h1 : (i 1).val < 16 := (i 1).isLt
  have h2 : (i 2).val < 2048 := (i 2).isLt
  have h3 : (i 3).val < 64 := (i 3).isLt
  refine cell_eq (R := 2048) x _ _ (i 3) h1 h2 _ ?_ ?_
  · show ((((i 0).val * 2048 + (i 2).val) * 16 + (i 1).val) * 64 + (i 3).val) / 1024 = _; omega
  · show ((((i 0).val * 2048 + (i 2).val) * 16 + (i 1).val) * 64 + (i 3).val) % 1024 = _; omega

theorem v_at (x : A2048) (i : S1x16x2048x64.Idx) : val_main_v5 (F := Ideal) x i = cell (R := 2048) x (i 1).val (i 2).val (i 3) := by
  rw [val_main_v5_apply, val_main_v4_apply]
  have h0 : (i 0).val < 1 := (i 0).isLt
  have h1 : (i 1).val < 16 := (i 1).isLt
  have h2 : (i 2).val < 2048 := (i 2).isLt
  have h3 : (i 3).val < 64 := (i 3).isLt
  refine cell_eq (R := 2048) x _ _ (i 3) h1 h2 _ ?_ ?_
  · show ((((i 0).val * 2048 + (i 2).val) * 16 + (i 1).val) * 64 + (i 3).val) / 1024 = _; omega
  · show ((((i 0).val * 2048 + (i 2).val) * 16 + (i 1).val) * 64 + (i 3).val) % 1024 = _; omega

theorem kc_at (x : A256) (i : S1x16x128x64.Idx) : val_main_v8 (F := Ideal) x i = cell (R := 256) x (i 1).val (i 2).val (i 3) := by
  rw [val_main_v8_apply, val_main_v7_apply, val_main_v6_apply]
  have h0 : (i 0).val < 1 := (i 0).isLt
  have h1 : (i 1).val < 16 := (i 1).isLt
  have h2 : (i 2).val < 128 := (i 2).isLt
  have h3 : (i 3).val < 64 := (i 3).isLt
  refine cell_eq (R := 256) x _ _ (i 3) h1 (by omega) _ ?_ ?_
  · show ((((i 0).val * 128 + (i 2).val) * 16 + (i 1).val) * 64 + (i 3).val) / 1024 = _; omega
  · show ((((i 0).val * 128 + (i 2).val) * 16 + (i 1).val) * 64 + (i 3).val) % 1024 = _; omega

theorem vc_at (x : A256) (i : S1x16x128x64.Idx) : val_main_v11 (F := Ideal) x i = cell (R := 256) x (i 1).val (128 + (i 2).val) (i 3) := by
  rw [val_main_v11_apply, val_main_v10_apply, val_main_v9_apply]
  have h0 : (i 0).val < 1 := (i 0).isLt
  have h1 : (i 1).val < 16 := (i 1).isLt
  have h2 : (i 2).val < 128 := (i 2).isLt
  have h3 : (i 3).val < 64 := (i 3).isLt
  refine cell_eq (R := 256) x _ _ (i 3) h1 (by omega) _ ?_ ?_
  · show 128 + ((((i 0).val * 128 + (i 2).val) * 16 + (i 1).val) * 64 + (i 3).val) / 1024 = _; omega
  · show ((((i 0).val * 128 + (i 2).val) * 16 + (i 1).val) * 64 + (i 3).val) % 1024 = _; omega

/-! ## The compressed blocks -/

/-- The queries, keys and compressed keys of every head are real numbers. -/
structure Reals (x0 x1 : A2048) (x3 : A256) : Prop where
  q : ∀ h s, IsReal (cell (R := 2048) x0 h s)
  k : ∀ h p, IsReal (cell (R := 2048) x1 h p)
  kc : ∀ h b, b < 128 → IsReal (cell (R := 256) x3 h b)

variable {x0 x1 : A2048} {x3 : A256}

theorem logits_at (H : Reals x0 x1 x3) (i : S1x16x2048x128.Idx) :
    val_main_v14 (F := Ideal) x0 x3 i
      = ((logit (cell (R := 2048) x0 (i 1).val (i 2).val) (cell (R := 256) x3 (i 1).val (i 3).val) : ℝ) : EReal) := by
  rw [val_main_v14_apply, val_main_v12_apply]
  refine Eq.trans ?_ (dot_scaled (H.q (i 1).val (i 2).val) (H.kc (i 1).val (i 3).val (i 3).isLt) _ eighth_bits)
  refine congrArg₂ (fun a b : EReal => a * b) (Finset.sum_congr rfl fun k _ => ?_) ?_
  · exact congrArg₂ (fun a b : EReal => a * b) (q_at x0 _) (kc_at x3 _)
  · rw [val_main_v13_apply]; rfl

/-- The row of an index. -/
abbrev row4 (i : S1x16x2048x128.Idx) : S1x16x2048.Idx := idx_main_v23 (idx_main_v24 i)

theorem row4_idx (j : S1x16x2048.Idx) (k : Fin 128) : row4 (idx_main_v22 j k) = j := by
  funext a; apply Fin.ext
  match a with
  | ⟨0, _⟩ => have h : (j 0).val < 1 := (j 0).isLt; show 0 = (j 0).val; omega
  | ⟨1, _⟩ => rfl
  | ⟨2, _⟩ => rfl

theorem idx_row4 (i : S1x16x2048x128.Idx) : idx_main_v22 (row4 i) (i 3) = i := by
  funext a; apply Fin.ext
  match a with
  | ⟨0, _⟩ => have h : (i 0).val < 1 := (i 0).isLt; show 0 = (i 0).val; omega
  | ⟨1, _⟩ => rfl
  | ⟨2, _⟩ => rfl
  | ⟨3, _⟩ => rfl

theorem reduces4 : S1x16x2048x128.Reduces [3] S1x16x2048 := by decide

theorem max4 (x0 : A2048) (x3 : A256) (j : S1x16x2048.Idx) :
    val_main_v17 (F := Ideal) x0 x3 j = max ⊥ (Finset.univ.fold max ⊥ (fun k => val_main_v14 (F := Ideal) x0 x3 (idx_main_v22 j k))) := by
  rw [val_main_v17_apply, val_main_v16_apply]
  refine congrArg₂ (fun a b : EReal => max a b) minus_inf ?_
  unfold val_main_v15
  generalize val_main_v14 (F := Ideal) x0 x3 = y
  refine (Host.reduce_eq_fold_single (FloatOps.maximumf (F := Ideal) (φ := .f32)) y _ reducesTo_S1x16x2048x128_S1x16x2048_d3 reduces4 h_S_ j).trans ?_
  refine congrArg₂ (fun (a : EReal) (f : Fin 128 → EReal) => Finset.univ.fold max a f) minus_inf (funext fun k => ?_)
  refine congrArg y (funext fun a => Fin.ext ?_)
  match a with
  | ⟨0, _⟩ => rfl
  | ⟨1, _⟩ => rfl
  | ⟨2, _⟩ => rfl
  | ⟨3, _⟩ => rfl

theorem exp4 (x0 : A2048) (x3 : A256) (j : S1x16x2048.Idx) (k : Fin 128) :
    val_main_v21 (F := Ideal) x0 x3 (idx_main_v22 j k)
      = Ideal.exp (val_main_v14 (F := Ideal) x0 x3 (idx_main_v22 j k) - val_main_v17 (F := Ideal) x0 x3 j) := by
  rw [val_main_v21_apply, val_main_v20_apply, val_main_v19_apply, val_main_v18_apply]
  have e : idx_main_v18 (idx_main_v19 (idx_main_v22 j k)) = j := row4_idx j k
  rw [e]
  rfl

theorem softmax4 (x0 : A2048) (x3 : A256) (j : S1x16x2048.Idx) {e : Fin 128 → ℝ}
    (h : Weighs (fun k => val_main_v14 (F := Ideal) x0 x3 (idx_main_v22 j k)) e) (hp : ∃ i, e i ≠ 0) (k : Fin 128) :
    val_main_v25 (F := Ideal) x0 x3 (idx_main_v22 j k) = ((e k / ∑ j, e j : ℝ) : EReal) := by
  have er : idx_main_v23 (idx_main_v24 (idx_main_v22 j k)) = j := row4_idx j k
  rw [val_main_v25_apply, val_main_v24_apply, val_main_v23_apply, er, val_main_v22_apply]
  simp only [exp4]
  exact row_softmax h hp _ _ (max4 x0 x3 j) zero_bits k

theorem comp_at (H : Reals x0 x1 x3) (i : S1x16x2048x128.Idx) :
    val_main_v25 (F := Ideal) x0 x3 i
      = ((compWeight (cell (R := 2048) x0 (i 1).val) (cell (R := 256) x3 (i 1).val) (i 2).val (i 3)
          / ∑ b, compWeight (cell (R := 2048) x0 (i 1).val) (cell (R := 256) x3 (i 1).val) (i 2).val b : ℝ) : EReal) := by
  have h : Weighs (fun k => val_main_v14 (F := Ideal) x0 x3 (idx_main_v22 (row4 i) k))
      (compWeight (cell (R := 2048) x0 (i 1).val) (cell (R := 256) x3 (i 1).val) (i 2).val) :=
    fun k => .inr ⟨_, logits_at H _, rfl⟩
  have := softmax4 x0 x3 (row4 i) h ⟨0, (weight_pos _ _).ne'⟩ (i 3)
  rwa [idx_row4] at this

theorem compOut_at (H : Reals x0 x1 x3) (i : S1x16x2048x64.Idx) :
    val_main_v26 (F := Ideal) x0 x3 i
      = avg (compWeight (cell (R := 2048) x0 (i 1).val) (cell (R := 256) x3 (i 1).val) (i 2).val)
          (fun b => cell (R := 256) x3 (i 1).val (128 + b.val) (i 3)) := by
  rw [val_main_v26_apply]
  refine Finset.sum_congr rfl fun k _ => ?_
  exact congrArg₂ (fun a b : EReal => a * b) (comp_at H _) (vc_at x3 _)

theorem score_at (H : Reals x0 x1 x3) (i : S1x16x128x128.Idx) :
    val_main_v30 (F := Ideal) x0 x3 i
      = score (cell (R := 2048) x0 (i 1).val) (cell (R := 256) x3 (i 1).val) (i 2).val (i 3) := by
  rw [val_main_v30_apply, val_main_v28_apply, val_main_v29_apply]
  have h0 : (i 0).val < 1 := (i 0).isLt
  have h1 : (i 1).val < 16 := (i 1).isLt
  have h2 : (i 2).val < 128 := (i 2).isLt
  have h3 : (i 3).val < 128 := (i 3).isLt
  have e : ∀ t : Fin 16, val_main_v27 (F := Ideal) x0 x3 (idx_main_v28 i t)
      = ((compWeight (cell (R := 2048) x0 (i 1).val) (cell (R := 256) x3 (i 1).val) (16 * (i 2).val + t.val) (i 3)
          / ∑ b, compWeight (cell (R := 2048) x0 (i 1).val) (cell (R := 256) x3 (i 1).val) (16 * (i 2).val + t.val) b : ℝ) : EReal) := by
    intro t
    have ht := t.isLt
    rw [val_main_v27_apply, comp_at H]
    have e1 : (idx_main_v27 (idx_main_v28 i t) 1).val = (i 1).val := by
      show (((((i 0).val * 16 + (i 1).val) * 128 + (i 2).val) * 16 + t.val) * 128 + (i 3).val) / 262144 % 16 = _; omega
    have e2 : (idx_main_v27 (idx_main_v28 i t) 2).val = 16 * (i 2).val + t.val := by
      show (((((i 0).val * 16 + (i 1).val) * 128 + (i 2).val) * 16 + t.val) * 128 + (i 3).val) / 128 % 2048 = _; omega
    have e3 : idx_main_v27 (idx_main_v28 i t) 3 = i 3 := by
      apply Fin.ext
      show (((((i 0).val * 16 + (i 1).val) * 128 + (i 2).val) * 16 + t.val) * 128 + (i 3).val) % 128 = _; omega
    rw [e1, e2, e3]
  simp only [e]
  unfold score
  rw [← div_coe _ _ (by norm_num : (16 : ℝ) ≠ 0)]
  refine congrArg₂ (fun a b : EReal => Ideal.div a b) ?_ sixteen_bits
  rw [sum_coe, val_main_cst_3_apply]
  refine (congrArg (fun a : EReal => a + _) zero_bits).trans ?_
  exact zero_add _

end Cert.ReferenceIdeal.Exact

end
-- ==== Proof.AttnSort.lean ====
/-
  The sixteen positions a stable sort by descending score puts first are the sixteen best.
-/
module

public import proofs.«01_k».proof.Proof.AttnMath
public import Idealize.ShloMosaic.Lib.SortFacts

@[expose] public section

noncomputable section

namespace Cert.Attn

open Idealize.ShloMosaic

/-- "Sorts before", by descending score. -/
def higher (s : Fin 128 → EReal) (a b : Fin 128) : Bool := decide (s b < s a)

theorem before_trans {s : Fin 128 → EReal} {a b c : Fin 128} (h : before s a b) (h' : before s b c) : before s a c := by
  rcases h with h | ⟨h1, h2⟩ <;> rcases h' with h' | ⟨h3, h4⟩
  · exact .inl (lt_trans h' h)
  · exact .inl (by rw [← h3]; exact h)
  · exact .inl (by rw [h1]; exact h')
  · exact .inr ⟨h1.trans h3, lt_trans h2 h4⟩

/-- Inserting a position that stands before every listed one keeps a list in order. -/
theorem pairwise_insert (s : Fin 128 → EReal) (a : Fin 128) (l : List (Fin 128)) (ha : ∀ b ∈ l, a < b) (hl : l.Pairwise (before s)) :
    (insertBefore (higher s) a l).Pairwise (before s) := by
  induction l with
  | nil => simp [insertBefore]
  | cons b l ih =>
    obtain ⟨hb, hl'⟩ := List.pairwise_cons.mp hl
    unfold insertBefore
    by_cases h : s a < s b
    · rw [if_pos (by unfold higher; exact decide_eq_true h)]
      refine List.pairwise_cons.mpr ⟨fun x hx => ?_, ih (fun x hx => ha x (List.mem_cons_of_mem _ hx)) hl'⟩
      rcases List.mem_cons.mp ((perm_insertBefore _ a l).mem_iff.mp hx) with rfl | hx'
      · exact .inl h
      · exact hb x hx'
    · rw [if_neg (by unfold higher; simpa using h)]
      have hab : before s a b := by
        rcases lt_or_eq_of_le (not_lt.mp h) with h1 | h1
        · exact .inl h1
        · exact .inr ⟨h1.symm, ha b List.mem_cons_self⟩
      refine List.pairwise_cons.mpr ⟨fun x hx => ?_, hl⟩
      rcases List.mem_cons.mp hx with rfl | hx'
      · exact hab
      · exact before_trans hab (hb x hx')

theorem pairwise_sort (s : Fin 128 → EReal) (l : List (Fin 128)) (hl : l.Pairwise (· < ·)) :
    (stableSort (higher s) l).Pairwise (before s) := by
  induction l with
  | nil => simp [stableSort]
  | cons a l ih =>
    obtain ⟨ha, hl'⟩ := List.pairwise_cons.mp hl
    unfold stableSort
    exact pairwise_insert s a _ (fun b hb => ha b ((perm_stableSort _ l).mem_iff.mp hb)) (ih hl')

theorem sorted_before (s : Fin 128 → EReal) (p q : Fin 128) (h : p < q) :
    before s (sortedFrom (higher s) p) (sortedFrom (higher s) q) := by
  have hp : ∀ a b : Fin (sortPositions 128 (higher s)).length, a < b →
      before s ((sortPositions 128 (higher s)).get a) ((sortPositions 128 (higher s)).get b) :=
    List.pairwise_iff_get.mp (pairwise_sort s (List.finRange 128) (List.pairwise_lt_finRange 128))
  unfold sortedFrom
  exact hp _ _ (by simp only [Fin.lt_def, Fin.val_cast]; exact h)

/-- The position the sort puts at place `t`. -/
def topPos (s : Fin 128 → EReal) (t : Fin 16) : Fin 128 := sortedFrom (higher s) ⟨t.val, by omega⟩

theorem topPos_injective (s : Fin 128 → EReal) : Function.Injective (topPos s) := by
  intro a b h
  have := Fin.mk.inj_iff.mp (sortedFrom_injective (higher s) h)
  exact Fin.ext this

theorem best_iff (s : Fin 128 → EReal) (b : Fin 128) : best s b ↔ ∃ t, topPos s t = b := by
  classical
  rw [← mem_iff_best s (Finset.univ.image (topPos s))]
  · simp
  · rw [Finset.card_image_of_injective _ (topPos_injective s)]; rfl
  · intro a ha b hb
    obtain ⟨t, -, rfl⟩ := Finset.mem_image.mp ha
    obtain ⟨q, rfl⟩ := sortedFrom_surjective (higher s) b
    refine sorted_before s _ q ?_
    by_contra hq
    refine hb (Finset.mem_image.mpr ⟨⟨q.val, ?_⟩, Finset.mem_univ _, rfl⟩)
    have : q.val ≤ t.val := by simpa [Fin.lt_def] using hq
    omega

end Cert.Attn

end
-- ==== Proof.AttnRefTake.lean ====
/-
  The reference attention at an index, second part: the sixteen blocks of largest score and the keys and values taken
  from them.
-/
module

public import proofs.«01_k».proof.Proof.AttnRefComp
public import proofs.«01_k».proof.Proof.AttnSort
public import Idealize.ShloMosaic.Lib.ValueIdxRank6

@[expose] public section

noncomputable section

open Idealize.ShloMosaic Idealize.ShloMosaic.TcCoe Idealize.SL.Sem Idealize.ShloMosaic.ValueIdx
open scoped BigOperators

namespace Cert.ReferenceIdeal.Exact

open Cert.ReferenceIdeal Cert.ReferenceIdeal.Gen Cert.ReferenceIdeal.Read Cert.Attn

variable {x0 x1 : A2048} {x3 : A256}

/-- The place of the `t`-th best block for the queries of block `n` of head `h`. -/
def chosen (x0 : A2048) (x3 : A256) (h n : ℕ) (t : Fin 16) : Fin 128 :=
  topPos (score (cell (R := 2048) x0 h) (cell (R := 256) x3 h) n) t

/-- The places of the greatest of each row, by the sort that finds them. -/
theorem topK_places {s t : Shape} {α : Type} (d : Nat) (hd : d < s.rank) (gt : α → α → BitVec 1) (x : s.Idx → α) (h : s.Slices (fun _ => 0) t) :
    (Host.topK t d gt x h).2 = extractStridedSlice t (fun _ => 0) (fun j : s.Idx => BitVec.ofNat 32
      (sortedFrom (fun a b => gt (x (j.along ⟨d, hd⟩ a)) (x (j.along ⟨d, hd⟩ b)) == 1#1) (j ⟨d, hd⟩)).val) h := by
  unfold Host.topK Host.sort2
  simp only [dif_pos hd]
  refine congrArg (fun z => extractStridedSlice t (fun _ => 0) z h) (funext fun j => ?_)
  unfold iotaInDim Shape.Idx.along
  simp only [Function.update_self]

abbrev wideIdx (i : S1x16x128x16.Idx) : S1x16x128x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, by have h : (i 3).val < 16 := (i 3).isLt; show (i 3).val < 128; omega⟩

theorem indices_at (H : Reals x0 x1 x3) (i : S1x16x128x16.Idx) :
    val_main_indices (F := Ideal) x0 x3 i = BitVec.ofNat 32 (chosen x0 x3 (i 1).val (i 2).val (i 3)).val := by
  unfold val_main_indices
  have hs := score_at H
  generalize val_main_v30 (F := Ideal) x0 x3 = y at hs
  unfold chosen topPos
  generalize hz : score (cell (R := 2048) x0 (i 1).val) (cell (R := 256) x3 (i 1).val) (i 2).val = z
  rw [topK_places 3 (by decide)]
  refine (extractStridedSlice_apply _ _ _ i (wideIdx i) (fun a => match a with
    | ⟨0, _⟩ => (Nat.zero_add _).symm
    | ⟨1, _⟩ => (Nat.zero_add _).symm
    | ⟨2, _⟩ => (Nat.zero_add _).symm
    | ⟨3, _⟩ => (Nat.zero_add _).symm)).trans ?_
  have hy : ∀ b : Fin 128, y ((wideIdx i).along (3 : Fin 4) b) = z b := by
    intro b
    rw [hs]
    have e1 : ((wideIdx i).along (3 : Fin 4) b) (1 : Fin 4) = wideIdx i (1 : Fin 4) := Function.update_of_ne (by decide) _ _
    have e2 : ((wideIdx i).along (3 : Fin 4) b) (2 : Fin 4) = wideIdx i (2 : Fin 4) := Function.update_of_ne (by decide) _ _
    have e3 : ((wideIdx i).along (3 : Fin 4) b) (3 : Fin 4) = b := Function.update_self _ _ _
    rw [e1, e2, e3, ← hz]
  have hr : (fun a b : Fin 128 => FloatOps.cmpfTotal (F := Ideal) (φ := .f32) .gt (y ((wideIdx i).along (3 : Fin 4) a)) (y ((wideIdx i).along (3 : Fin 4) b)) == 1#1)
      = higher z := by
    funext a b
    rw [hy a, hy b]
    unfold higher
    show (Ideal.cmp .ogt (z a) (z b) == 1#1) = _
    unfold Ideal.cmp
    by_cases hlt : z b < z a <;> simp [hlt]
  exact congrArg (fun r : Fin 128 → Fin 128 → Bool => BitVec.ofNat 32 (sortedFrom r (wideIdx i (3 : Fin 4))).val) hr

/-- A position below 128 as the bounds of a take read it. -/
theorem take_bits : ∀ p : Fin 128, IntOp.cmpi .slt (BitVec.ofNat 32 p.val) 0#32 = 0#1 ∧ IntOp.cmpi .sge (BitVec.ofNat 32 p.val) 0#32 = 1#1
    ∧ IntOp.cmpi .sle (BitVec.ofNat 32 p.val) 127#32 = 1#1 ∧ (BitVec.ofNat 32 p.val).toInt.toNat = p.val := by decide +kernel

theorem spread_at (H : Reals x0 x1 x3) (i : S1x16x128x16x16x64.Idx) :
    val_main_call0_v4 (F := Ideal) x0 x3 i = BitVec.ofNat 32 (chosen x0 x3 (i 1).val (i 2).val (i 3)).val := by
  have e : val_main_v34 (F := Ideal) x0 x3 i = BitVec.ofNat 32 (chosen x0 x3 (i 1).val (i 2).val (i 3)).val := by
    rw [val_main_v34_apply, val_main_v33_apply]
    exact indices_at H _
  rw [val_main_call0_v4_apply, val_main_call0_v1_apply, e, val_main_call0_v0_apply, val_main_call0_c_apply, (take_bits _).1]
  rfl

/-- The starts' index that lists a position's six coordinates. -/
abbrev startIdx (i : S1x16x128x16x16x64.Idx) : S16x128x16x16x64x1.Idx := fun a => match a with
  | ⟨0, _⟩ => ⟨(i 1).val, (i 1).isLt⟩
  | ⟨1, _⟩ => ⟨(i 2).val, (i 2).isLt⟩
  | ⟨2, _⟩ => ⟨(i 3).val, (i 3).isLt⟩
  | ⟨3, _⟩ => ⟨(i 4).val, (i 4).isLt⟩
  | ⟨4, _⟩ => ⟨(i 5).val, (i 5).isLt⟩
  | ⟨5, _⟩ => ⟨0, Nat.one_pos⟩

abbrev unstart (j : S16x128x16x16x64x1.Idx) : S1x16x128x16x16x64.Idx := fun a => match a with
  | ⟨0, _⟩ => ⟨0, Nat.one_pos⟩
  | ⟨1, _⟩ => ⟨(j 0).val, (j 0).isLt⟩
  | ⟨2, _⟩ => ⟨(j 1).val, (j 1).isLt⟩
  | ⟨3, _⟩ => ⟨(j 2).val, (j 2).isLt⟩
  | ⟨4, _⟩ => ⟨(j 3).val, (j 3).isLt⟩
  | ⟨5, _⟩ => ⟨(j 4).val, (j 4).isLt⟩

theorem starts_at (H : Reals x0 x1 x3) (j : S16x128x16x16x64x1.Idx) :
    val_main_call0_v5 (F := Ideal) x0 x3 j = BitVec.ofNat 32 (chosen x0 x3 (j 0).val (j 1).val (j 2)).val := by
  unfold val_main_call0_v5
  have hs := spread_at H
  generalize val_main_call0_v4 (F := Ideal) x0 x3 = y at hs
  refine (shapeCast_apply y shapeCasts_S1x16x128x16x16x64_S16x128x16x16x64x1 j (unstart j) ?_).trans (hs _)
  rw [Shape.rowMajor_val_six, Shape.rowMajor_val_six]
  have h5 : (j 5).val < 1 := (j 5).isLt
  show (((((0 * 16 + (j 0).val) * 128 + (j 1).val) * 16 + (j 2).val) * 16 + (j 3).val) * 64 + (j 4).val)
    = (((((j 0).val * 128 + (j 1).val) * 16 + (j 2).val) * 16 + (j 3).val) * 64 + (j 4).val) * 1 + (j 5).val
  omega

theorem reduces6 : S16x128x16x16x64x1.Reduces [5] S16x128x16x16x64 := by decide

/-- Every start is in range. -/
theorem inRange_at (H : Reals x0 x1 x3) (i : S1x16x128x16x16x64.Idx) : val_main_call0_v15 (F := Ideal) x0 x3 i = 1#1 := by
  rw [val_main_call0_v15_apply]
  have h12 : ∀ j, val_main_call0_v12 (F := Ideal) x0 x3 j = 1#1 := by
    intro j
    rw [val_main_call0_v12_apply, val_main_call0_v8_apply, val_main_call0_v11_apply, starts_at H, val_main_call0_v7_apply, val_main_call0_c_2_apply,
      val_main_call0_v10_apply, val_main_call0_v9_apply, val_main_call0_c_1_apply, (take_bits _).2.1, (take_bits _).2.2.1]
    rfl
  unfold val_main_call0_v13
  have e : val_main_call0_v12 (F := Ideal) x0 x3 = fun _ => 1#1 := funext h12
  rw [e]
  refine (Host.reduce_eq_fold_single IntOp.andi (fun _ => 1#1) _ reducesTo_S16x128x16x16x64x1_S16x128x16x16x64_d5 reduces6 h_S_ _).trans ?_
  show Finset.fold IntOp.andi 1#1 (fun _ : Fin 1 => 1#1) Finset.univ = 1#1
  decide

/-- The block's row a result of the take reads. -/
abbrev takenIdx (i : S1x16x128x16x16x64.Idx) (p : Fin 128) : S1x16x128x16x64.Idx := fun a => match a with
  | ⟨0, _⟩ => ⟨(i 0).val, (i 0).isLt⟩
  | ⟨1, _⟩ => ⟨(i 1).val, (i 1).isLt⟩
  | ⟨2, _⟩ => ⟨p.val, p.isLt⟩
  | ⟨3, _⟩ => ⟨(i 4).val, (i 4).isLt⟩
  | ⟨4, _⟩ => ⟨(i 5).val, (i 5).isLt⟩

/-- The take's gather reads the row its start names. -/
theorem gather_at (y : S1x16x128x16x64.Idx → EReal) (z : IVec S16x128x16x16x64x1 32) (i : S1x16x128x16x16x64.Idx) (p : Fin 128)
    (hz : z (startIdx i) = BitVec.ofNat 32 p.val) :
    Host.gather gather_S1x16x128x16x64_S16x128x16x16x64x1_S1x16x128x16x16x64_0_2_134_034_2_5_11111 y z i = y (takenIdx i p) := by
  unfold Host.gather
  congr 1
  funext a
  refine Fin.ext ?_
  generalize hd : gather_S1x16x128x16x64_S16x128x16x16x64x1_S1x16x128x16x16x64_0_2_134_034_2_5_11111 = d
  have e1 : d.operandBatchingDims = [1, 3, 4] := by rw [← hd]; rfl
  have e2 : d.collapsedSliceDims = [2] := by rw [← hd]; rfl
  show d.start i z a + d.batchCoord i a + d.offCoord i a = _
  have ha : a = (0 : Fin 5) ∨ a = (1 : Fin 5) ∨ a = (2 : Fin 5) ∨ a = (3 : Fin 5) ∨ a = (4 : Fin 5) := by
    match a with
    | ⟨0, _⟩ => exact .inl rfl
    | ⟨1, _⟩ => exact .inr (.inl rfl)
    | ⟨2, _⟩ => exact .inr (.inr (.inl rfl))
    | ⟨3, _⟩ => exact .inr (.inr (.inr (.inl rfl)))
    | ⟨4, _⟩ => exact .inr (.inr (.inr (.inr rfl)))
  rcases ha with rfl | rfl | rfl | rfl | rfl
  · rw [GatherDims.batchCoord_eq_zero _ _ _ (fun h => by rw [e1] at h; revert h; decide)]
    have : d.start i z (0 : Fin 5) = 0 := by
      have := d.start_le i z (0 : Fin 5)
      have e3 : d.sliceSizes = ![1, 1, 1, 1, 1] := by rw [← hd]; rfl
      rw [e3] at this
      exact Nat.le_zero.mp this
    rw [this, ← hd]
    simp only [Nat.zero_add]
    rfl
  · rw [GatherDims.start_batching _ _ _ _ (by rw [e1]; decide),
      GatherDims.offCoord_eq_zero _ _ _ (fun h => ((GatherDims.mem_sKept _ _).mp h).2 (by rw [e1]; decide))]
    simp only [Nat.zero_add, Nat.add_zero]
    subst hd
    rfl
  · rw [GatherDims.batchCoord_eq_zero _ _ _ (fun h => by rw [e1] at h; revert h; decide),
      GatherDims.offCoord_eq_zero _ _ _ (fun h => ((GatherDims.mem_sKept _ _).mp h).1 (by rw [e2]; decide))]
    simp only [Nat.add_zero]
    subst hd
    unfold GatherDims.start
    rw [dif_pos (show (2 : Fin 5) ∈ gather_S1x16x128x16x64_S16x128x16x16x64x1_S1x16x128x16x16x64_0_2_134_034_2_5_11111.startIndexMap from List.mem_singleton.mpr rfl)]
    have hsi : gather_S1x16x128x16x64_S16x128x16x16x64x1_S1x16x128x16x16x64_0_2_134_034_2_5_11111.siIdx i
        ⟨List.idxOf (2 : Fin 5) gather_S1x16x128x16x64_S16x128x16x16x64x1_S1x16x128x16x16x64_0_2_134_034_2_5_11111.startIndexMap,
          List.idxOf_lt_length_iff.2 (List.mem_singleton.mpr rfl)⟩ = startIdx i := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi, hz, (take_bits p).2.2.2]
    have := p.isLt
    show min p.val (128 - 1) = p.val
    omega
  · rw [GatherDims.start_batching _ _ _ _ (by rw [e1]; decide),
      GatherDims.offCoord_eq_zero _ _ _ (fun h => ((GatherDims.mem_sKept _ _).mp h).2 (by rw [e1]; decide))]
    simp only [Nat.zero_add, Nat.add_zero]
    subst hd
    rfl
  · rw [GatherDims.start_batching _ _ _ _ (by rw [e1]; decide),
      GatherDims.offCoord_eq_zero _ _ _ (fun h => ((GatherDims.mem_sKept _ _).mp h).2 (by rw [e1]; decide))]
    simp only [Nat.zero_add, Nat.add_zero]
    subst hd
    rfl

abbrev unitIdx (i : S1x16x128x16x64.Idx) : S1x16x1x128x16x64.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨(i 2).val, (i 2).isLt⟩
  | ⟨4, _⟩ => ⟨(i 3).val, (i 3).isLt⟩
  | ⟨5, _⟩ => ⟨(i 4).val, (i 4).isLt⟩

/-- A block's rows, as the take sees them. -/
theorem blocks_at (x1 : A2048) (i : S1x16x128x16x64.Idx) :
    val_main_call0_v6 (F := Ideal) x1 i = cell (R := 2048) x1 (i 1).val (16 * (i 2).val + (i 3).val) (i 4) := by
  have h0 : (i 0).val < 1 := (i 0).isLt
  have h1 : (i 1).val < 16 := (i 1).isLt
  have h2 : (i 2).val < 128 := (i 2).isLt
  have h3 : (i 3).val < 16 := (i 3).isLt
  have h4 : (i 4).val < 64 := (i 4).isLt
  unfold val_main_call0_v6
  refine (shapeCast_apply (val_main_v35 (F := Ideal) x1) shapeCasts_S1x16x1x128x16x64_S1x16x128x16x64 i (unitIdx i) ?_).trans ?_
  · rw [Shape.rowMajor_val_six, Shape.rowMajor_val_five]
    show (((((0 * 16 + (i 1).val) * 1 + 0) * 128 + (i 2).val) * 16 + (i 3).val) * 64 + (i 4).val)
      = (((((i 0).val * 16 + (i 1).val) * 128 + (i 2).val) * 16 + (i 3).val) * 64 + (i 4).val)
    omega
  · rw [val_main_v35_apply, val_main_v31_apply, k_at]
    have e1 : (idx_main_v31 (idx_main_v35 (unitIdx i)) 1).val = (i 1).val := by
      show ((((0 * 16 + (i 1).val) * 128 + (i 2).val) * 16 + (i 3).val) * 64 + (i 4).val) / 131072 % 16 = _; omega
    have e2 : (idx_main_v31 (idx_main_v35 (unitIdx i)) 2).val = 16 * (i 2).val + (i 3).val := by
      show ((((0 * 16 + (i 1).val) * 128 + (i 2).val) * 16 + (i 3).val) * 64 + (i 4).val) / 64 % 2048 = _; omega
    have e3 : idx_main_v31 (idx_main_v35 (unitIdx i)) 3 = i 4 := by
      apply Fin.ext
      show ((((0 * 16 + (i 1).val) * 128 + (i 2).val) * 16 + (i 3).val) * 64 + (i 4).val) % 64 = _; omega
    rw [e1, e2, e3]

theorem taken_at (H : Reals x0 x1 x3) (x : A2048) (i : S1x16x128x16x16x64.Idx) :
    val_main_v36 (F := Ideal) x0 x x3 i
      = cell (R := 2048) x (i 1).val (16 * (chosen x0 x3 (i 1).val (i 2).val (i 3)).val + (i 4).val) (i 5) := by
  rw [val_main_v36_apply, inRange_at H]
  have hz : val_main_call0_v5 (F := Ideal) x0 x3 (startIdx i) = BitVec.ofNat 32 (chosen x0 x3 (i 1).val (i 2).val (i 3)).val := starts_at H (startIdx i)
  generalize chosen x0 x3 (i 1).val (i 2).val (i 3) = p at hz
  have hg : val_main_call0_v14 (F := Ideal) x0 x x3 i = val_main_call0_v6 (F := Ideal) x (takenIdx i p) := gather_at _ _ i p hz
  rw [hg, blocks_at]
  rfl

/-- The 256 keys taken for a block of queries. -/
theorem selected_at (H : Reals x0 x1 x3) (x : A2048) (i : S1x16x128x256x64.Idx) :
    val_main_v37 (F := Ideal) x0 x x3 i
      = cell (R := 2048) x (i 1).val (16 * (chosen x0 x3 (i 1).val (i 2).val ⟨(i 3).val / 16, by have h : (i 3).val < 256 := (i 3).isLt; omega⟩).val
          + (i 3).val % 16) (i 4) := by
  have h0 : (i 0).val < 1 := (i 0).isLt
  have h3 : (i 3).val < 256 := (i 3).isLt
  unfold val_main_v37
  have hs := taken_at H x
  generalize val_main_v36 (F := Ideal) x0 x x3 = y at hs
  refine (shapeCast_apply y shapeCasts_S1x16x128x16x16x64_S1x16x128x256x64 i
    (fun a => match a with
      | ⟨0, _⟩ => ⟨0, Nat.one_pos⟩
      | ⟨1, _⟩ => ⟨(i 1).val, (i 1).isLt⟩
      | ⟨2, _⟩ => ⟨(i 2).val, (i 2).isLt⟩
      | ⟨3, _⟩ => ⟨(i 3).val / 16, by show (i 3).val / 16 < 16; omega⟩
      | ⟨4, _⟩ => ⟨(i 3).val % 16, by show (i 3).val % 16 < 16; omega⟩
      | ⟨5, _⟩ => ⟨(i 4).val, (i 4).isLt⟩) ?_).trans (hs _)
  rw [Shape.rowMajor_val_six, Shape.rowMajor_val_five]
  show (((((0 * 16 + (i 1).val) * 128 + (i 2).val) * 16 + (i 3).val / 16) * 16 + (i 3).val % 16) * 64 + (i 4).val)
    = ((((i 0).val * 16 + (i 1).val) * 128 + (i 2).val) * 256 + (i 3).val) * 64 + (i 4).val
  omega

/-- The values are taken as the keys are. -/
theorem values_as_keys (x0 x : A2048) (x3 : A256) : val_main_v40 (F := Ideal) x0 x x3 = val_main_v37 (F := Ideal) x0 x x3 := rfl

end Cert.ReferenceIdeal.Exact

end
-- ==== Proof.AttnRefSel.lean ====
/-
  The reference attention at an index, third part: the softmax over the 256 positions taken, and its average of values.
-/
module

public import proofs.«01_k».proof.Proof.AttnRefTake

@[expose] public section

noncomputable section

open Idealize.ShloMosaic Idealize.ShloMosaic.TcCoe Idealize.SL.Sem Idealize.ShloMosaic.ValueIdx
open scoped BigOperators

namespace Cert.ReferenceIdeal.Exact

open Cert.ReferenceIdeal Cert.ReferenceIdeal.Gen Cert.ReferenceIdeal.Read Cert.Attn

variable {x0 x1 : A2048} {x3 : A256}

theorem queries_at (x : A2048) (i : S1x16x128x16x64.Idx) :
    val_main_v41 (F := Ideal) x i = cell (R := 2048) x (i 1).val (16 * (i 2).val + (i 3).val) (i 4) := by
  have h0 : (i 0).val < 1 := (i 0).isLt
  have h1 : (i 1).val < 16 := (i 1).isLt
  have h2 : (i 2).val < 128 := (i 2).isLt
  have h3 : (i 3).val < 16 := (i 3).isLt
  have h4 : (i 4).val < 64 := (i 4).isLt
  rw [val_main_v41_apply, q_at]
  have e1 : (idx_main_v41 i 1).val = (i 1).val := by
    show (((((i 0).val * 16 + (i 1).val) * 128 + (i 2).val) * 16 + (i 3).val) * 64 + (i 4).val) / 131072 % 16 = _; omega
  have e2 : (idx_main_v41 i 2).val = 16 * (i 2).val + (i 3).val := by
    show (((((i 0).val * 16 + (i 1).val) * 128 + (i 2).val) * 16 + (i 3).val) * 64 + (i 4).val) / 64 % 2048 = _; omega
  have e3 : idx_main_v41 i 3 = i 4 := by
    apply Fin.ext
    show (((((i 0).val * 16 + (i 1).val) * 128 + (i 2).val) * 16 + (i 3).val) * 64 + (i 4).val) % 64 = _; omega
  rw [e1, e2, e3]

/-- The position the `t`-th of the 256 taken stands at. -/
def place (x0 : A2048) (x3 : A256) (h n : ℕ) (t : Fin 256) : ℕ := 16 * (chosen x0 x3 h n ⟨t.val / 16, by omega⟩).val + t.val % 16

theorem selLogits_at (H : Reals x0 x1 x3) (i : S1x16x128x16x256.Idx) :
    val_main_v44 (F := Ideal) x0 x1 x3 i
      = ((logit (cell (R := 2048) x0 (i 1).val (16 * (i 2).val + (i 3).val)) (cell (R := 2048) x1 (i 1).val (place x0 x3 (i 1).val (i 2).val (i 4))) : ℝ) : EReal) := by
  rw [val_main_v44_apply, val_main_v42_apply]
  refine Eq.trans ?_ (dot_scaled (H.q (i 1).val (16 * (i 2).val + (i 3).val)) (H.k (i 1).val (place x0 x3 (i 1).val (i 2).val (i 4))) _ eighth_bits)
  refine congrArg₂ (fun a b : EReal => a * b) (Finset.sum_congr rfl fun k _ => ?_) ?_
  · have e1 := queries_at x0 (lidx_main_v42 i k)
    have e2 := selected_at H x1 (ridx_main_v42 i k)
    exact congrArg₂ (fun a b : EReal => a * b) e1 e2
  · rw [val_main_v43_apply]; rfl

/-- The row of an index. -/
abbrev row256 (i : S1x16x128x16x256.Idx) : S1x16x128x16.Idx := idx_main_v53 (idx_main_v54 i)

theorem row256_idx (j : S1x16x128x16.Idx) (k : Fin 256) : row256 (idx_main_v52 j k) = j := by
  funext a; apply Fin.ext
  match a with
  | ⟨0, _⟩ => have h : (j 0).val < 1 := (j 0).isLt; show 0 = (j 0).val; omega
  | ⟨1, _⟩ => rfl
  | ⟨2, _⟩ => rfl
  | ⟨3, _⟩ => rfl

theorem idx_row256 (i : S1x16x128x16x256.Idx) : idx_main_v52 (row256 i) (i 4) = i := by
  funext a; apply Fin.ext
  match a with
  | ⟨0, _⟩ => have h : (i 0).val < 1 := (i 0).isLt; show 0 = (i 0).val; omega
  | ⟨1, _⟩ => rfl
  | ⟨2, _⟩ => rfl
  | ⟨3, _⟩ => rfl
  | ⟨4, _⟩ => rfl

theorem reduces256 : S1x16x128x16x256.Reduces [4] S1x16x128x16 := by decide

theorem max256 (x0 x1 : A2048) (x3 : A256) (j : S1x16x128x16.Idx) :
    val_main_v47 (F := Ideal) x0 x1 x3 j = max ⊥ (Finset.univ.fold max ⊥ (fun k => val_main_v44 (F := Ideal) x0 x1 x3 (idx_main_v52 j k))) := by
  rw [val_main_v47_apply, val_main_v46_apply]
  refine congrArg₂ (fun a b : EReal => max a b) minus_inf ?_
  unfold val_main_v45
  generalize val_main_v44 (F := Ideal) x0 x1 x3 = y
  refine (Host.reduce_eq_fold_single (FloatOps.maximumf (F := Ideal) (φ := .f32)) y _ reducesTo_S1x16x128x16x256_S1x16x128x16_d4 reduces256 h_S_ j).trans ?_
  refine congrArg₂ (fun (a : EReal) (f : Fin 256 → EReal) => Finset.univ.fold max a f) minus_inf (funext fun k => ?_)
  refine congrArg y (funext fun a => Fin.ext ?_)
  match a with
  | ⟨0, _⟩ => rfl
  | ⟨1, _⟩ => rfl
  | ⟨2, _⟩ => rfl
  | ⟨3, _⟩ => rfl
  | ⟨4, _⟩ => rfl

theorem exp256 (x0 x1 : A2048) (x3 : A256) (j : S1x16x128x16.Idx) (k : Fin 256) :
    val_main_v51 (F := Ideal) x0 x1 x3 (idx_main_v52 j k)
      = Ideal.exp (val_main_v44 (F := Ideal) x0 x1 x3 (idx_main_v52 j k) - val_main_v47 (F := Ideal) x0 x1 x3 j) := by
  rw [val_main_v51_apply, val_main_v50_apply, val_main_v49_apply, val_main_v48_apply]
  have e : idx_main_v48 (idx_main_v49 (idx_main_v52 j k)) = j := row256_idx j k
  rw [e]
  rfl

theorem softmax256 (x0 x1 : A2048) (x3 : A256) (j : S1x16x128x16.Idx) {e : Fin 256 → ℝ}
    (h : Weighs (fun k => val_main_v44 (F := Ideal) x0 x1 x3 (idx_main_v52 j k)) e) (hp : ∃ i, e i ≠ 0) (k : Fin 256) :
    val_main_v55 (F := Ideal) x0 x1 x3 (idx_main_v52 j k) = ((e k / ∑ j, e j : ℝ) : EReal) := by
  have er : idx_main_v53 (idx_main_v54 (idx_main_v52 j k)) = j := row256_idx j k
  rw [val_main_v55_apply, val_main_v54_apply, val_main_v53_apply, er, val_main_v52_apply]
  simp only [exp256]
  exact row_softmax h hp _ _ (max256 x0 x1 x3 j) zero_bits k

theorem sel_at (H : Reals x0 x1 x3) (i : S1x16x128x16x256.Idx) :
    val_main_v55 (F := Ideal) x0 x1 x3 i
      = ((weight (cell (R := 2048) x0 (i 1).val (16 * (i 2).val + (i 3).val)) (cell (R := 2048) x1 (i 1).val (place x0 x3 (i 1).val (i 2).val (i 4)))
          / ∑ t : Fin 256, weight (cell (R := 2048) x0 (i 1).val (16 * (i 2).val + (i 3).val)) (cell (R := 2048) x1 (i 1).val (place x0 x3 (i 1).val (i 2).val t)) : ℝ) : EReal) := by
  have h : Weighs (fun k => val_main_v44 (F := Ideal) x0 x1 x3 (idx_main_v52 (row256 i) k))
      (fun t => weight (cell (R := 2048) x0 (i 1).val (16 * (i 2).val + (i 3).val)) (cell (R := 2048) x1 (i 1).val (place x0 x3 (i 1).val (i 2).val t))) :=
    fun k => .inr ⟨_, selLogits_at H _, rfl⟩
  have := softmax256 x0 x1 x3 (row256 i) h ⟨0, (weight_pos _ _).ne'⟩ (i 4)
  rwa [idx_row256] at this

theorem selBlock_at (H : Reals x0 x1 x3) (x2 : A2048) (i : S1x16x128x16x64.Idx) :
    val_main_v56 (F := Ideal) x0 x1 x2 x3 i
      = avg (fun t : Fin 256 => weight (cell (R := 2048) x0 (i 1).val (16 * (i 2).val + (i 3).val)) (cell (R := 2048) x1 (i 1).val (place x0 x3 (i 1).val (i 2).val t)))
          (fun t => cell (R := 2048) x2 (i 1).val (place x0 x3 (i 1).val (i 2).val t) (i 4)) := by
  rw [val_main_v56_apply]
  refine Finset.sum_congr rfl fun k _ => ?_
  have e1 := sel_at H (lidx_main_v56 i k)
  have e2 : val_main_v40 (F := Ideal) x0 x2 x3 (ridx_main_v56 i k) = _ := (congrFun (values_as_keys x0 x2 x3) _).trans (selected_at H x2 (ridx_main_v56 i k))
  exact congrArg₂ (fun a b : EReal => a * b) e1 e2

theorem selOut_at (H : Reals x0 x1 x3) (x2 : A2048) (i : S1x16x2048x64.Idx) :
    val_main_v57 (F := Ideal) x0 x1 x2 x3 i
      = avg (selWeight (cell (R := 2048) x0 (i 1).val) (cell (R := 2048) x1 (i 1).val) (cell (R := 256) x3 (i 1).val) (i 2).val)
          (fun p => cell (R := 2048) x2 (i 1).val p.val (i 3)) := by
  have h0 : (i 0).val < 1 := (i 0).isLt
  have h1 : (i 1).val < 16 := (i 1).isLt
  have h2 : (i 2).val < 2048 := (i 2).isLt
  have h3 : (i 3).val < 64 := (i 3).isLt
  rw [val_main_v57_apply, selBlock_at H]
  have e1 : (idx_main_v57 i 1).val = (i 1).val := by
    show ((((i 0).val * 16 + (i 1).val) * 2048 + (i 2).val) * 64 + (i 3).val) / 131072 % 16 = _; omega
  have e2 : (idx_main_v57 i 2).val = (i 2).val / 16 := by
    show ((((i 0).val * 16 + (i 1).val) * 2048 + (i 2).val) * 64 + (i 3).val) / 1024 % 128 = _; omega
  have e3 : (idx_main_v57 i 3).val = (i 2).val % 16 := by
    show ((((i 0).val * 16 + (i 1).val) * 2048 + (i 2).val) * 64 + (i 3).val) / 64 % 16 = _; omega
  have e4 : idx_main_v57 i 4 = i 3 := by
    apply Fin.ext
    show ((((i 0).val * 16 + (i 1).val) * 2048 + (i 2).val) * 64 + (i 3).val) % 64 = _; omega
  rw [e1, e2, e3, e4, Nat.div_add_mod]
  unfold selWeight place chosen
  letI : DecidablePred (best (score (cell (R := 2048) x0 (i 1).val) (cell (R := 256) x3 (i 1).val) ((i 2).val / 16))) := fun _ => Classical.propDecidable _
  exact avg_selected (topPos (score (cell (R := 2048) x0 (i 1).val) (cell (R := 256) x3 (i 1).val) ((i 2).val / 16))) (topPos_injective _)
    (best (score (cell (R := 2048) x0 (i 1).val) (cell (R := 256) x3 (i 1).val) ((i 2).val / 16))) (best_iff _)
    (fun p => weight (cell (R := 2048) x0 (i 1).val (i 2).val) (cell (R := 2048) x1 (i 1).val p))
    (fun p => cell (R := 2048) x2 (i 1).val p (i 3))

end Cert.ReferenceIdeal.Exact

end
-- ==== Proof.AttnRefWin.lean ====
/-
  The reference attention at an index, fourth part: the window of the last 512 positions.
-/
module

public import proofs.«01_k».proof.Proof.AttnRefSel

@[expose] public section

noncomputable section

open Idealize.ShloMosaic Idealize.ShloMosaic.TcCoe Idealize.SL.Sem Idealize.ShloMosaic.ValueIdx
open scoped BigOperators

namespace Cert.ReferenceIdeal.Exact

open Cert.ReferenceIdeal Cert.ReferenceIdeal.Gen Cert.ReferenceIdeal.Read Cert.Attn

variable {x0 x1 : A2048} {x3 : A256}

/-! ## The window's positions -/

/-- A position of the window, as the reference computes it from the block and the place. -/
abbrev winBits (n j : ℕ) : BitVec 32 :=
  IntOp.addi (IntOp.subi (IntOp.muli (IntOp.addi (BitVec.ofNat 32 n) 1#32) 16#32) 512#32) (BitVec.ofNat 32 j)

/-- The position kept between the first and the last. -/
abbrev clipBits (a : BitVec 32) : BitVec 32 := IntOp.minsi 2047#32 (IntOp.maxsi 0#32 a)

theorem clip_pos : ∀ p : Fin 2048, IntOp.cmpi .sge (BitVec.ofNat 32 p.val) 0#32 = 1#1 ∧ clipBits (BitVec.ofNat 32 p.val) = BitVec.ofNat 32 p.val
    ∧ IntOp.cmpi .slt (BitVec.ofNat 32 p.val) 0#32 = 0#1 ∧ (BitVec.ofNat 32 p.val).toInt.toNat = p.val := by decide +kernel

theorem clip_neg : ∀ m : Fin 512, 0 < m.val → IntOp.cmpi .sge (-BitVec.ofNat 32 m.val) 0#32 = 0#1 ∧ clipBits (-BitVec.ofNat 32 m.val) = 0#32 := by decide +kernel

theorem winBits_pos (n j : ℕ) (hn : n < 128) (hj : j < 512) (h : 512 ≤ 16 * (n + 1) + j) :
    winBits n j = BitVec.ofNat 32 (16 * (n + 1) + j - 512) := by
  apply BitVec.eq_of_toNat_eq
  show ((((BitVec.ofNat 32 n + 1#32) * 16#32) - 512#32) + BitVec.ofNat 32 j).toNat = _
  simp only [BitVec.toNat_add, BitVec.toNat_sub, BitVec.toNat_mul, BitVec.toNat_ofNat]
  omega

theorem winBits_neg (n j : ℕ) (hn : n < 128) (hj : j < 512) (h : ¬ 512 ≤ 16 * (n + 1) + j) :
    winBits n j = -BitVec.ofNat 32 (512 - (16 * (n + 1) + j)) := by
  apply BitVec.eq_of_toNat_eq
  show ((((BitVec.ofNat 32 n + 1#32) * 16#32) - 512#32) + BitVec.ofNat 32 j).toNat = _
  simp only [BitVec.toNat_add, BitVec.toNat_sub, BitVec.toNat_mul, BitVec.toNat_ofNat, BitVec.toNat_neg]
  omega

theorem win_valid (n j : ℕ) (hn : n < 128) (hj : j < 512) :
    IntOp.cmpi .sge (winBits n j) 0#32 = if 512 ≤ 16 * (n + 1) + j then 1#1 else 0#1 := by
  by_cases h : 512 ≤ 16 * (n + 1) + j
  · rw [if_pos h, winBits_pos n j hn hj h]
    exact (clip_pos ⟨16 * (n + 1) + j - 512, by omega⟩).1
  · rw [if_neg h, winBits_neg n j hn hj h]
    exact (clip_neg ⟨512 - (16 * (n + 1) + j), by omega⟩ (by show 0 < 512 - (16 * (n + 1) + j); omega)).1

theorem win_clip (n j : ℕ) (hn : n < 128) (hj : j < 512) : clipBits (winBits n j) = BitVec.ofNat 32 (16 * (n + 1) + j - 512) := by
  by_cases h : 512 ≤ 16 * (n + 1) + j
  · rw [winBits_pos n j hn hj h]
    exact (clip_pos ⟨16 * (n + 1) + j - 512, by omega⟩).2.1
  · rw [winBits_neg n j hn hj h, show 16 * (n + 1) + j - 512 = 0 by omega]
    exact (clip_neg ⟨512 - (16 * (n + 1) + j), by omega⟩ (by show 0 < 512 - (16 * (n + 1) + j); omega)).2

theorem window_at (i : S128x512.Idx) : val_main_v70 (F := Ideal) i = winBits (i 0).val (i 1).val := by
  rw [val_main_v70_apply, val_main_v68_apply, val_main_v65_apply, val_main_v63_apply, val_main_v62_apply, val_main_v60_apply, val_main_v58_apply,
    val_main_v59_apply, val_main_c_apply, val_main_v61_apply, val_main_c_9_apply, val_main_v64_apply, val_main_c_10_apply, val_main_v69_apply,
    val_main_v67_apply, val_main_v66_apply]

theorem valid_at (i : S128x512.Idx) : val_main_v72 (F := Ideal) i = if 512 ≤ 16 * ((i 0).val + 1) + (i 1).val then 1#1 else 0#1 := by
  rw [val_main_v72_apply, window_at, val_main_v71_apply, val_main_c_11_apply]
  exact win_valid _ _ (i 0).isLt (i 1).isLt

theorem winStart_at (j : S128x512x1.Idx) : val_main_v79 (F := Ideal) j = BitVec.ofNat 32 (16 * ((j 0).val + 1) + (j 1).val - 512) := by
  have h0 : (j 0).val < 128 := (j 0).isLt
  have h1 : (j 1).val < 512 := (j 1).isLt
  have e : ∀ i : S128x512.Idx, val_main_v73 (F := Ideal) i = BitVec.ofNat 32 (16 * ((i 0).val + 1) + (i 1).val - 512) := by
    intro i
    rw [val_main_v73_apply, val_main_call2_v4_apply, val_main_call2_v3_apply, val_main_c_13_apply, val_main_call2_v2_apply, val_main_call2_v1_apply,
      val_main_call2_v0_apply, val_main_c_12_apply, window_at]
    exact win_clip _ _ (i 0).isLt (i 1).isLt
  rw [val_main_v79_apply, val_main_v78_apply, val_main_v75_apply, e, val_main_v74_apply, val_main_c_14_apply]
  have hs := (clip_pos ⟨16 * ((j 0).val + 1) + (j 1).val - 512, by omega⟩).2.2.1
  exact (congrArg (fun b => Scalar.select b _ _) hs).trans rfl

/-- The window's index of a result's block and place. -/
abbrev winIdx (i : S1x16x128x512x64.Idx) : S128x512x1.Idx := fun a => match a with
  | ⟨0, _⟩ => ⟨(i 2).val, (i 2).isLt⟩
  | ⟨1, _⟩ => ⟨(i 3).val, (i 3).isLt⟩
  | ⟨2, _⟩ => ⟨0, Nat.one_pos⟩

abbrev rowIdx (i : S1x16x128x512x64.Idx) (p : Fin 2048) : S1x16x2048x64.Idx := fun a => match a with
  | ⟨0, _⟩ => ⟨(i 0).val, (i 0).isLt⟩
  | ⟨1, _⟩ => ⟨(i 1).val, (i 1).isLt⟩
  | ⟨2, _⟩ => ⟨p.val, p.isLt⟩
  | ⟨3, _⟩ => ⟨(i 4).val, (i 4).isLt⟩

/-- The window's gather reads the row its start names. -/
theorem winGather_at (y : S1x16x2048x64.Idx → EReal) (z : IVec S128x512x1 32) (i : S1x16x128x512x64.Idx) (p : Fin 2048)
    (hz : z (winIdx i) = BitVec.ofNat 32 p.val) :
    Host.gather gather_S1x16x2048x64_S128x512x1_S1x16x128x512x64_014_2_n_n_2_2_116164 y z i = y (rowIdx i p) := by
  unfold Host.gather
  congr 1
  funext a
  refine Fin.ext ?_
  generalize hd : gather_S1x16x2048x64_S128x512x1_S1x16x128x512x64_014_2_n_n_2_2_116164 = d
  have e1 : d.operandBatchingDims = [] := by rw [← hd]; rfl
  have e2 : d.collapsedSliceDims = [2] := by rw [← hd]; rfl
  have e3 : d.startIndexMap = [2] := by rw [← hd]; rfl
  show d.start i z a + d.batchCoord i a + d.offCoord i a = _
  rw [GatherDims.batchCoord_eq_zero _ _ _ (fun h => by rw [e1] at h; exact absurd h List.not_mem_nil)]
  have hs : ∀ b : Fin 4, b ≠ 2 → d.start i z b = 0 := by
    intro b hb
    unfold GatherDims.start
    rw [dif_neg (fun h => by rw [e3] at h; exact hb (List.mem_singleton.mp h))]
  have ha : a = (0 : Fin 4) ∨ a = (1 : Fin 4) ∨ a = (2 : Fin 4) ∨ a = (3 : Fin 4) := by
    match a with
    | ⟨0, _⟩ => exact .inl rfl
    | ⟨1, _⟩ => exact .inr (.inl rfl)
    | ⟨2, _⟩ => exact .inr (.inr (.inl rfl))
    | ⟨3, _⟩ => exact .inr (.inr (.inr rfl))
  rcases ha with rfl | rfl | rfl | rfl
  · rw [hs 0 (by decide)]
    simp only [Nat.zero_add]
    subst hd
    rfl
  · rw [hs 1 (by decide)]
    simp only [Nat.zero_add]
    subst hd
    rfl
  · rw [GatherDims.offCoord_eq_zero _ _ _ (fun h => ((GatherDims.mem_sKept _ _).mp h).1 (by rw [e2]; decide))]
    simp only [Nat.add_zero]
    subst hd
    unfold GatherDims.start
    rw [dif_pos (show (2 : Fin 4) ∈ gather_S1x16x2048x64_S128x512x1_S1x16x128x512x64_014_2_n_n_2_2_116164.startIndexMap from List.mem_singleton.mpr rfl)]
    have hsi : gather_S1x16x2048x64_S128x512x1_S1x16x128x512x64_014_2_n_n_2_2_116164.siIdx i
        ⟨List.idxOf (2 : Fin 4) gather_S1x16x2048x64_S128x512x1_S1x16x128x512x64_014_2_n_n_2_2_116164.startIndexMap,
          List.idxOf_lt_length_iff.2 (List.mem_singleton.mpr rfl)⟩ = winIdx i := by
      funext b; refine Fin.ext ?_
      match b with
      | ⟨0, _⟩ => rfl
      | ⟨1, _⟩ => rfl
      | ⟨2, _⟩ => rfl
    rw [hsi, hz, (clip_pos p).2.2.2]
    have := p.isLt
    show min p.val (2048 - 1) = p.val
    omega
  · rw [hs 3 (by decide)]
    simp only [Nat.zero_add]
    subst hd
    rfl

theorem winKeys_at (x : A2048) (i : S1x16x128x512x64.Idx) :
    val_main_v80 (F := Ideal) x i = cell (R := 2048) x (i 1).val (16 * ((i 2).val + 1) + (i 3).val - 512) (i 4) := by
  have h2 : (i 2).val < 128 := (i 2).isLt
  have h3 : (i 3).val < 512 := (i 3).isLt
  have hg : val_main_v80 (F := Ideal) x i = val_main_v3 (F := Ideal) x (rowIdx i ⟨16 * ((i 2).val + 1) + (i 3).val - 512, by omega⟩) :=
    winGather_at _ _ i ⟨16 * ((i 2).val + 1) + (i 3).val - 512, by omega⟩ (winStart_at (winIdx i))
  rw [hg, k_at]
  rfl

theorem winValues_as_keys (x : A2048) : val_main_v87 (F := Ideal) x = val_main_v80 (F := Ideal) x := rfl

/-! ## The window's softmax -/

/-- The row of an index. -/
abbrev row512 (i : S1x16x128x16x512.Idx) : S1x16x128x16.Idx := idx_main_v101 (idx_main_v102 i)

theorem row512_idx (j : S1x16x128x16.Idx) (k : Fin 512) : row512 (idx_main_v100 j k) = j := by
  funext a; apply Fin.ext
  match a with
  | ⟨0, _⟩ => have h : (j 0).val < 1 := (j 0).isLt; show 0 = (j 0).val; omega
  | ⟨1, _⟩ => rfl
  | ⟨2, _⟩ => rfl
  | ⟨3, _⟩ => rfl

theorem idx_row512 (i : S1x16x128x16x512.Idx) : idx_main_v100 (row512 i) (i 4) = i := by
  funext a; apply Fin.ext
  match a with
  | ⟨0, _⟩ => have h : (i 0).val < 1 := (i 0).isLt; show 0 = (i 0).val; omega
  | ⟨1, _⟩ => rfl
  | ⟨2, _⟩ => rfl
  | ⟨3, _⟩ => rfl
  | ⟨4, _⟩ => rfl

theorem reduces512 : S1x16x128x16x512.Reduces [4] S1x16x128x16 := by decide

theorem max512 (x0 x1 : A2048) (j : S1x16x128x16.Idx) :
    val_main_v95 (F := Ideal) x0 x1 j = max ⊥ (Finset.univ.fold max ⊥ (fun k => val_main_v92 (F := Ideal) x0 x1 (idx_main_v100 j k))) := by
  rw [val_main_v95_apply, val_main_v94_apply]
  refine congrArg₂ (fun a b : EReal => max a b) minus_inf ?_
  unfold val_main_v93
  generalize val_main_v92 (F := Ideal) x0 x1 = y
  refine (Host.reduce_eq_fold_single (FloatOps.maximumf (F := Ideal) (φ := .f32)) y _ reducesTo_S1x16x128x16x512_S1x16x128x16_d4 reduces512 h_S_ j).trans ?_
  refine congrArg₂ (fun (a : EReal) (f : Fin 512 → EReal) => Finset.univ.fold max a f) minus_inf (funext fun k => ?_)
  refine congrArg y (funext fun a => Fin.ext ?_)
  match a with
  | ⟨0, _⟩ => rfl
  | ⟨1, _⟩ => rfl
  | ⟨2, _⟩ => rfl
  | ⟨3, _⟩ => rfl
  | ⟨4, _⟩ => rfl

theorem exp512 (x0 x1 : A2048) (j : S1x16x128x16.Idx) (k : Fin 512) :
    val_main_v99 (F := Ideal) x0 x1 (idx_main_v100 j k)
      = Ideal.exp (val_main_v92 (F := Ideal) x0 x1 (idx_main_v100 j k) - val_main_v95 (F := Ideal) x0 x1 j) := by
  rw [val_main_v99_apply, val_main_v98_apply, val_main_v97_apply, val_main_v96_apply]
  have e : idx_main_v96 (idx_main_v97 (idx_main_v100 j k)) = j := row512_idx j k
  rw [e]
  rfl

theorem softmax512 (x0 x1 : A2048) (j : S1x16x128x16.Idx) {e : Fin 512 → ℝ}
    (h : Weighs (fun k => val_main_v92 (F := Ideal) x0 x1 (idx_main_v100 j k)) e) (hp : ∃ i, e i ≠ 0) (k : Fin 512) :
    val_main_v103 (F := Ideal) x0 x1 (idx_main_v100 j k) = ((e k / ∑ j, e j : ℝ) : EReal) := by
  have er : idx_main_v101 (idx_main_v102 (idx_main_v100 j k)) = j := row512_idx j k
  rw [val_main_v103_apply, val_main_v102_apply, val_main_v101_apply, er, val_main_v100_apply]
  simp only [exp512]
  exact row_softmax h hp _ _ (max512 x0 x1 j) zero_bits k

theorem winMask_at (i : S1x16x128x16x512.Idx) :
    val_main_call3_v1 (F := Ideal) i = if 512 ≤ 16 * ((i 2).val + 1) + (i 4).val then 1#1 else 0#1 := by
  rw [val_main_call3_v1_apply, val_main_v91_apply, valid_at]

theorem winLogits_at (H : Reals x0 x1 x3) (i : S1x16x128x16x512.Idx) :
    val_main_v90 (F := Ideal) x0 x1 i
      = ((logit (cell (R := 2048) x0 (i 1).val (16 * (i 2).val + (i 3).val)) (cell (R := 2048) x1 (i 1).val (16 * ((i 2).val + 1) + (i 4).val - 512)) : ℝ) : EReal) := by
  rw [val_main_v90_apply, val_main_v88_apply]
  refine Eq.trans ?_ (dot_scaled (H.q (i 1).val (16 * (i 2).val + (i 3).val)) (H.k (i 1).val (16 * ((i 2).val + 1) + (i 4).val - 512)) _ eighth_bits)
  refine congrArg₂ (fun a b : EReal => a * b) (Finset.sum_congr rfl fun k _ => ?_) ?_
  · have e1 := queries_at x0 (lidx_main_v88 i k)
    have e2 := winKeys_at x1 (ridx_main_v88 i k)
    exact congrArg₂ (fun a b : EReal => a * b) e1 e2
  · rw [val_main_v89_apply]; rfl

theorem win_weighs (H : Reals x0 x1 x3) (i : S1x16x128x16x512.Idx) (n r : ℕ) (hn : (i 2).val = n) (hr : (i 3).val = r) (hr' : r < 16) :
    (val_main_v92 (F := Ideal) x0 x1 i = (⊥ : EReal) ∧ winWeight (cell (R := 2048) x0 (i 1).val) (cell (R := 2048) x1 (i 1).val) (16 * n + r) (i 4) = 0)
      ∨ ∃ l : ℝ, val_main_v92 (F := Ideal) x0 x1 i = (l : EReal)
          ∧ winWeight (cell (R := 2048) x0 (i 1).val) (cell (R := 2048) x1 (i 1).val) (16 * n + r) (i 4) = Real.exp l := by
  subst hn hr
  have e : (16 * (i 2).val + (i 3).val) / 16 = (i 2).val := by omega
  unfold winWeight
  rw [val_main_v92_apply, winMask_at, e]
  by_cases h : 512 ≤ 16 * ((i 2).val + 1) + (i 4).val
  · right
    rw [if_pos h, if_pos h]
    exact ⟨_, winLogits_at H i, rfl⟩
  · left
    rw [if_neg h, if_neg h]
    refine ⟨?_, rfl⟩
    show val_main_call3_v2 (F := Ideal) i = (⊥ : EReal)
    rw [val_main_call3_v2_apply, val_main_call3_v0_apply, val_main_cst_19_apply]
    exact minus_inf

theorem win_at (H : Reals x0 x1 x3) (i : S1x16x128x16x512.Idx) :
    val_main_v103 (F := Ideal) x0 x1 i
      = ((winWeight (cell (R := 2048) x0 (i 1).val) (cell (R := 2048) x1 (i 1).val) (16 * (i 2).val + (i 3).val) (i 4)
          / ∑ x, winWeight (cell (R := 2048) x0 (i 1).val) (cell (R := 2048) x1 (i 1).val) (16 * (i 2).val + (i 3).val) x : ℝ) : EReal) := by
  have h3 : (i 3).val < 16 := (i 3).isLt
  have h : Weighs (fun k => val_main_v92 (F := Ideal) x0 x1 (idx_main_v100 (row512 i) k))
      (winWeight (cell (R := 2048) x0 (i 1).val) (cell (R := 2048) x1 (i 1).val) (16 * (i 2).val + (i 3).val)) :=
    fun k => win_weighs H (idx_main_v100 (row512 i) k) (i 2).val (i 3).val rfl rfl h3
  have hp : ∃ x, winWeight (cell (R := 2048) x0 (i 1).val) (cell (R := 2048) x1 (i 1).val) (16 * (i 2).val + (i 3).val) x ≠ 0 := by
    refine ⟨511, ?_⟩
    unfold winWeight
    rw [if_pos (by show 512 ≤ 16 * ((16 * (i 2).val + (i 3).val) / 16 + 1) + 511; omega)]
    exact (weight_pos _ _).ne'
  have := softmax512 x0 x1 (row512 i) h hp (i 4)
  rwa [idx_row512] at this

theorem winBlock_at (H : Reals x0 x1 x3) (x2 : A2048) (i : S1x16x128x16x64.Idx) :
    val_main_v104 (F := Ideal) x0 x1 x2 i
      = avg (winWeight (cell (R := 2048) x0 (i 1).val) (cell (R := 2048) x1 (i 1).val) (16 * (i 2).val + (i 3).val))
          (fun x => cell (R := 2048) x2 (i 1).val (16 * ((i 2).val + 1) + x.val - 512) (i 4)) := by
  rw [val_main_v104_apply]
  refine Finset.sum_congr rfl fun k _ => ?_
  have e1 := win_at H (lidx_main_v104 i k)
  have e2 : val_main_v87 (F := Ideal) x2 (ridx_main_v104 i k) = _ := (congrFun (winValues_as_keys x2) _).trans (winKeys_at x2 (ridx_main_v104 i k))
  exact congrArg₂ (fun a b : EReal => a * b) e1 e2

theorem winOut_at (H : Reals x0 x1 x3) (x2 : A2048) (i : S1x16x2048x64.Idx) :
    val_main_v105 (F := Ideal) x0 x1 x2 i
      = avg (winWeight (cell (R := 2048) x0 (i 1).val) (cell (R := 2048) x1 (i 1).val) (i 2).val)
          (fun x => cell (R := 2048) x2 (i 1).val (16 * ((i 2).val / 16 + 1) + x.val - 512) (i 3)) := by
  have h0 : (i 0).val < 1 := (i 0).isLt
  have h1 : (i 1).val < 16 := (i 1).isLt
  have h2 : (i 2).val < 2048 := (i 2).isLt
  have h3 : (i 3).val < 64 := (i 3).isLt
  rw [val_main_v105_apply, winBlock_at H]
  have e1 : (idx_main_v105 i 1).val = (i 1).val := by
    show ((((i 0).val * 16 + (i 1).val) * 2048 + (i 2).val) * 64 + (i 3).val) / 131072 % 16 = _; omega
  have e2 : (idx_main_v105 i 2).val = (i 2).val / 16 := by
    show ((((i 0).val * 16 + (i 1).val) * 2048 + (i 2).val) * 64 + (i 3).val) / 1024 % 128 = _; omega
  have e3 : (idx_main_v105 i 3).val = (i 2).val % 16 := by
    show ((((i 0).val * 16 + (i 1).val) * 2048 + (i 2).val) * 64 + (i 3).val) / 64 % 16 = _; omega
  have e4 : idx_main_v105 i 4 = i 3 := by
    apply Fin.ext
    show ((((i 0).val * 16 + (i 1).val) * 2048 + (i 2).val) * 64 + (i 3).val) % 64 = _; omega
  rw [e1, e2, e3, e4, Nat.div_add_mod]

/-! ## The result -/

abbrev A128 : Type := (⟨S2048x128, .f32⟩ : BufTy).Contents (Elt Ideal)

/-- A head's place in a row of the result. -/
abbrev headIdx (i : S2048x1024.Idx) : S1x16x2048x64.Idx := fun a => match a with
  | ⟨0, _⟩ => ⟨0, Nat.one_pos⟩
  | ⟨1, _⟩ => ⟨(i 1).val / 64, by have h : (i 1).val < 1024 := (i 1).isLt; show (i 1).val / 64 < 16; omega⟩
  | ⟨2, _⟩ => ⟨(i 0).val, (i 0).isLt⟩
  | ⟨3, _⟩ => ⟨(i 1).val % 64, by show (i 1).val % 64 < 64; omega⟩

theorem merge1_idx (i : S2048x1024.Idx) : idx_main_v109 (idx_main_v110 (idx_main_v125 i)) = headIdx i := by
  have h0 : (i 0).val < 2048 := (i 0).isLt
  have h1 : (i 1).val < 1024 := (i 1).isLt
  funext a; apply Fin.ext
  match a with
  | ⟨0, _⟩ => rfl
  | ⟨1, _⟩ =>
    show ((0 * 2048 + ((i 0).val * 1024 + (i 1).val) / 1024 % 2048) * 1024 + ((i 0).val * 1024 + (i 1).val) % 1024) / 64 % 16 = (i 1).val / 64; omega
  | ⟨2, _⟩ =>
    show ((0 * 2048 + ((i 0).val * 1024 + (i 1).val) / 1024 % 2048) * 1024 + ((i 0).val * 1024 + (i 1).val) % 1024) / 1024 % 2048 = (i 0).val; omega
  | ⟨3, _⟩ =>
    show ((0 * 2048 + ((i 0).val * 1024 + (i 1).val) / 1024 % 2048) * 1024 + ((i 0).val * 1024 + (i 1).val) % 1024) % 64 = (i 1).val % 64; omega

/-- The three gates of a row. -/
theorem gate_at (x4 : A128) (i : S1x2048x3.Idx) (j : S2048x128.Idx) (h0 : (j 0).val = (i 1).val) (h1 : (j 1).val = (i 2).val) :
    val_main_v107 (F := Ideal) x4 i = x4 j := by
  have h0' : (i 0).val < 1 := (i 0).isLt
  have h1' : (i 1).val < 2048 := (i 1).isLt
  have h2' : (i 2).val < 3 := (i 2).isLt
  rw [val_main_v107_apply, val_main_v106_apply]
  congr 1
  funext a; apply Fin.ext
  match a with
  | ⟨0, _⟩ => refine Eq.trans ?_ h0.symm; show (((i 0).val * 2048 + (i 1).val) * 3 + (i 2).val) / 3 = (i 1).val; omega
  | ⟨1, _⟩ => refine Eq.trans ?_ h1.symm; show (((i 0).val * 2048 + (i 1).val) * 3 + (i 2).val) % 3 = (i 2).val; omega

/-- The reference attention at an index: the head's three averages under the row's gates. -/
theorem ref_at (H : Reals x0 x1 x3) (x2 : A2048) (x4 : A128) (i : S2048x1024.Idx) :
    val_main_v125 (F := Ideal) x0 x1 x2 x3 x4 i
      = spec (cell (R := 2048) x0 ((i 1).val / 64)) (cell (R := 2048) x1 ((i 1).val / 64)) (cell (R := 2048) x2 ((i 1).val / 64))
          (cell (R := 256) x3 ((i 1).val / 64)) (fun b => cell (R := 256) x3 ((i 1).val / 64) (128 + b))
          (fun j => x4 (ix2 (i 0) ⟨j.val, by have := j.isLt; show j.val < 128; omega⟩)) (i 0).val ⟨(i 1).val % 64, by omega⟩ := by
  have h0 : (i 0).val < 2048 := (i 0).isLt
  have h1 : (i 1).val < 1024 := (i 1).isLt
  have hrow : ((i 0).val * 1024 + (i 1).val) / 1024 % 2048 = (i 0).val := by omega
  have m2 : idx_main_v114 (idx_main_v115 (idx_main_v125 i)) = headIdx i := merge1_idx i
  have m3 : idx_main_v120 (idx_main_v121 (idx_main_v125 i)) = headIdx i := merge1_idx i
  rw [val_main_v125_apply, val_main_v124_apply, val_main_v118_apply, val_main_v112_apply, val_main_v117_apply, val_main_v123_apply,
    val_main_v110_apply, val_main_v109_apply, val_main_v115_apply, val_main_v114_apply, val_main_v121_apply, val_main_v120_apply,
    merge1_idx, m2, m3, compOut_at H, selOut_at H, winOut_at H,
    val_main_v111_apply, val_main_v108_apply, val_main_v116_apply, val_main_v113_apply, val_main_v122_apply, val_main_v119_apply]
  rw [gate_at x4 _ (ix2 (i 0) (0 : Fin 128)) hrow.symm rfl, gate_at x4 _ (ix2 (i 0) (1 : Fin 128)) hrow.symm rfl,
    gate_at x4 _ (ix2 (i 0) (2 : Fin 128)) hrow.symm rfl]
  rfl

end Cert.ReferenceIdeal.Exact

end
-- ==== Proof.Attention.lean ====
/-
  The attention call and the reference attention: a grid point computes two heads of 512 queries, and each entry is the
  three weighted averages under the row's gates.
-/
module

public import proofs.«01_k».proof.Defs
public import proofs.«01_k».proof.Proof.AttnHead
public import proofs.«01_k».proof.Proof.AttnRefWin
public import proofs.«01_k».proof.Proof.Gen.KernelIdeal.Value
public import Idealize.ShloMosaic.Lib.StableHlo.Run
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

/-! ## The precondition -/

namespace Cert.Pre_finite

/-- The shape relations of the precondition hold. -/
instance facts : Cert.Pre_finite.Facts where
  bcast_S_S2048x1024 := by decide
  slices_S256x1024_S128x1024_0_0 := by decide
  bcast_S_S128x1024 := by decide

/-- A number less than infinity in absolute value is real. -/
theorem real_of_bit (x : EReal) (h : FloatOps.cmpf (F := Ideal) (φ := .f32) .olt (FloatOps.absf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have h' : BitVec.ofBool (decide (max x (-x) < ⊤)) = 1#1 := h
  by_cases hx : max x (-x) < ⊤
  · rw [max_lt_iff] at hx
    refine ⟨x.toReal, (EReal.coe_toReal hx.1.ne ?_).symm⟩
    rintro rfl
    exact absurd hx.2 (by simp)
  · rw [decide_eq_false hx] at h'
    exact absurd h' (by decide)

end Cert.Pre_finite

namespace Cert.KernelIdeal.Exact

open Cert.KernelIdeal Cert.KernelIdeal.Gen Cert.Common Cert.Attn

/-- Queries, keys and compressed keys under the precondition. -/
theorem reals_of_pre (x0 x1 x2 : S2048x1024.Idx → EReal) (x3 : S256x1024.Idx → EReal) (x4 : S2048x128.Idx → EReal)
    (h : (Cert.Pre_finite.fn (F := Ideal) x0 x1 x2 x3 x4).1 = (fun _ => 1#1) ∧ (Cert.Pre_finite.fn (F := Ideal) x0 x1 x2 x3 x4).2.1 = (fun _ => 1#1)
      ∧ (Cert.Pre_finite.fn (F := Ideal) x0 x1 x2 x3 x4).2.2 = (fun _ => 1#1)) : Cert.ReferenceIdeal.Exact.Reals x0 x1 x3 := by
  obtain ⟨h0, h1, h3⟩ := h
  refine ⟨fun g s d => ?_, fun g s d => ?_, fun g s hs d => ?_⟩
  · unfold cell
    split
    · exact Cert.Pre_finite.real_of_bit _ (congrFun h0 _)
    · exact ⟨0, rfl⟩
  · unfold cell
    split
    · exact Cert.Pre_finite.real_of_bit _ (congrFun h1 _)
    · exact ⟨0, rfl⟩
  · unfold cell
    split
    next hg =>
      refine Cert.Pre_finite.real_of_bit _ ?_
      have e := congrFun h3 (ix2 (⟨s, hs⟩ : Fin 128) (⟨64 * g + d.val, by have := d.isLt; omega⟩ : Fin 1024))
      have e' : extractStridedSlice Cert.Pre_finite.S128x1024 ![0, 0] x3 Cert.Pre_finite.Facts.slices_S256x1024_S128x1024_0_0
          (ix2 (⟨s, hs⟩ : Fin 128) (⟨64 * g + d.val, by have := d.isLt; omega⟩ : Fin 1024)) = x3 (ix2 ⟨s, hg.2⟩ ⟨64 * g + d.val, by have := d.isLt; omega⟩) := by
        refine extractStridedSlice_apply _ _ _ _ _ fun a => ?_
        match a with
        | ⟨0, _⟩ => exact (Nat.zero_add _).symm
        | ⟨1, _⟩ => exact (Nat.zero_add _).symm
      rw [← e']
      exact e
    · exact ⟨0, rfl⟩

/-! ## What a point reads -/

/-- A part of a block: its rows from `r` and its columns from `o`. -/
def Cut {R M : ℕ} (x : (⟨2, ![R, 128]⟩ : Shape).Idx → EReal) (r o : ℕ) (y : (⟨2, ![M, 64]⟩ : Shape).Idx → EReal) : Prop :=
  ∀ (c : Fin M) (d : Fin 64) (j : (⟨2, ![R, 128]⟩ : Shape).Idx), (j 0).val = r + c.val → (j 1).val = o + d.val → y (ix2 c d) = x j

theorem cut_ld {R M : ℕ} (x : (⟨2, ![R, 128]⟩ : Shape).Idx → EReal) (f : Fin 2 → ℕ) (inb) (r o : ℕ) (h0 : f 0 = r) (h1 : f 1 = o) :
    Cut (M := M) x r o (View.ld (Val := Elt Ideal) (e' := .f32) x (Rect.unit (s := ⟨2, ![R, 128]⟩) f ![M, 64] inb)) := by
  intro c d j hj0 hj1
  show x _ = x j
  congr 1
  funext a; apply Fin.ext
  match a with
  | ⟨0, _⟩ => show f 0 + 1 * c.val = (j 0).val; omega
  | ⟨1, _⟩ => show f 1 + 1 * d.val = (j 1).val; omega

/-- An entry of a part, given where the block's entries lie. -/
theorem Cut.at {R M : ℕ} {x : (⟨2, ![R, 128]⟩ : Shape).Idx → EReal} {r o : ℕ} {y : (⟨2, ![M, 64]⟩ : Shape).Idx → EReal} (h : Cut x r o y)
    {X : ℕ → Fin 64 → EReal} {b : ℕ} (hM : r + M ≤ R) (ho : o + 64 ≤ 128)
    (hx : ∀ (j : (⟨2, ![R, 128]⟩ : Shape).Idx) (d : Fin 64), (j 1).val = o + d.val → x j = X (b + (j 0).val) d) (c : Fin M) (d : Fin 64) :
    y (ix2 c d) = X (b + (r + c.val)) d :=
  (h c d (ix2 ⟨r + c.val, by omega⟩ ⟨o + d.val, by omega⟩) rfl rfl).trans (hx _ d rfl)

variable (m : (ℓ : Loc nD τ sig) → Buf (Elt Ideal) ℓ) (ρ : Dev nD → PrngReg)

/-- Where the windows of a point lie. -/
theorem idx_at : ∀ t : Fin cfg0.N, win0_0.index t 0 = win0_5.index t 0 ∧ win0_0.index t 1 = win0_5.index t 1
    ∧ win0_1.index t 0 = 0 ∧ win0_1.index t 1 = win0_5.index t 1 ∧ win0_2.index t 0 = 0 ∧ win0_2.index t 1 = win0_5.index t 1
    ∧ win0_3.index t 0 = 0 ∧ win0_3.index t 1 = win0_5.index t 1 ∧ win0_4.index t 0 = win0_5.index t 0 ∧ win0_4.index t 1 = 0
    ∧ (grid0.coords t 1).val = win0_5.index t 0 ∧ win0_5.index t 0 < 4 ∧ win0_5.index t 1 < 8 :=
  (by decide +kernel : ∀ t : Fin grid0.N, _)

section
variable (c : Dev nD) (t : Fin cfg0.N) (u : ℕ) (hu : u < 2)
include hu

theorem q_at (j : S512x128.Idx) (d : Fin 64) (h : (j 1).val = 64 * u + d.val) :
    (iblk m c 0 t : S512x128.Idx → EReal) j
      = cell (R := 2048) (m ((c : Thread nD τ).loc main_arg0)) (2 * win0_5.index t 1 + u) (512 * win0_5.index t 0 + (j 0).val) d := by
  unfold iblk
  rw [View.read_apply]
  show V m c main_arg0 _ = _
  rw [V_main_arg0]
  obtain ⟨e0, e1, -, -, -, -, -, -, -, -, -, l0, l1⟩ := idx_at t
  have hj : (j 0).val < 512 := (j 0).isLt
  refine cell_eq (R := 2048) _ _ _ d (by omega) (by omega) _ ?_ ?_
  · show win0_0.index t 0 * 512 + 1 * (j 0).val = _; rw [e0]; omega
  · show win0_0.index t 1 * 128 + 1 * (j 1).val = _; rw [e1]; omega

theorem k_at (j : S2048x128.Idx) (d : Fin 64) (h : (j 1).val = 64 * u + d.val) :
    (iblk m c 1 t : S2048x128.Idx → EReal) j
      = cell (R := 2048) (m ((c : Thread nD τ).loc main_arg1)) (2 * win0_5.index t 1 + u) (0 + (j 0).val) d := by
  unfold iblk
  rw [View.read_apply]
  show V m c main_arg1 _ = _
  rw [V_main_arg1]
  obtain ⟨-, -, e0, e1, -, -, -, -, -, -, -, l0, l1⟩ := idx_at t
  have hj : (j 0).val < 2048 := (j 0).isLt
  refine cell_eq (R := 2048) _ _ _ d (by omega) (by omega) _ ?_ ?_
  · show win0_1.index t 0 * 2048 + 1 * (j 0).val = _; rw [e0]; omega
  · show win0_1.index t 1 * 128 + 1 * (j 1).val = _; rw [e1]; omega

theorem v_at (j : S2048x128.Idx) (d : Fin 64) (h : (j 1).val = 64 * u + d.val) :
    (iblk m c 2 t : S2048x128.Idx → EReal) j
      = cell (R := 2048) (m ((c : Thread nD τ).loc main_arg2)) (2 * win0_5.index t 1 + u) (0 + (j 0).val) d := by
  unfold iblk
  rw [View.read_apply]
  show V m c main_arg2 _ = _
  rw [V_main_arg2]
  obtain ⟨-, -, -, -, e0, e1, -, -, -, -, -, l0, l1⟩ := idx_at t
  have hj : (j 0).val < 2048 := (j 0).isLt
  refine cell_eq (R := 2048) _ _ _ d (by omega) (by omega) _ ?_ ?_
  · show win0_2.index t 0 * 2048 + 1 * (j 0).val = _; rw [e0]; omega
  · show win0_2.index t 1 * 128 + 1 * (j 1).val = _; rw [e1]; omega

theorem kv_at (j : S256x128.Idx) (d : Fin 64) (h : (j 1).val = 64 * u + d.val) :
    (iblk m c 3 t : S256x128.Idx → EReal) j
      = cell (R := 256) (m ((c : Thread nD τ).loc main_arg3)) (2 * win0_5.index t 1 + u) (0 + (j 0).val) d := by
  unfold iblk
  rw [View.read_apply]
  show V m c main_arg3 _ = _
  rw [V_main_arg3]
  obtain ⟨-, -, -, -, -, -, e0, e1, -, -, -, l0, l1⟩ := idx_at t
  have hj : (j 0).val < 256 := (j 0).isLt
  refine cell_eq (R := 256) _ _ _ d (by omega) (by omega) _ ?_ ?_
  · show win0_3.index t 0 * 256 + 1 * (j 0).val = _; rw [e0]; omega
  · show win0_3.index t 1 * 128 + 1 * (j 1).val = _; rw [e1]; omega

end

theorem gates_at (c : Dev nD) (t : Fin cfg0.N) (j : S512x128.Idx) (i : S2048x128.Idx)
    (h0 : (i 0).val = win0_5.index t 0 * 512 + (j 0).val) (h1 : (i 1).val = (j 1).val) :
    (iblk m c 4 t : S512x128.Idx → EReal) j = (m ((c : Thread nD τ).loc main_arg4) : S2048x128.Idx → EReal) i := by
  unfold iblk
  rw [View.read_apply]
  show V m c main_arg4 _ = _
  rw [V_main_arg4]
  congr 1
  obtain ⟨-, -, -, -, -, -, -, -, e0, e1, -⟩ := idx_at t
  funext a; apply Fin.ext
  match a with
  | ⟨0, _⟩ => show win0_4.index t 0 * 512 + 1 * (j 0).val = (i 0).val; rw [e0]; omega
  | ⟨1, _⟩ => show win0_4.index t 1 * 128 + 1 * (j 1).val = (i 1).val; rw [e1]; omega

/-! ## What a point computes -/

/-- A head's rows of the five arguments. -/
abbrev headSpec (c : Dev nD) (h s : ℕ) (g : Fin 3 → EReal) (d : Fin 64) : EReal :=
  spec (cell (R := 2048) (m ((c : Thread nD τ).loc main_arg0)) h) (cell (R := 2048) (m ((c : Thread nD τ).loc main_arg1)) h)
    (cell (R := 2048) (m ((c : Thread nD τ).loc main_arg2)) h) (cell (R := 256) (m ((c : Thread nD τ).loc main_arg3)) h)
    (fun b => cell (R := 256) (m ((c : Thread nD τ).loc main_arg3)) h (128 + b)) g s d

/-- What the call computes. -/
def result (c : Dev nD) : Buf (Elt Ideal) ((c : Thread nD τ).loc main_v0) :=
  fun (i : S2048x1024.Idx) => headSpec m c ((i 1).val / 64) (i 0).val
    (fun j => (m ((c : Thread nD τ).loc main_arg4) : S2048x128.Idx → EReal) (ix2 (i 0) ⟨j.val, by have := j.isLt; omega⟩)) ⟨(i 1).val % 64, by omega⟩

/-- Half a block: one head's 512 queries. -/
theorem half (c : Dev nD) (t : Fin cfg0.N) (H : Cert.ReferenceIdeal.Exact.Reals (m ((c : Thread nD τ).loc main_arg0)) (m ((c : Thread nD τ).loc main_arg1)) (m ((c : Thread nD τ).loc main_arg3)))
    (u : ℕ) (hu : u < 2) (tq : Fin 4) (htq : win0_5.index t 0 = tq.val) {q : FVec Ideal S512x64 .f32} {kc vc : FVec Ideal S128x64 .f32} {k v : FVec Ideal S2048x64 .f32}
    {kw vw : FVec Ideal S1024x64 .f32} (hq : Cut (R := 512) (iblk m c 0 t) 0 (64 * u) q) (hkc : Cut (R := 256) (iblk m c 3 t) 0 (64 * u) kc)
    (hvc : Cut (R := 256) (iblk m c 3 t) 128 (64 * u) vc) (hk : Cut (R := 2048) (iblk m c 1 t) 0 (64 * u) k) (hv : Cut (R := 2048) (iblk m c 2 t) 0 (64 * u) v)
    (hkw : Cut (R := 2048) (iblk m c 1 t) (16 * stretch tq) (64 * u) kw) (hvw : Cut (R := 2048) (iblk m c 2 t) (16 * stretch tq) (64 * u) vw)
    (r : Fin 512) (d : Fin 64) :
    Exact.head (F := Ideal) (grid0.coords t) (iblk m c 4 t) q kc vc k v kw vw (ix2 r d)
      = headSpec m c (2 * win0_5.index t 1 + u) (512 * tq.val + r.val) (fun j => (iblk m c 4 t : S512x128.Idx → EReal) (ix2 r ⟨j.val, by omega⟩)) d := by
  have hs : 16 * stretch tq + 1024 ≤ 2048 := by unfold stretch; omega
  obtain ⟨-, -, -, -, -, -, -, -, -, -, ec, l0, l1⟩ := idx_at t
  refine Reads.head (t := tq) ?_ (grid0.coords t) (ec.trans htq) (iblk m c 4 t) r d
  constructor
  · intro x y
    refine (hq.at (by omega) (by omega) (fun j d h => q_at m c t u hu j d h) x y).trans ?_
    rw [htq, Nat.zero_add]
  · intro x y
    refine (hkc.at (by omega) (by omega) (fun j d h => kv_at m c t u hu j d h) x y).trans ?_
    rw [Nat.zero_add, Nat.zero_add]
  · intro x y
    refine (hvc.at (by omega) (by omega) (fun j d h => kv_at m c t u hu j d h) x y).trans ?_
    rw [Nat.zero_add]
  · intro x y
    refine (hk.at (by omega) (by omega) (fun j d h => k_at m c t u hu j d h) x y).trans ?_
    rw [Nat.zero_add, Nat.zero_add]
  · intro x y
    refine (hv.at (by omega) (by omega) (fun j d h => v_at m c t u hu j d h) x y).trans ?_
    rw [Nat.zero_add, Nat.zero_add]
  · intro x y
    refine (hkw.at (by omega) (by omega) (fun j d h => k_at m c t u hu j d h) x y).trans ?_
    rw [Nat.zero_add]
  · intro x y
    refine (hvw.at (by omega) (by omega) (fun j d h => v_at m c t u hu j d h) x y).trans ?_
    rw [Nat.zero_add]
  · exact H.q _
  · exact H.k _
  · exact H.kc _

/-- The result at an index, its column given by block, head and place. -/
theorem result_eq (c : Dev nD) (i : S2048x1024.Idx) (h s : ℕ) (g : Fin 3 → EReal) (d : Fin 64) (h1 : (i 1).val = 64 * h + d.val) (h0 : (i 0).val = s)
    (hg : ∀ j : Fin 3, g j = (m ((c : Thread nD τ).loc main_arg4) : S2048x128.Idx → EReal) (ix2 (i 0) ⟨j.val, by have := j.isLt; omega⟩)) :
    headSpec m c h s g d = result m c i := by
  have hd : d.val < 64 := d.isLt
  have e1 : (i 1).val / 64 = h := by omega
  have e2 : (⟨(i 1).val % 64, by omega⟩ : Fin 64) = d := Fin.ext (by show (i 1).val % 64 = d.val; omega)
  unfold result
  rw [e1, e2, h0, funext hg]

/-- A point writes its block of the result back. -/
theorem flushed_eq (c : Dev nD) (H : Cert.ReferenceIdeal.Exact.Reals (m ((c : Thread nD τ).loc main_arg0)) (m ((c : Thread nD τ).loc main_arg1)) (m ((c : Thread nD τ).loc main_arg3)))
    (t : Fin cfg0.N) : (dats m 0 c).flushed 5 t = ((cfg0.win 5).blk t).view.read (Elt Ideal) (result m c) := by
  rw [Value.flushed5_A, out_A]
  funext j
  rw [View.read_apply]
  have r0 : ((((cfg0.win 5).blk t).view.emb j : S2048x1024.Idx) 0).val = win0_5.index t 0 * 512 + 1 * ((j : S512x128.Idx) 0).val := rfl
  have r1 : ((((cfg0.win 5).blk t).view.emb j : S2048x1024.Idx) 1).val = win0_5.index t 1 * 128 + 1 * ((j : S512x128.Idx) 1).val := rfl
  generalize (((cfg0.win 5).blk t).view.emb j : S2048x1024.Idx) = i at r0 r1 ⊢
  obtain ⟨-, -, -, -, -, -, -, -, -, -, ec, l0, l1⟩ := idx_at t
  obtain ⟨tq, htq⟩ : ∃ tq : Fin 4, win0_5.index t 0 = tq.val := ⟨⟨_, l0⟩, rfl⟩
  have o1 := off1_eq (grid0.coords t) tq (ec.trans htq)
  have o2 := off2_eq (grid0.coords t) tq (ec.trans htq)
  have j0 : ((j : S512x128.Idx) 0).val < 512 := ((j : S512x128.Idx) 0).isLt
  have j1 : ((j : S512x128.Idx) 1).val < 128 := ((j : S512x128.Idx) 1).isLt
  show concatenate S512x128 1 _ _ (j : S512x128.Idx) = result m c i
  by_cases hj : ((j : S512x128.Idx) 1).val < 64
  · refine (concatenate_pair_apply_left (s₁ := S512x64) (s₂ := S512x64) (t := S512x128) (1 : Fin 2) _ _ _ (j : S512x128.Idx) rfl (ix2 (⟨((j : S512x128.Idx) 0).val, j0⟩ : Fin 512) (⟨((j : S512x128.Idx) 1).val, hj⟩ : Fin 64)) fun b => ?_).trans ?_
    · match b with
      | ⟨0, _⟩ => rfl
      | ⟨1, _⟩ => rfl
    refine (half m c t H 0 (by omega) tq htq (cut_ld _ _ _ _ _ rfl rfl) (cut_ld _ _ _ _ _ rfl rfl) (cut_ld _ _ _ _ _ rfl rfl) (cut_ld _ _ _ _ _ rfl rfl) (cut_ld _ _ _ _ _ rfl rfl)
      (cut_ld _ _ _ _ _ (congrFun o1 0) (congrFun o1 1)) (cut_ld _ _ _ _ _ (congrFun o1 0) (congrFun o1 1)) _ _).trans ?_
    refine result_eq m c i _ _ _ _ ?_ ?_ fun y => gates_at m c t _ _ ?_ rfl
    · show (i 1).val = 64 * (2 * win0_5.index t 1 + 0) + ((j : S512x128.Idx) 1).val; omega
    · show (i 0).val = 512 * tq.val + ((j : S512x128.Idx) 0).val; omega
    · show (i 0).val = win0_5.index t 0 * 512 + ((j : S512x128.Idx) 0).val; omega
  · refine (concatenate_pair_apply_right (s₁ := S512x64) (s₂ := S512x64) (t := S512x128) (1 : Fin 2) _ _ _ (j : S512x128.Idx) rfl rfl (ix2 (⟨((j : S512x128.Idx) 0).val, j0⟩ : Fin 512) (⟨((j : S512x128.Idx) 1).val - 64, by omega⟩ : Fin 64)) (fun b hb => ?_) ?_).trans ?_
    · match b with
      | ⟨0, _⟩ => rfl
      | ⟨1, _⟩ => exact absurd rfl hb
    · show ((j : S512x128.Idx) 1).val - 64 + 64 = ((j : S512x128.Idx) 1).val; omega
    refine (half m c t H 1 (by omega) tq htq (cut_ld _ _ _ _ _ rfl rfl) (cut_ld _ _ _ _ _ rfl rfl) (cut_ld _ _ _ _ _ rfl rfl) (cut_ld _ _ _ _ _ rfl rfl) (cut_ld _ _ _ _ _ rfl rfl)
      (cut_ld _ _ _ _ _ (congrFun o2 0) (congrFun o2 1)) (cut_ld _ _ _ _ _ (congrFun o2 0) (congrFun o2 1)) _ _).trans ?_
    refine result_eq m c i _ _ _ _ ?_ ?_ fun y => gates_at m c t _ _ ?_ rfl
    · show (i 1).val = 64 * (2 * win0_5.index t 1 + 1) + (((j : S512x128.Idx) 1).val - 64); omega
    · show (i 0).val = 512 * tq.val + ((j : S512x128.Idx) 0).val; omega
    · show (i 0).val = win0_5.index t 0 * 512 + ((j : S512x128.Idx) 0).val; omega

/-- The blocks fill the result. -/
theorem final (c : Dev nD) (H : Cert.ReferenceIdeal.Exact.Reals (m ((c : Thread nD τ).loc main_arg0)) (m ((c : Thread nD τ).loc main_arg1)) (m ((c : Thread nD τ).loc main_arg3))) :
    (dats m 0 c).arrAt 5 cfg0.N = result m c := by
  refine (dats m 0 c).arrAt_eq_of_cover 5 (result m c) (fun t _ => flushed_eq m c H t) fun (i : S2048x1024.Idx) => ?_
  have b0 : (i 0).val < 2048 := (i 0).isLt
  have b1 : (i 1).val < 1024 := (i 1).isLt
  obtain ⟨t, hf, ht0, ht1⟩ := (by decide +kernel : ∀ (a : Fin 4) (b : Fin 8), ∃ t : Fin grid0.N, (cfg0.win 5).flush t = true
    ∧ win0_5.index t 0 = a.val ∧ win0_5.index t 1 = b.val) ⟨(i 0).val / 512, by omega⟩ ⟨(i 1).val / 128, by omega⟩
  refine ⟨t, hf, ?_⟩
  show i ∈ ((View.whole main_v0).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [ht0]; dsimp only; constructor <;> omega
  | ⟨1, _⟩ => show win0_5.index t 1 * 128 ≤ (i 1).val ∧ (i 1).val < win0_5.index t 1 * 128 + 128
              rw [ht1]; dsimp only; constructor <;> omega

end Cert.KernelIdeal.Exact

namespace Cert.Proof

/-- The attention call computes the reference attention. -/
theorem attention : algebraic_KernelIdeal_ReferenceIdeal_pre_finite := by
  intro m g m' g' hp h
  have H := fun c => Cert.KernelIdeal.Exact.reals_of_pre _ _ _ _ _ (hp c)
  refine ⟨fun c => Cert.KernelIdeal.Exact.result m c, ?_, ?_⟩
  · refine (θ_run Cert.KernelIdeal.defs _ _).mono ?_ (Cert.KernelIdeal.Value.run_blocks m g)
    intro r hr c
    exact ⟨(hr c).1.trans (Cert.KernelIdeal.Exact.final m c (H c)), (hr c).2⟩
  · refine (θ_run Cert.ReferenceIdeal.defs _ _).mono ?_ (Cert.ReferenceIdeal.Value.run m' g')
    intro r hr c
    refine ⟨(hr c).1.trans ?_, (hr c).2⟩
    rw [Cert.ReferenceIdeal.Read.val_main_v125_eq]
    funext i
    obtain ⟨a0, a1, a2, a3, a4⟩ := h c
    show Cert.ReferenceIdeal.Read.val_main_v125 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) i = _
    rw [a0, a1, a2, a3, a4]
    exact Cert.ReferenceIdeal.Exact.ref_at (H c) _ _ i

end Cert.Proof

end
-- ==== Proof.lean ====
/- The claim: the frame of every program (it ends, leaves its arguments as they were, and every counter at zero), that each
   idealized program is the kernel's own, and that each call computes what its reference computes; and that the layer as the kernel
   computes it isn't the layer. The values are proved in the modules under `Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenIdeal.Value
public import proofs.«01_k».proof.Proof.Gen.HiddenRefIdeal
public import proofs.«01_k».proof.Proof.Gen.HiddenRefIdeal.Run
public import proofs.«01_k».proof.Proof.Gen.HiddenRefIdeal.Read
public import proofs.«01_k».proof.Proof.Gen.Comp
public import proofs.«01_k».proof.Proof.Gen.Comp.Frame
public import proofs.«01_k».proof.Proof.Gen.CompIdeal
public import proofs.«01_k».proof.Proof.Gen.CompIdeal.Frame
public import proofs.«01_k».proof.Proof.Gen.CompIdeal.Value
public import proofs.«01_k».proof.Proof.Gen.CompRefIdeal
public import proofs.«01_k».proof.Proof.Gen.CompRefIdeal.Run
public import proofs.«01_k».proof.Proof.Gen.CompRefIdeal.Read
public import proofs.«01_k».proof.Proof.Gen.GateHid
public import proofs.«01_k».proof.Proof.Gen.GateHid.Frame
public import proofs.«01_k».proof.Proof.Gen.GateHidIdeal
public import proofs.«01_k».proof.Proof.Gen.GateHidIdeal.Frame
public import proofs.«01_k».proof.Proof.Gen.GateHidIdeal.Value
public import proofs.«01_k».proof.Proof.Gen.GateHidRefIdeal
public import proofs.«01_k».proof.Proof.Gen.GateHidRefIdeal.Run
public import proofs.«01_k».proof.Proof.Gen.GateHidRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.ReferenceIdeal.Read
public import proofs.«01_k».proof.Proof.Gen.LayerAtIdeal
public import proofs.«01_k».proof.Proof.Gen.LayerAtIdeal.Frame
public import proofs.«01_k».proof.Proof.Gen.LayerRefAtIdeal
public import proofs.«01_k».proof.Proof.Gen.LayerRefAtIdeal.Run
public import proofs.«01_k».proof.Proof.Gen.LayerRefAtIdeal.Read
public import Idealize.ShloMosaic.Adequacy
public import Idealize.ShloMosaic.Init
public import proofs.«01_k».proof.Proof.Proj
public import proofs.«01_k».proof.Proof.Hidden
public import proofs.«01_k».proof.Proof.Comp
public import proofs.«01_k».proof.Proof.GateHid
public import proofs.«01_k».proof.Proof.Gate
public import proofs.«01_k».proof.Proof.Disproof
public import proofs.«01_k».proof.Proof.Attention

@[expose] public section

noncomputable section

namespace Cert.Proof

open Idealize.ShloMosaic Idealize.SL.Sem

/-- The frame of `ReferenceIdeal`: its run, the results left out; it has no counter. -/
theorem frame_ReferenceIdeal : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩) (Cert.ReferenceIdeal.Value.run m g)

/-- The frame of `ProjRefIdeal`: its run, the results left out; it has no counter. -/
theorem frame_ProjRefIdeal : Cert.quiescent_ProjRefIdeal (hProjRefIdeal := Cert.ProjRefIdeal.Gen.facts) := by
  intro m g _
  exact (θ_run Cert.ProjRefIdeal.defs _ _).mono (fun r h => ⟨fun c => (h c).2, sem_eq_zero_of_no_sems (by decide) r.2⟩) (Cert.ProjRefIdeal.Value.run m g)

/-- The frame of `HiddenRefIdeal`: its run, the results left out; it has no counter. -/
theorem frame_HiddenRefIdeal : Cert.quiescent_HiddenRefIdeal (hHiddenRefIdeal := Cert.HiddenRefIdeal.Gen.facts) := by
  intro m g _
  exact (θ_run Cert.HiddenRefIdeal.defs _ _).mono (fun r h => ⟨fun c => (h c).2, sem_eq_zero_of_no_sems (by decide) r.2⟩) (Cert.HiddenRefIdeal.Value.run m g)

/-- The frame of `CompRefIdeal`: its run, the results left out; it has no counter. -/
theorem frame_CompRefIdeal : Cert.quiescent_CompRefIdeal (hCompRefIdeal := Cert.CompRefIdeal.Gen.facts) := by
  intro m g _
  exact (θ_run Cert.CompRefIdeal.defs _ _).mono (fun r h => ⟨fun c => (h c).2, sem_eq_zero_of_no_sems (by decide) r.2⟩) (Cert.CompRefIdeal.Value.run m g)

/-- The frame of `GateHidRefIdeal`: its run, the results left out; it has no counter. -/
theorem frame_GateHidRefIdeal : Cert.quiescent_GateHidRefIdeal (hGateHidRefIdeal := Cert.GateHidRefIdeal.Gen.facts) := by
  intro m g _
  exact (θ_run Cert.GateHidRefIdeal.defs _ _).mono (fun r h => ⟨fun c => (h c).2, sem_eq_zero_of_no_sems (by decide) r.2⟩) (Cert.GateHidRefIdeal.Value.run m g)

/-- The frame of `GateRefIdeal`: its run, the results left out; it has no counter. -/
theorem frame_GateRefIdeal : Cert.quiescent_GateRefIdeal (hGateRefIdeal := Cert.GateRefIdeal.Gen.facts) := by
  intro m g _
  exact (θ_run Cert.GateRefIdeal.defs _ _).mono (fun r h => ⟨fun c => (h c).2, sem_eq_zero_of_no_sems (by decide) r.2⟩) (Cert.GateRefIdeal.Value.run m g)

theorem claim : Cert.Claim :=
  ⟨Cert.Kernel.Gen.facts, Cert.KernelIdeal.Gen.facts, Cert.ReferenceIdeal.Gen.facts,
    Cert.Proj.Gen.facts, Cert.ProjIdeal.Gen.facts, Cert.ProjRefIdeal.Gen.facts,
    Cert.Hidden.Gen.facts, Cert.HiddenIdeal.Gen.facts, Cert.HiddenRefIdeal.Gen.facts,
    Cert.Comp.Gen.facts, Cert.CompIdeal.Gen.facts, Cert.CompRefIdeal.Gen.facts,
    Cert.GateHid.Gen.facts, Cert.GateHidIdeal.Gen.facts, Cert.GateHidRefIdeal.Gen.facts,
    Cert.Gate.Gen.facts, Cert.GateIdeal.Gen.facts, Cert.GateRefIdeal.Gen.facts,
    Cert.LayerAtIdeal.Gen.facts, Cert.LayerRefAtIdeal.Gen.facts, Cert.Pre_finite.facts,
    fun m g _ => Cert.Kernel.Gen.frame m g, fun m g _ => Cert.KernelIdeal.Gen.frame m g, fun m g _ => Cert.KernelIdeal.Gen.frame m g, frame_ReferenceIdeal, fun m g _ => frame_ReferenceIdeal m g trivial,
    fun m g _ => Cert.Proj.Gen.frame m g, fun m g _ => Cert.ProjIdeal.Gen.frame m g, frame_ProjRefIdeal,
    fun m g _ => Cert.Hidden.Gen.frame m g, fun m g _ => Cert.HiddenIdeal.Gen.frame m g, frame_HiddenRefIdeal,
    fun m g _ => Cert.Comp.Gen.frame m g, fun m g _ => Cert.CompIdeal.Gen.frame m g, frame_CompRefIdeal,
    fun m g _ => Cert.GateHid.Gen.frame m g, fun m g _ => Cert.GateHidIdeal.Gen.frame m g, frame_GateHidRefIdeal,
    fun m g _ => Cert.Gate.Gen.frame m g, fun m g _ => Cert.GateIdeal.Gen.frame m g, frame_GateRefIdeal,
    trivial, attention,
    trivial, proj,
    trivial, hidden,
    trivial, comp,
    trivial, gateHid,
    trivial, gate,
    layerAt⟩

end Cert.Proof

end
